-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x2048x2 : Shape := ⟨3, ![8, 2048, 2]⟩
abbrev S60x42 : Shape := ⟨2, ![60, 42]⟩
abbrev S60 : Shape := ⟨1, ![60]⟩
abbrev S30x122 : Shape := ⟨2, ![30, 122]⟩
abbrev S30 : Shape := ⟨1, ![30]⟩
abbrev S60x30 : Shape := ⟨2, ![60, 30]⟩
abbrev S2x60 : Shape := ⟨2, ![2, 60]⟩
abbrev S2 : Shape := ⟨1, ![2]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel
  bcast_S_S60 : S_.BroadcastsInDim S60 (![] : Fin 0 → Fin S60.rank)
  reducesTo_S60_S_d0 : S60.ReducesTo [0] S_
  bcast_S_S60x42 : S_.BroadcastsInDim S60x42 (![] : Fin 0 → Fin S60x42.rank)
  reducesTo_S60x42_S_d0_1 : S60x42.ReducesTo [0, 1] S_
  bcast_S_S30x122 : S_.BroadcastsInDim S30x122 (![] : Fin 0 → Fin S30x122.rank)
  reducesTo_S30x122_S_d0_1 : S30x122.ReducesTo [0, 1] S_
  bcast_S_S30 : S_.BroadcastsInDim S30 (![] : Fin 0 → Fin S30.rank)
  reducesTo_S30_S_d0 : S30.ReducesTo [0] S_
  bcast_S_S60x30 : S_.BroadcastsInDim S60x30 (![] : Fin 0 → Fin S60x30.rank)
  reducesTo_S60x30_S_d0_1 : S60x30.ReducesTo [0, 1] S_

variable [Facts]

def fn_part4 {F : FTy → Type} [FloatOps F] (main_arg13 : FVec F S60 .f32) (main_v67 : IVec S_ 1) : IVec S_ 1 :=
  let main_v68 : FVec F S60 .f32 := Host.absf main_arg13
  let main_cst_26 : FVec F S_ .f32 := constant S_ .f32 0x7F800000#32
  let main_v69 : FVec F S60 .f32 := broadcastInDim S60 ![] bcast_S_S60 main_cst_26
  let main_v70 : IVec S60 1 := cmpf .olt main_v68 main_v69
  let main_c_27 : IVec S_ 1 := constantI S_ 1 1#1
  let main_v71 : IVec S_ 1 := (fun x v => Host.reduce IntOp.andi x v reducesTo_S60_S_d0 h_S_) main_v70 main_c_27
  let main_v72 : IVec S_ 1 := andi main_v67 main_v71
  main_v72

def fn_part3 {F : FTy → Type} [FloatOps F] (main_arg10 : FVec F S60 .f32) (main_arg11 : FVec F S60 .f32) (main_arg12 : FVec F S60 .f32) (main_arg13 : FVec F S60 .f32) (main_v47 : IVec S_ 1) (main_v50 : IVec S60x30 1) : IVec S_ 1 :=
  let main_c_19 : IVec S_ 1 := constantI S_ 1 1#1
  let main_v51 : IVec S_ 1 := (fun x v => Host.reduce IntOp.andi x v reducesTo_S60x30_S_d0_1 h_S_) main_v50 main_c_19
  let main_v52 : IVec S_ 1 := andi main_v47 main_v51
  let main_v53 : FVec F S60 .f32 := Host.absf main_arg10
  let main_cst_20 : FVec F S_ .f32 := constant S_ .f32 0x7F800000#32
  let main_v54 : FVec F S60 .f32 := broadcastInDim S60 ![] bcast_S_S60 main_cst_20
  let main_v55 : IVec S60 1 := cmpf .olt main_v53 main_v54
  let main_c_21 : IVec S_ 1 := constantI S_ 1 1#1
  let main_v56 : IVec S_ 1 := (fun x v => Host.reduce IntOp.andi x v reducesTo_S60_S_d0 h_S_) main_v55 main_c_21
  let main_v57 : IVec S_ 1 := andi main_v52 main_v56
  let main_v58 : FVec F S60 .f32 := Host.absf main_arg11
  let main_cst_22 : FVec F S_ .f32 := constant S_ .f32 0x7F800000#32
  let main_v59 : FVec F S60 .f32 := broadcastInDim S60 ![] bcast_S_S60 main_cst_22
  let main_v60 : IVec S60 1 := cmpf .olt main_v58 main_v59
  let main_c_23 : IVec S_ 1 := constantI S_ 1 1#1
  let main_v61 : IVec S_ 1 := (fun x v => Host.reduce IntOp.andi x v reducesTo_S60_S_d0 h_S_) main_v60 main_c_23
  let main_v62 : IVec S_ 1 := andi main_v57 main_v61
  let main_v63 : FVec F S60 .f32 := Host.absf main_arg12
  let main_cst_24 : FVec F S_ .f32 := constant S_ .f32 0x7F800000#32
  let main_v64 : FVec F S60 .f32 := broadcastInDim S60 ![] bcast_S_S60 main_cst_24
  let main_v65 : IVec S60 1 := cmpf .olt main_v63 main_v64
  let main_c_25 : IVec S_ 1 := constantI S_ 1 1#1
  let main_v66 : IVec S_ 1 := (fun x v => Host.reduce IntOp.andi x v reducesTo_S60_S_d0 h_S_) main_v65 main_c_25
  let main_v67 : IVec S_ 1 := andi main_v62 main_v66
  fn_part4 (F := F) main_arg13 main_v67

def fn_part2 {F : FTy → Type} [FloatOps F] (main_arg7 : FVec F S30 .f32) (main_arg8 : FVec F S30 .f32) (main_arg9 : FVec F S60x30 .f32) (main_arg10 : FVec F S60 .f32) (main_arg11 : FVec F S60 .f32) (main_arg12 : FVec F S60 .f32) (main_arg13 : FVec F S60 .f32) (main_v32 : IVec S_ 1) (main_v33 : FVec F S30 .f32) : IVec S_ 1 :=
  let main_cst_12 : FVec F S_ .f32 := constant S_ .f32 0x7F800000#32
  let main_v34 : FVec F S30 .f32 := broadcastInDim S30 ![] bcast_S_S30 main_cst_12
  let main_v35 : IVec S30 1 := cmpf .olt main_v33 main_v34
  let main_c_13 : IVec S_ 1 := constantI S_ 1 1#1
  let main_v36 : IVec S_ 1 := (fun x v => Host.reduce IntOp.andi x v reducesTo_S30_S_d0 h_S_) main_v35 main_c_13
  let main_v37 : IVec S_ 1 := andi main_v32 main_v36
  let main_v38 : FVec F S30 .f32 := Host.absf main_arg7
  let main_cst_14 : FVec F S_ .f32 := constant S_ .f32 0x7F800000#32
  let main_v39 : FVec F S30 .f32 := broadcastInDim S30 ![] bcast_S_S30 main_cst_14
  let main_v40 : IVec S30 1 := cmpf .olt main_v38 main_v39
  let main_c_15 : IVec S_ 1 := constantI S_ 1 1#1
  let main_v41 : IVec S_ 1 := (fun x v => Host.reduce IntOp.andi x v reducesTo_S30_S_d0 h_S_) main_v40 main_c_15
  let main_v42 : IVec S_ 1 := andi main_v37 main_v41
  let main_v43 : FVec F S30 .f32 := Host.absf main_arg8
  let main_cst_16 : FVec F S_ .f32 := constant S_ .f32 0x7F800000#32
  let main_v44 : FVec F S30 .f32 := broadcastInDim S30 ![] bcast_S_S30 main_cst_16
  let main_v45 : IVec S30 1 := cmpf .olt main_v43 main_v44
  let main_c_17 : IVec S_ 1 := constantI S_ 1 1#1
  let main_v46 : IVec S_ 1 := (fun x v => Host.reduce IntOp.andi x v reducesTo_S30_S_d0 h_S_) main_v45 main_c_17
  let main_v47 : IVec S_ 1 := andi main_v42 main_v46
  let main_v48 : FVec F S60x30 .f32 := Host.absf main_arg9
  let main_cst_18 : FVec F S_ .f32 := constant S_ .f32 0x7F800000#32
  let main_v49 : FVec F S60x30 .f32 := broadcastInDim S60x30 ![] bcast_S_S60x30 main_cst_18
  let main_v50 : IVec S60x30 1 := cmpf .olt main_v48 main_v49
  fn_part3 (F := F) main_arg10 main_arg11 main_arg12 main_arg13 main_v47 main_v50

def fn_part1 {F : FTy → Type} [FloatOps F] (main_arg3 : FVec F S60 .f32) (main_arg4 : FVec F S60 .f32) (main_arg5 : FVec F S30x122 .f32) (main_arg6 : FVec F S30 .f32) (main_arg7 : FVec F S30 .f32) (main_arg8 : FVec F S30 .f32) (main_arg9 : FVec F S60x30 .f32) (main_arg10 : FVec F S60 .f32) (main_arg11 : FVec F S60 .f32) (main_arg12 : FVec F S60 .f32) (main_arg13 : FVec F S60 .f32) (main_v12 : IVec S_ 1) (main_v15 : IVec S60 1) (main_c_5 : IVec S_ 1) : IVec S_ 1 :=
  let main_v16 : IVec S_ 1 := (fun x v => Host.reduce IntOp.andi x v reducesTo_S60_S_d0 h_S_) main_v15 main_c_5
  let main_v17 : IVec S_ 1 := andi main_v12 main_v16
  let main_v18 : FVec F S60 .f32 := Host.absf main_arg3
  let main_cst_6 : FVec F S_ .f32 := constant S_ .f32 0x7F800000#32
  let main_v19 : FVec F S60 .f32 := broadcastInDim S60 ![] bcast_S_S60 main_cst_6
  let main_v20 : IVec S60 1 := cmpf .olt main_v18 main_v19
  let main_c_7 : IVec S_ 1 := constantI S_ 1 1#1
  let main_v21 : IVec S_ 1 := (fun x v => Host.reduce IntOp.andi x v reducesTo_S60_S_d0 h_S_) main_v20 main_c_7
  let main_v22 : IVec S_ 1 := andi main_v17 main_v21
  let main_v23 : FVec F S60 .f32 := Host.absf main_arg4
  let main_cst_8 : FVec F S_ .f32 := constant S_ .f32 0x7F800000#32
  let main_v24 : FVec F S60 .f32 := broadcastInDim S60 ![] bcast_S_S60 main_cst_8
  let main_v25 : IVec S60 1 := cmpf .olt main_v23 main_v24
  let main_c_9 : IVec S_ 1 := constantI S_ 1 1#1
  let main_v26 : IVec S_ 1 := (fun x v => Host.reduce IntOp.andi x v reducesTo_S60_S_d0 h_S_) main_v25 main_c_9
  let main_v27 : IVec S_ 1 := andi main_v22 main_v26
  let main_v28 : FVec F S30x122 .f32 := Host.absf main_arg5
  let main_cst_10 : FVec F S_ .f32 := constant S_ .f32 0x7F800000#32
  let main_v29 : FVec F S30x122 .f32 := broadcastInDim S30x122 ![] bcast_S_S30x122 main_cst_10
  let main_v30 : IVec S30x122 1 := cmpf .olt main_v28 main_v29
  let main_c_11 : IVec S_ 1 := constantI S_ 1 1#1
  let main_v31 : IVec S_ 1 := (fun x v => Host.reduce IntOp.andi x v reducesTo_S30x122_S_d0_1 h_S_) main_v30 main_c_11
  let main_v32 : IVec S_ 1 := andi main_v27 main_v31
  let main_v33 : FVec F S30 .f32 := Host.absf main_arg6
  fn_part2 (F := F) main_arg7 main_arg8 main_arg9 main_arg10 main_arg11 main_arg12 main_arg13 main_v32 main_v33

def fn {F : FTy → Type} [FloatOps F] (main_arg0 : FVec F S8x2048x2 .f32) (main_arg1 : FVec F S60x42 .f32) (main_arg2 : FVec F S60 .f32) (main_arg3 : FVec F S60 .f32) (main_arg4 : FVec F S60 .f32) (main_arg5 : FVec F S30x122 .f32) (main_arg6 : FVec F S30 .f32) (main_arg7 : FVec F S30 .f32) (main_arg8 : FVec F S30 .f32) (main_arg9 : FVec F S60x30 .f32) (main_arg10 : FVec F S60 .f32) (main_arg11 : FVec F S60 .f32) (main_arg12 : FVec F S60 .f32) (main_arg13 : FVec F S60 .f32) (main_arg14 : FVec F S60 .f32) (main_arg15 : FVec F S2x60 .f32) (main_arg16 : FVec F S2 .f32) : IVec S_ 1 :=
  let main_v0 : FVec F S8x2048x2 .f32 := Host.absf main_arg0
  let main_cst : FVec F S_ .f32 := constant S_ .f32 0x455AC000#32
  let main_v1 : FVec F S8x2048x2 .f32 := broadcastInDim S8x2048x2 ![] bcast_S_S8x2048x2 main_cst
  let main_v2 : IVec S8x2048x2 1 := cmpf .ole main_v0 main_v1
  let main_c : IVec S_ 1 := constantI S_ 1 1#1
  let main_v3 : IVec S_ 1 := (fun x v => Host.reduce IntOp.andi x v reducesTo_S8x2048x2_S_d0_1_2 h_S_) main_v2 main_c
  let main_cst_0 : FVec F S_ .f32 := constant S_ .f32 0x00000000#32
  let main_v4 : FVec F S60 .f32 := broadcastInDim S60 ![] bcast_S_S60 main_cst_0
  let main_v5 : IVec S60 1 := cmpf .oge main_arg3 main_v4
  let main_c_1 : IVec S_ 1 := constantI S_ 1 1#1
  let main_v6 : IVec S_ 1 := (fun x v => Host.reduce IntOp.andi x v reducesTo_S60_S_d0 h_S_) main_v5 main_c_1
  let main_v7 : IVec S_ 1 := andi main_v3 main_v6
  let main_v8 : FVec F S60x42 .f32 := Host.absf main_arg1
  let main_cst_2 : FVec F S_ .f32 := constant S_ .f32 0x7F800000#32
  let main_v9 : FVec F S60x42 .f32 := broadcastInDim S60x42 ![] bcast_S_S60x42 main_cst_2
  let main_v10 : IVec S60x42 1 := cmpf .olt main_v8 main_v9
  let main_c_3 : IVec S_ 1 := constantI S_ 1 1#1
  let main_v11 : IVec S_ 1 := (fun x v => Host.reduce IntOp.andi x v reducesTo_S60x42_S_d0_1 h_S_) main_v10 main_c_3
  let main_v12 : IVec S_ 1 := andi main_v7 main_v11
  let main_v13 : FVec F S60 .f32 := Host.absf main_arg2
  let main_cst_4 : FVec F S_ .f32 := constant S_ .f32 0x7F800000#32
  let main_v14 : FVec F S60 .f32 := broadcastInDim S60 ![] bcast_S_S60 main_cst_4
  let main_v15 : IVec S60 1 := cmpf .olt main_v13 main_v14
  let main_c_5 : IVec S_ 1 := constantI S_ 1 1#1
  fn_part1 (F := F) main_arg3 main_arg4 main_arg5 main_arg6 main_arg7 main_arg8 main_arg9 main_arg10 main_arg11 main_arg12 main_arg13 main_v12 main_v15 main_c_5
-- ==== Kernel.lean ====
abbrev S8x2048x2 : Shape := ⟨3, ![8, 2048, 2]⟩
abbrev S60x42 : Shape := ⟨2, ![60, 42]⟩
abbrev S60 : Shape := ⟨1, ![60]⟩
abbrev S30x122 : Shape := ⟨2, ![30, 122]⟩
abbrev S30 : Shape := ⟨1, ![30]⟩
abbrev S60x30 : Shape := ⟨2, ![60, 30]⟩
abbrev S2x60 : Shape := ⟨2, ![2, 60]⟩
abbrev S2 : Shape := ⟨1, ![2]⟩
abbrev S16384x2 : Shape := ⟨2, ![16384, 2]⟩
abbrev S20 : Shape := ⟨1, ![20]⟩
abbrev S_ : Shape := ⟨0, ![]⟩
abbrev S20x1 : Shape := ⟨2, ![20, 1]⟩
abbrev S1x2 : Shape := ⟨2, ![1, 2]⟩
abbrev S20x2 : Shape := ⟨2, ![20, 2]⟩
abbrev S42 : Shape := ⟨1, ![42]⟩
abbrev S42x60 : Shape := ⟨2, ![42, 60]⟩
abbrev S42x1 : Shape := ⟨2, ![42, 1]⟩
abbrev S122x30 : Shape := ⟨2, ![122, 30]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4x4 : Shape := ⟨2, ![4, 4]⟩
abbrev S30x60 : Shape := ⟨2, ![30, 60]⟩
abbrev S4x1x4x1 : Shape := ⟨4, ![4, 1, 4, 1]⟩
abbrev S1x30x1x60 : Shape := ⟨4, ![1, 30, 1, 60]⟩
abbrev S4x30x4x60 : Shape := ⟨4, ![4, 30, 4, 60]⟩
abbrev S120x240 : Shape := ⟨2, ![120, 240]⟩
abbrev S2x30 : Shape := ⟨2, ![2, 30]⟩
abbrev S1x2x1x30 : Shape := ⟨4, ![1, 2, 1, 30]⟩
abbrev S1x2x4x30 : Shape := ⟨4, ![1, 2, 4, 30]⟩
abbrev S2x120 : Shape := ⟨2, ![2, 120]⟩
abbrev S1x60 : Shape := ⟨2, ![1, 60]⟩
abbrev S1x1x1x60 : Shape := ⟨4, ![1, 1, 1, 60]⟩
abbrev S1x1x4x60 : Shape := ⟨4, ![1, 1, 4, 60]⟩
abbrev S1x240 : Shape := ⟨2, ![1, 240]⟩
abbrev S1x30 : Shape := ⟨2, ![1, 30]⟩
abbrev S60x2 : Shape := ⟨2, ![60, 2]⟩
abbrev S16384x60 : Shape := ⟨2, ![16384, 60]⟩
abbrev S8x30 : Shape := ⟨2, ![8, 30]⟩
abbrev S32x30 : Shape := ⟨2, ![32, 30]⟩
abbrev S8x60 : Shape := ⟨2, ![8, 60]⟩
abbrev S32x60 : Shape := ⟨2, ![32, 60]⟩
abbrev S8x120 : Shape := ⟨2, ![8, 120]⟩
abbrev S1x120 : Shape := ⟨2, ![1, 120]⟩
abbrev S2048x2 : Shape := ⟨2, ![2048, 2]⟩
abbrev S20x2048 : Shape := ⟨2, ![20, 2048]⟩
abbrev S2048x60 : Shape := ⟨2, ![2048, 60]⟩
abbrev S20x60 : Shape := ⟨2, ![20, 60]⟩
abbrev S2048x30 : Shape := ⟨2, ![2048, 30]⟩
abbrev S1x2048 : Shape := ⟨2, ![1, 2048]⟩
abbrev S8x1 : Shape := ⟨2, ![8, 1]⟩
abbrev S8x32 : Shape := ⟨2, ![8, 32]⟩
abbrev S2048x120 : Shape := ⟨2, ![2048, 120]⟩
abbrev S120 : Shape := ⟨1, ![120]⟩
abbrev S2048x240 : Shape := ⟨2, ![2048, 240]⟩
abbrev S240 : Shape := ⟨1, ![240]⟩

abbrev nBuf : Space → Nat
  | .hbm => 171
  | .vmem => 35
  | .smem => 0
  | _ => 0

abbrev hbmTy0_0 (i : Nat) : BufTy := match i % 128 with
  | 0 => ⟨S8x2048x2, .f32⟩
  | 1 => ⟨S60x42, .f32⟩
  | 2 => ⟨S60, .f32⟩
  | 3 => ⟨S60, .f32⟩
  | 4 => ⟨S60, .f32⟩
  | 5 => ⟨S30x122, .f32⟩
  | 6 => ⟨S30, .f32⟩
  | 7 => ⟨S30, .f32⟩
  | 8 => ⟨S30, .f32⟩
  | 9 => ⟨S60x30, .f32⟩
  | 10 => ⟨S60, .f32⟩
  | 11 => ⟨S60, .f32⟩
  | 12 => ⟨S60, .f32⟩
  | 13 => ⟨S60, .f32⟩
  | 14 => ⟨S60, .f32⟩
  | 15 => ⟨S2x60, .f32⟩
  | 16 => ⟨S2, .f32⟩
  | 17 => ⟨S16384x2, .f32⟩
  | 18 => ⟨S20, .i32⟩
  | 19 => ⟨S_, .i32⟩
  | 20 => ⟨S_, .i32⟩
  | 21 => ⟨S20, .i32⟩
  | 22 => ⟨S20, .i32⟩
  | 23 => ⟨S20, .i32⟩
  | 24 => ⟨S_, .i32⟩
  | 25 => ⟨S20, .i32⟩
  | 26 => ⟨S20, .i1⟩
  | 27 => ⟨S20, .i32⟩
  | 28 => ⟨S20, .i32⟩
  | 29 => ⟨S_, .i32⟩
  | 30 => ⟨S20, .i32⟩
  | 31 => ⟨S20, .i1⟩
  | 32 => ⟨S20, .i1⟩
  | 33 => ⟨S_, .i32⟩
  | 34 => ⟨S20, .i32⟩
  | 35 => ⟨S20, .i32⟩
  | 36 => ⟨S20, .i32⟩
  | 37 => ⟨S20, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S20, .i32⟩
  | 45 => ⟨S20, .i32⟩
  | 46 => ⟨S_, .i32⟩
  | 47 => ⟨S20, .i32⟩
  | 48 => ⟨S20, .i1⟩
  | 49 => ⟨S_, .i32⟩
  | 50 => ⟨S20, .i32⟩
  | 51 => ⟨S20, .i1⟩
  | 52 => ⟨S_, .i32⟩
  | 53 => ⟨S_, .i1⟩
  | 54 => ⟨S20, .i1⟩
  | 55 => ⟨S20, .i1⟩
  | 56 => ⟨S20, .i1⟩
  | 57 => ⟨S20, .i32⟩
  | 58 => ⟨S20, .i32⟩
  | 59 => ⟨S20, .i32⟩
  | 60 => ⟨S20x1, .i32⟩
  | 61 => ⟨S2, .i32⟩
  | 62 => ⟨S1x2, .i32⟩
  | 63 => ⟨S20x2, .i32⟩
  | 64 => ⟨S20x2, .i32⟩
  | 65 => ⟨S20x2, .i1⟩
  | 66 => ⟨S20, .f32⟩
  | 67 => ⟨S_, .f32⟩
  | 68 => ⟨S20, .f32⟩
  | 69 => ⟨S20, .f32⟩
  | 70 => ⟨S20, .f32⟩
  | 71 => ⟨S20x1, .f32⟩
  | 72 => ⟨S_, .f32⟩
  | 73 => ⟨S_, .f32⟩
  | 74 => ⟨S20x2, .f32⟩
  | 75 => ⟨S20x2, .f32⟩
  | 76 => ⟨S20x2, .f32⟩
  | 77 => ⟨S2, .i32⟩
  | 78 => ⟨S_, .i32⟩
  | 79 => ⟨S20, .i32⟩
  | 80 => ⟨S20, .i32⟩
  | 81 => ⟨S_, .i32⟩
  | 82 => ⟨S20, .i32⟩
  | 83 => ⟨S20, .i32⟩
  | 84 => ⟨S20, .i32⟩
  | 85 => ⟨S_, .i32⟩
  | 86 => ⟨S20, .i32⟩
  | 87 => ⟨S20, .i32⟩
  | 88 => ⟨S_, .i32⟩
  | 89 => ⟨S20, .i32⟩
  | 90 => ⟨S20, .i32⟩
  | 91 => ⟨S20, .i32⟩
  | 92 => ⟨S42, .i32⟩
  | 93 => ⟨S42x60, .f32⟩
  | 94 => ⟨S_, .i32⟩
  | 95 => ⟨S42, .i32⟩
  | 96 => ⟨S42, .i1⟩
  | 97 => ⟨S_, .i32⟩
  | 98 => ⟨S42, .i32⟩
  | 99 => ⟨S42, .i32⟩
  | 100 => ⟨S42, .i32⟩
  | 101 => ⟨S42x1, .i32⟩
  | 102 => ⟨S42x60, .f32⟩
  | 103 => ⟨S42x60, .bf16⟩
  | 104 => ⟨S122x30, .f32⟩
  | 105 => ⟨S122x30, .bf16⟩
  | 106 => ⟨S32, .i32⟩
  | 107 => ⟨S32x1, .i32⟩
  | 108 => ⟨S_, .i32⟩
  | 109 => ⟨S_, .i32⟩
  | 110 => ⟨S32x1, .i32⟩
  | 111 => ⟨S32x1, .i32⟩
  | 112 => ⟨S32x1, .i32⟩
  | 113 => ⟨S_, .i32⟩
  | 114 => ⟨S32x1, .i32⟩
  | 115 => ⟨S32x1, .i1⟩
  | 116 => ⟨S32x1, .i32⟩
  | 117 => ⟨S32x1, .i32⟩
  | 118 => ⟨S_, .i32⟩
  | 119 => ⟨S32x1, .i32⟩
  | 120 => ⟨S32x1, .i1⟩
  | 121 => ⟨S32x1, .i1⟩
  | 122 => ⟨S_, .i32⟩
  | 123 => ⟨S32x1, .i32⟩
  | 124 => ⟨S32x1, .i32⟩
  | 125 => ⟨S32x1, .i32⟩
  | 126 => ⟨S8, .i32⟩
  | 127 => ⟨S1x8, .i32⟩
  | _ => ⟨S8x2048x2, .f32⟩

abbrev hbmTy0_1 (i : Nat) : BufTy := match i % 128 with
  | 0 => ⟨S32x8, .i32⟩
  | 1 => ⟨S32x8, .i32⟩
  | 2 => ⟨S32x8, .i1⟩
  | 3 => ⟨S32x8, .f32⟩
  | 4 => ⟨S4x4, .i32⟩
  | 5 => ⟨S4x4, .i32⟩
  | 6 => ⟨S_, .i32⟩
  | 7 => ⟨S4x4, .i32⟩
  | 8 => ⟨S4x4, .i32⟩
  | 9 => ⟨S4x4, .i1⟩
  | 10 => ⟨S4x4, .f32⟩
  | 11 => ⟨S30x60, .f32⟩
  | 12 => ⟨S4x1x4x1, .f32⟩
  | 13 => ⟨S1x30x1x60, .f32⟩
  | 14 => ⟨S4x30x4x60, .f32⟩
  | 15 => ⟨S4x30x4x60, .f32⟩
  | 16 => ⟨S4x30x4x60, .f32⟩
  | 17 => ⟨S120x240, .f32⟩
  | 18 => ⟨S120x240, .bf16⟩
  | 19 => ⟨S122x30, .f32⟩
  | 20 => ⟨S2x30, .f32⟩
  | 21 => ⟨S2x30, .bf16⟩
  | 22 => ⟨S1x2x1x30, .bf16⟩
  | 23 => ⟨S1x2x4x30, .bf16⟩
  | 24 => ⟨S2x120, .bf16⟩
  | 25 => ⟨S1x60, .f32⟩
  | 26 => ⟨S1x1x1x60, .f32⟩
  | 27 => ⟨S1x1x4x60, .f32⟩
  | 28 => ⟨S1x240, .f32⟩
  | 29 => ⟨S1x60, .f32⟩
  | 30 => ⟨S1x60, .f32⟩
  | 31 => ⟨S1x60, .f32⟩
  | 32 => ⟨S1x30, .f32⟩
  | 33 => ⟨S1x30, .f32⟩
  | 34 => ⟨S1x30, .f32⟩
  | 35 => ⟨S1x60, .f32⟩
  | 36 => ⟨S1x60, .f32⟩
  | 37 => ⟨S1x60, .f32⟩
  | 38 => ⟨S1x60, .f32⟩
  | 39 => ⟨S60x2, .f32⟩
  | 40 => ⟨S60x2, .bf16⟩
  | 41 => ⟨S1x2, .f32⟩
  | 42 => ⟨S16384x2, .f32⟩
  | _ => ⟨S8x2048x2, .f32⟩

abbrev hbmTy (i : Nat) : BufTy := match i / 128 with
  | 0 => hbmTy0_0 i
  | 1 => hbmTy0_1 i
  | _ => ⟨S8x2048x2, .f32⟩

abbrev bufTy : (tb : Table) → Fin (tcTables nBuf tb) → BufTy
  | .hbm, ⟨i, _⟩ => hbmTy i
  | .local _ .vmem, ⟨0, _⟩ => ⟨S16384x2, .f32⟩
  | .local _ .vmem, ⟨1, _⟩ => ⟨S20x2, .f32⟩
  | .local _ .vmem, ⟨2, _⟩ => ⟨S42x60, .bf16⟩
  | .local _ .vmem, ⟨3, _⟩ => ⟨S1x60, .f32⟩
  | .local _ .vmem, ⟨4, _⟩ => ⟨S122x30, .bf16⟩
  | .local _ .vmem, ⟨5, _⟩ => ⟨S1x60, .f32⟩
  | .local _ .vmem, ⟨6, _⟩ => ⟨S1x60, .f32⟩
  | .local _ .vmem, ⟨7, _⟩ => ⟨S1x30, .f32⟩
  | .local _ .vmem, ⟨8, _⟩ => ⟨S1x30, .f32⟩
  | .local _ .vmem, ⟨9, _⟩ => ⟨S1x30, .f32⟩
  | .local _ .vmem, ⟨10, _⟩ => ⟨S32x8, .f32⟩
  | .local _ .vmem, ⟨11, _⟩ => ⟨S120x240, .bf16⟩
  | .local _ .vmem, ⟨12, _⟩ => ⟨S2x120, .bf16⟩
  | .local _ .vmem, ⟨13, _⟩ => ⟨S1x240, .f32⟩
  | .local _ .vmem, ⟨14, _⟩ => ⟨S1x60, .f32⟩
  | .local _ .vmem, ⟨15, _⟩ => ⟨S1x60, .f32⟩
  | .local _ .vmem, ⟨16, _⟩ => ⟨S1x60, .f32⟩
  | .local _ .vmem, ⟨17, _⟩ => ⟨S1x60, .f32⟩
  | .local _ .vmem, ⟨18, _⟩ => ⟨S60x2, .bf16⟩
  | .local _ .vmem, ⟨19, _⟩ => ⟨S1x2, .f32⟩
  | .local _ .vmem, ⟨20, _⟩ => ⟨S16384x2, .f32⟩
  | .local _ .vmem, ⟨21, _⟩ => ⟨S16384x60, .f32⟩
  | .local _ .vmem, ⟨22, _⟩ => ⟨S1x60, .f32⟩
  | .local _ .vmem, ⟨23, _⟩ => ⟨S1x60, .f32⟩
  | .local _ .vmem, ⟨24, _⟩ => ⟨S8x30, .f32⟩
  | .local _ .vmem, ⟨25, _⟩ => ⟨S8x30, .f32⟩
  | .local _ .vmem, ⟨26, _⟩ => ⟨S32x30, .f32⟩
  | .local _ .vmem, ⟨27, _⟩ => ⟨S8x60, .f32⟩
  | .local _ .vmem, ⟨28, _⟩ => ⟨S32x60, .f32⟩
  | .local _ .vmem, ⟨29, _⟩ => ⟨S8x120, .f32⟩
  | .local _ .vmem, ⟨30, _⟩ => ⟨S1x120, .f32⟩
  | .local _ .vmem, ⟨31, _⟩ => ⟨S1x60, .f32⟩
  | .local _ .vmem, ⟨32, _⟩ => ⟨S1x60, .f32⟩
  | .local _ .vmem, ⟨33, _⟩ => ⟨S1x60, .f32⟩
  | .local _ .vmem, ⟨34, _⟩ => ⟨S1x60, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v2 : Ref sig .tc := ⟨.hbm, 36, rfl⟩
abbrev main_v3 : Ref sig .tc := ⟨.hbm, 37, rfl⟩
abbrev main_c_0 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v16 : Ref sig .tc := ⟨.hbm, 76, rfl⟩
abbrev main_v17 : Ref sig .tc := ⟨.hbm, 77, rfl⟩
abbrev main_c_2 : Ref sig .tc := ⟨.hbm, 78, rfl⟩
abbrev main_v18 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_4 : Ref sig .tc := ⟨.hbm, 85, rfl⟩
abbrev main_v23 : Ref sig .tc := ⟨.hbm, 86, rfl⟩
abbrev main_v24 : Ref sig .tc := ⟨.hbm, 87, rfl⟩
abbrev main_c_5 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_c_6 : Ref sig .tc := ⟨.hbm, 94, rfl⟩
abbrev main_v30 : Ref sig .tc := ⟨.hbm, 95, rfl⟩
abbrev main_v31 : Ref sig .tc := ⟨.hbm, 96, rfl⟩
abbrev main_c_7 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_c_8 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_c : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_0 : Ref sig .tc := ⟨.hbm, 122, rfl⟩
abbrev main_call3_v12 : Ref sig .tc := ⟨.hbm, 123, rfl⟩
abbrev main_call3_v13 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_c_9 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_6 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_6
  let c2048_i32 : BitVec 32 := 2048#32
  let v17 : BitVec 32 := Scalar.muli v16 c2048_i32
  let v18 : Index := Scalar.indexCast v17
  let c0 : Index := 0#32
  ![v18.toNat, 0]
def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) (c0_i32_6 : BitVec 32) : Fin 2 → Nat :=
  let c4_i32 : BitVec 32 := 4#32
  let arg1 : BitVec 32 := BitVec.ofNat 32 (i 1).val
  let v15 : BitVec 32 := Scalar.muli c4_i32 arg1
  let v16 : BitVec 32 := Scalar.addi v15 c0_i32_6
  let c2048_i32 : BitVec 32 := 2048#32
  let v17 : BitVec 32 := Scalar.muli v16 c2048_i32
  let v18 : Index := Scalar.indexCast v17
  let c0 : Index := 0#32
  ![v18.toNat, 0]
def k0_cond5 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_off3 (i : grid0.Coords) (c0_i32_15 : BitVec 32) : Fin 2 → Nat :=
  let c4_i32 : BitVec 32 := 4#32
  let arg1 : BitVec 32 := BitVec.ofNat 32 (i 1).val
  let v35 : BitVec 32 := Scalar.muli c4_i32 arg1
  let v36 : BitVec 32 := Scalar.addi v35 c0_i32_15
  let c2048_i32 : BitVec 32 := 2048#32
  let v37 : BitVec 32 := Scalar.muli v36 c2048_i32
  let v38 : Index := Scalar.indexCast v37
  let c0_16 : Index := 0#32
  ![v38.toNat, 0]
def k0_off4 (i : grid0.Coords) (c0_i32_15 : BitVec 32) : Fin 2 → Nat :=
  let c4_i32 : BitVec 32 := 4#32
  let arg1 : BitVec 32 := BitVec.ofNat 32 (i 1).val
  let v35 : BitVec 32 := Scalar.muli c4_i32 arg1
  let v36 : BitVec 32 := Scalar.addi v35 c0_i32_15
  let c2048_i32 : BitVec 32 := 2048#32
  let v37 : BitVec 32 := Scalar.muli v36 c2048_i32
  let v83 : Index := Scalar.indexCast v37
  let c0_32 : Index := 0#32
  ![v83.toNat, 0]
def k0_cond7 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_off5 (i : grid0.Coords) (c0_i32_13 : BitVec 32) : Fin 2 → Nat :=
  let c4_i32 : BitVec 32 := 4#32
  let arg1 : BitVec 32 := BitVec.ofNat 32 (i 1).val
  let v30 : BitVec 32 := Scalar.muli c4_i32 arg1
  let v31 : BitVec 32 := Scalar.addi v30 c0_i32_13
  let c2048_i32 : BitVec 32 := 2048#32
  let v32 : BitVec 32 := Scalar.muli v31 c2048_i32
  let v33 : Index := Scalar.indexCast v32
  let c0_14 : Index := 0#32
  ![v33.toNat, 0]
def k0_off6 (i : grid0.Coords) (c0_i32_13 : BitVec 32) : Fin 2 → Nat :=
  let c4_i32 : BitVec 32 := 4#32
  let arg1 : BitVec 32 := BitVec.ofNat 32 (i 1).val
  let v30 : BitVec 32 := Scalar.muli c4_i32 arg1
  let v31 : BitVec 32 := Scalar.addi v30 c0_i32_13
  let c2048_i32 : BitVec 32 := 2048#32
  let v32 : BitVec 32 := Scalar.muli v31 c2048_i32
  let v49 : Index := Scalar.indexCast v32
  let c0_21 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S20x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S42x60 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S122x30 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x60 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S120x240 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x240 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x60 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x60 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x60 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x60 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S60x2 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S16384x2 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== ReferenceIdeal.lean ====
abbrev S8x2048x2 : Shape := ⟨3, ![8, 2048, 2]⟩
abbrev S60x42 : Shape := ⟨2, ![60, 42]⟩
abbrev S60 : Shape := ⟨1, ![60]⟩
abbrev S30x122 : Shape := ⟨2, ![30, 122]⟩
abbrev S30 : Shape := ⟨1, ![30]⟩
abbrev S60x30 : Shape := ⟨2, ![60, 30]⟩
abbrev S2x60 : Shape := ⟨2, ![2, 60]⟩
abbrev S2 : Shape := ⟨1, ![2]⟩
abbrev S10 : Shape := ⟨1, ![10]⟩
abbrev S_ : Shape := ⟨0, ![]⟩
abbrev S1 : Shape := ⟨1, ![1]⟩
abbrev S8x2048x32 : Shape := ⟨3, ![8, 2048, 32]⟩
abbrev S8x2048x10 : Shape := ⟨3, ![8, 2048, 10]⟩
abbrev S8x2048x42 : Shape := ⟨3, ![8, 2048, 42]⟩
abbrev S42x60 : Shape := ⟨2, ![42, 60]⟩
abbrev S8x2048x60 : Shape := ⟨3, ![8, 2048, 60]⟩
abbrev S1x1x60 : Shape := ⟨3, ![1, 1, 60]⟩
abbrev S8x60x2048 : Shape := ⟨3, ![8, 60, 2048]⟩
abbrev S1x60x1 : Shape := ⟨3, ![1, 60, 1]⟩
abbrev S8x60 : Shape := ⟨2, ![8, 60]⟩
abbrev S8x1x60 : Shape := ⟨3, ![8, 1, 60]⟩
abbrev S8x2048x120 : Shape := ⟨3, ![8, 2048, 120]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S2048 : Shape := ⟨1, ![2048]⟩
abbrev S1x1x2048 : Shape := ⟨3, ![1, 1, 2048]⟩
abbrev S8x2048x4 : Shape := ⟨3, ![8, 2048, 4]⟩
abbrev S8x2048x4x1 : Shape := ⟨4, ![8, 2048, 4, 1]⟩
abbrev S8x2048x4x2 : Shape := ⟨4, ![8, 2048, 4, 2]⟩
abbrev S8x2048x1x2 : Shape := ⟨4, ![8, 2048, 1, 2]⟩
abbrev S8x2048x4x120 : Shape := ⟨4, ![8, 2048, 4, 120]⟩
abbrev S8x2048x4x122 : Shape := ⟨4, ![8, 2048, 4, 122]⟩
abbrev S8x122x4x2048 : Shape := ⟨4, ![8, 122, 4, 2048]⟩
abbrev S30x8x4x2048 : Shape := ⟨4, ![30, 8, 4, 2048]⟩
abbrev S8x30x4x2048 : Shape := ⟨4, ![8, 30, 4, 2048]⟩
abbrev S1x30x1x1 : Shape := ⟨4, ![1, 30, 1, 1]⟩
abbrev S60x8x4x2048 : Shape := ⟨4, ![60, 8, 4, 2048]⟩
abbrev S8x60x4x2048 : Shape := ⟨4, ![8, 60, 4, 2048]⟩
abbrev S1x60x1x1 : Shape := ⟨4, ![1, 60, 1, 1]⟩
abbrev S60x2 : Shape := ⟨2, ![60, 2]⟩
abbrev S1x1x2 : Shape := ⟨3, ![1, 1, 2]⟩
abbrev S16384x2 : Shape := ⟨2, ![16384, 2]⟩

abbrev nBuf : Space → Nat
  | .hbm => 403
  | .vmem => 0
  | .smem => 0
  | _ => 0

abbrev hbmTy0_0 (i : Nat) : BufTy := match i % 128 with
  | 0 => ⟨S8x2048x2, .f32⟩
  | 1 => ⟨S60x42, .f32⟩
  | 2 => ⟨S60, .f32⟩
  | 3 => ⟨S60, .f32⟩
  | 4 => ⟨S60, .f32⟩
  | 5 => ⟨S30x122, .f32⟩
  | 6 => ⟨S30, .f32⟩
  | 7 => ⟨S30, .f32⟩
  | 8 => ⟨S30, .f32⟩
  | 9 => ⟨S60x30, .f32⟩
  | 10 => ⟨S60, .f32⟩
  | 11 => ⟨S60, .f32⟩
  | 12 => ⟨S60, .f32⟩
  | 13 => ⟨S60, .f32⟩
  | 14 => ⟨S60, .f32⟩
  | 15 => ⟨S2x60, .f32⟩
  | 16 => ⟨S2, .f32⟩
  | 17 => ⟨S10, .f32⟩
  | 18 => ⟨S_, .f32⟩
  | 19 => ⟨S10, .f32⟩
  | 20 => ⟨S10, .f32⟩
  | 21 => ⟨S1, .f32⟩
  | 22 => ⟨S_, .f32⟩
  | 23 => ⟨S8x2048x2, .f32⟩
  | 24 => ⟨S8x2048x2, .f32⟩
  | 25 => ⟨S8x2048x2, .f32⟩
  | 26 => ⟨S1, .f32⟩
  | 27 => ⟨S_, .f32⟩
  | 28 => ⟨S8x2048x2, .f32⟩
  | 29 => ⟨S8x2048x2, .f32⟩
  | 30 => ⟨S8x2048x2, .f32⟩
  | 31 => ⟨S1, .f32⟩
  | 32 => ⟨S_, .f32⟩
  | 33 => ⟨S8x2048x2, .f32⟩
  | 34 => ⟨S8x2048x2, .f32⟩
  | 35 => ⟨S8x2048x2, .f32⟩
  | 36 => ⟨S1, .f32⟩
  | 37 => ⟨S_, .f32⟩
  | 38 => ⟨S8x2048x2, .f32⟩
  | 39 => ⟨S8x2048x2, .f32⟩
  | 40 => ⟨S8x2048x2, .f32⟩
  | 41 => ⟨S1, .f32⟩
  | 42 => ⟨S_, .f32⟩
  | 43 => ⟨S8x2048x2, .f32⟩
  | 44 => ⟨S8x2048x2, .f32⟩
  | 45 => ⟨S8x2048x2, .f32⟩
  | 46 => ⟨S1, .f32⟩
  | 47 => ⟨S_, .f32⟩
  | 48 => ⟨S8x2048x2, .f32⟩
  | 49 => ⟨S8x2048x2, .f32⟩
  | 50 => ⟨S8x2048x2, .f32⟩
  | 51 => ⟨S1, .f32⟩
  | 52 => ⟨S_, .f32⟩
  | 53 => ⟨S8x2048x2, .f32⟩
  | 54 => ⟨S8x2048x2, .f32⟩
  | 55 => ⟨S8x2048x2, .f32⟩
  | 56 => ⟨S1, .f32⟩
  | 57 => ⟨S_, .f32⟩
  | 58 => ⟨S8x2048x2, .f32⟩
  | 59 => ⟨S8x2048x2, .f32⟩
  | 60 => ⟨S8x2048x2, .f32⟩
  | 61 => ⟨S1, .f32⟩
  | 62 => ⟨S_, .f32⟩
  | 63 => ⟨S8x2048x2, .f32⟩
  | 64 => ⟨S8x2048x2, .f32⟩
  | 65 => ⟨S8x2048x2, .f32⟩
  | 66 => ⟨S1, .f32⟩
  | 67 => ⟨S_, .f32⟩
  | 68 => ⟨S8x2048x2, .f32⟩
  | 69 => ⟨S8x2048x2, .f32⟩
  | 70 => ⟨S8x2048x2, .f32⟩
  | 71 => ⟨S1, .f32⟩
  | 72 => ⟨S_, .f32⟩
  | 73 => ⟨S8x2048x2, .f32⟩
  | 74 => ⟨S8x2048x2, .f32⟩
  | 75 => ⟨S8x2048x2, .f32⟩
  | 76 => ⟨S1, .f32⟩
  | 77 => ⟨S_, .f32⟩
  | 78 => ⟨S8x2048x2, .f32⟩
  | 79 => ⟨S8x2048x2, .f32⟩
  | 80 => ⟨S8x2048x2, .f32⟩
  | 81 => ⟨S1, .f32⟩
  | 82 => ⟨S_, .f32⟩
  | 83 => ⟨S8x2048x2, .f32⟩
  | 84 => ⟨S8x2048x2, .f32⟩
  | 85 => ⟨S8x2048x2, .f32⟩
  | 86 => ⟨S1, .f32⟩
  | 87 => ⟨S_, .f32⟩
  | 88 => ⟨S8x2048x2, .f32⟩
  | 89 => ⟨S8x2048x2, .f32⟩
  | 90 => ⟨S8x2048x2, .f32⟩
  | 91 => ⟨S1, .f32⟩
  | 92 => ⟨S_, .f32⟩
  | 93 => ⟨S8x2048x2, .f32⟩
  | 94 => ⟨S8x2048x2, .f32⟩
  | 95 => ⟨S8x2048x2, .f32⟩
  | 96 => ⟨S1, .f32⟩
  | 97 => ⟨S_, .f32⟩
  | 98 => ⟨S8x2048x2, .f32⟩
  | 99 => ⟨S8x2048x2, .f32⟩
  | 100 => ⟨S8x2048x2, .f32⟩
  | 101 => ⟨S1, .f32⟩
  | 102 => ⟨S_, .f32⟩
  | 103 => ⟨S8x2048x2, .f32⟩
  | 104 => ⟨S8x2048x2, .f32⟩
  | 105 => ⟨S8x2048x2, .f32⟩
  | 106 => ⟨S1, .f32⟩
  | 107 => ⟨S_, .f32⟩
  | 108 => ⟨S8x2048x2, .f32⟩
  | 109 => ⟨S8x2048x2, .f32⟩
  | 110 => ⟨S8x2048x2, .f32⟩
  | 111 => ⟨S1, .f32⟩
  | 112 => ⟨S_, .f32⟩
  | 113 => ⟨S8x2048x2, .f32⟩
  | 114 => ⟨S8x2048x2, .f32⟩
  | 115 => ⟨S8x2048x2, .f32⟩
  | 116 => ⟨S1, .f32⟩
  | 117 => ⟨S_, .f32⟩
  | 118 => ⟨S8x2048x2, .f32⟩
  | 119 => ⟨S8x2048x2, .f32⟩
  | 120 => ⟨S8x2048x2, .f32⟩
  | 121 => ⟨S8x2048x32, .f32⟩
  | 122 => ⟨S8x2048x10, .f32⟩
  | 123 => ⟨S8x2048x42, .f32⟩
  | 124 => ⟨S42x60, .f32⟩
  | 125 => ⟨S8x2048x60, .f32⟩
  | 126 => ⟨S1x1x60, .f32⟩
  | 127 => ⟨S8x2048x60, .f32⟩
  | _ => ⟨S8x2048x2, .f32⟩

abbrev hbmTy0_1 (i : Nat) : BufTy := match i % 128 with
  | 0 => ⟨S8x2048x60, .f32⟩
  | 1 => ⟨S_, .f32⟩
  | 2 => ⟨S8x2048x60, .f32⟩
  | 3 => ⟨S8x2048x60, .f32⟩
  | 4 => ⟨S8x60x2048, .f32⟩
  | 5 => ⟨S_, .f32⟩
  | 6 => ⟨S60, .f32⟩
  | 7 => ⟨S1x60x1, .f32⟩
  | 8 => ⟨S_, .f32⟩
  | 9 => ⟨S1x60x1, .f32⟩
  | 10 => ⟨S1x60x1, .f32⟩
  | 11 => ⟨S_, .i32⟩
  | 12 => ⟨S_, .f32⟩
  | 13 => ⟨S60, .f32⟩
  | 14 => ⟨S1x60x1, .f32⟩
  | 15 => ⟨S_, .f32⟩
  | 16 => ⟨S1x60x1, .f32⟩
  | 17 => ⟨S1x60x1, .f32⟩
  | 18 => ⟨S8x60x2048, .f32⟩
  | 19 => ⟨S8x60x2048, .f32⟩
  | 20 => ⟨S8x60x2048, .f32⟩
  | 21 => ⟨S_, .f32⟩
  | 22 => ⟨S_, .f32⟩
  | 23 => ⟨S_, .f32⟩
  | 24 => ⟨S_, .f32⟩
  | 25 => ⟨S60, .f32⟩
  | 26 => ⟨S1x60x1, .f32⟩
  | 27 => ⟨S1x60x1, .f32⟩
  | 28 => ⟨S1x60x1, .f32⟩
  | 29 => ⟨S_, .f32⟩
  | 30 => ⟨S_, .i1⟩
  | 31 => ⟨S_, .f32⟩
  | 32 => ⟨S_, .f32⟩
  | 33 => ⟨S1x60x1, .f32⟩
  | 34 => ⟨S1x60x1, .f32⟩
  | 35 => ⟨S8x60x2048, .f32⟩
  | 36 => ⟨S8x60x2048, .f32⟩
  | 37 => ⟨S_, .f32⟩
  | 38 => ⟨S1x60x1, .f32⟩
  | 39 => ⟨S1x60x1, .f32⟩
  | 40 => ⟨S1x60x1, .f32⟩
  | 41 => ⟨S8x60x2048, .f32⟩
  | 42 => ⟨S8x60x2048, .f32⟩
  | 43 => ⟨S1x60x1, .f32⟩
  | 44 => ⟨S8x60x2048, .f32⟩
  | 45 => ⟨S8x60x2048, .f32⟩
  | 46 => ⟨S1x60x1, .f32⟩
  | 47 => ⟨S8x60x2048, .f32⟩
  | 48 => ⟨S8x60x2048, .f32⟩
  | 49 => ⟨S8x2048x60, .f32⟩
  | 50 => ⟨S_, .f32⟩
  | 51 => ⟨S8x2048x60, .f32⟩
  | 52 => ⟨S8x2048x60, .f32⟩
  | 53 => ⟨S_, .f32⟩
  | 54 => ⟨S8x60, .f32⟩
  | 55 => ⟨S8x1x60, .f32⟩
  | 56 => ⟨S8x2048x60, .f32⟩
  | 57 => ⟨S8x2048x120, .f32⟩
  | 58 => ⟨S8x2048x2, .f32⟩
  | 59 => ⟨S_, .f32⟩
  | 60 => ⟨S8x2048, .f32⟩
  | 61 => ⟨S8x2048x1, .f32⟩
  | 62 => ⟨S8x2048x2, .f32⟩
  | 63 => ⟨S_, .f32⟩
  | 64 => ⟨S8x2048, .f32⟩
  | 65 => ⟨S8x1x2048, .f32⟩
  | 66 => ⟨S8x2048x2048, .f32⟩
  | 67 => ⟨S8x2048x2048, .f32⟩
  | 68 => ⟨S8x2048x2048, .f32⟩
  | 69 => ⟨S8x2048x2048, .f32⟩
  | 70 => ⟨S_, .f32⟩
  | 71 => ⟨S8x2048x2048, .f32⟩
  | 72 => ⟨S8x2048x2048, .f32⟩
  | 73 => ⟨S8x2048x2048, .f32⟩
  | 74 => ⟨S2048, .i32⟩
  | 75 => ⟨S1x1x2048, .i32⟩
  | 76 => ⟨S8x2048x2048, .i32⟩
  | 77 => ⟨S_, .f32⟩
  | 78 => ⟨S8x2048x2048, .f32⟩
  | 79 => ⟨S8x2048x2048, .i1⟩
  | 80 => ⟨S_, .i32⟩
  | 81 => ⟨S_, .i32⟩
  | 82 => ⟨S8x2048x2048, .i32⟩
  | 83 => ⟨S8x2048x2048, .i32⟩
  | 84 => ⟨S8x2048x2048, .i32⟩
  | 85 => ⟨S8x2048x4, .i32⟩
  | 86 => ⟨S8x2048x1, .i32⟩
  | 87 => ⟨S_, .i32⟩
  | 88 => ⟨S8x2048x4, .i32⟩
  | 89 => ⟨S8x2048x4, .i1⟩
  | 90 => ⟨S8x2048x4, .i32⟩
  | 91 => ⟨S8x2048x4, .i32⟩
  | 92 => ⟨S_, .i32⟩
  | 93 => ⟨S8x2048x4, .i32⟩
  | 94 => ⟨S8x2048x4, .i1⟩
  | 95 => ⟨S_, .i32⟩
  | 96 => ⟨S8x2048x4, .i32⟩
  | 97 => ⟨S8x2048x4, .i32⟩
  | 98 => ⟨S8x2048x4, .i32⟩
  | 99 => ⟨S8x2048x4x1, .i32⟩
  | 100 => ⟨S8x2048x4x2, .f32⟩
  | 101 => ⟨S8x2048x1x2, .f32⟩
  | 102 => ⟨S8x2048x4x2, .f32⟩
  | 103 => ⟨S8x2048x4x2, .f32⟩
  | 104 => ⟨S_, .i32⟩
  | 105 => ⟨S8x2048x4, .i32⟩
  | 106 => ⟨S8x2048x4, .i1⟩
  | 107 => ⟨S_, .i32⟩
  | 108 => ⟨S8x2048x4, .i32⟩
  | 109 => ⟨S8x2048x4, .i32⟩
  | 110 => ⟨S8x2048x4, .i32⟩
  | 111 => ⟨S8x2048x4x1, .i32⟩
  | 112 => ⟨S8x2048x4x120, .f32⟩
  | 113 => ⟨S8x2048x4x122, .f32⟩
  | 114 => ⟨S8x122x4x2048, .f32⟩
  | 115 => ⟨S30x8x4x2048, .f32⟩
  | 116 => ⟨S8x30x4x2048, .f32⟩
  | 117 => ⟨S1x30x1x1, .f32⟩
  | 118 => ⟨S8x30x4x2048, .f32⟩
  | 119 => ⟨S8x30x4x2048, .f32⟩
  | 120 => ⟨S_, .f32⟩
  | 121 => ⟨S30, .f32⟩
  | 122 => ⟨S1x30x1x1, .f32⟩
  | 123 => ⟨S_, .f32⟩
  | 124 => ⟨S1x30x1x1, .f32⟩
  | 125 => ⟨S1x30x1x1, .f32⟩
  | 126 => ⟨S_, .i32⟩
  | 127 => ⟨S_, .f32⟩
  | _ => ⟨S8x2048x2, .f32⟩

abbrev hbmTy0_2 (i : Nat) : BufTy := match i % 128 with
  | 0 => ⟨S30, .f32⟩
  | 1 => ⟨S1x30x1x1, .f32⟩
  | 2 => ⟨S_, .f32⟩
  | 3 => ⟨S1x30x1x1, .f32⟩
  | 4 => ⟨S1x30x1x1, .f32⟩
  | 5 => ⟨S8x30x4x2048, .f32⟩
  | 6 => ⟨S8x30x4x2048, .f32⟩
  | 7 => ⟨S8x30x4x2048, .f32⟩
  | 8 => ⟨S_, .f32⟩
  | 9 => ⟨S_, .f32⟩
  | 10 => ⟨S_, .f32⟩
  | 11 => ⟨S_, .f32⟩
  | 12 => ⟨S30, .f32⟩
  | 13 => ⟨S1x30x1x1, .f32⟩
  | 14 => ⟨S1x30x1x1, .f32⟩
  | 15 => ⟨S1x30x1x1, .f32⟩
  | 16 => ⟨S_, .f32⟩
  | 17 => ⟨S_, .i1⟩
  | 18 => ⟨S_, .f32⟩
  | 19 => ⟨S_, .f32⟩
  | 20 => ⟨S1x30x1x1, .f32⟩
  | 21 => ⟨S1x30x1x1, .f32⟩
  | 22 => ⟨S8x30x4x2048, .f32⟩
  | 23 => ⟨S8x30x4x2048, .f32⟩
  | 24 => ⟨S_, .f32⟩
  | 25 => ⟨S1x30x1x1, .f32⟩
  | 26 => ⟨S1x30x1x1, .f32⟩
  | 27 => ⟨S1x30x1x1, .f32⟩
  | 28 => ⟨S8x30x4x2048, .f32⟩
  | 29 => ⟨S8x30x4x2048, .f32⟩
  | 30 => ⟨S1x30x1x1, .f32⟩
  | 31 => ⟨S8x30x4x2048, .f32⟩
  | 32 => ⟨S8x30x4x2048, .f32⟩
  | 33 => ⟨S1x30x1x1, .f32⟩
  | 34 => ⟨S8x30x4x2048, .f32⟩
  | 35 => ⟨S8x30x4x2048, .f32⟩
  | 36 => ⟨S_, .f32⟩
  | 37 => ⟨S8x30x4x2048, .f32⟩
  | 38 => ⟨S8x30x4x2048, .f32⟩
  | 39 => ⟨S60x8x4x2048, .f32⟩
  | 40 => ⟨S8x60x4x2048, .f32⟩
  | 41 => ⟨S1x60x1x1, .f32⟩
  | 42 => ⟨S8x60x4x2048, .f32⟩
  | 43 => ⟨S8x60x4x2048, .f32⟩
  | 44 => ⟨S_, .f32⟩
  | 45 => ⟨S60, .f32⟩
  | 46 => ⟨S1x60x1x1, .f32⟩
  | 47 => ⟨S_, .f32⟩
  | 48 => ⟨S1x60x1x1, .f32⟩
  | 49 => ⟨S1x60x1x1, .f32⟩
  | 50 => ⟨S_, .i32⟩
  | 51 => ⟨S_, .f32⟩
  | 52 => ⟨S60, .f32⟩
  | 53 => ⟨S1x60x1x1, .f32⟩
  | 54 => ⟨S_, .f32⟩
  | 55 => ⟨S1x60x1x1, .f32⟩
  | 56 => ⟨S1x60x1x1, .f32⟩
  | 57 => ⟨S8x60x4x2048, .f32⟩
  | 58 => ⟨S8x60x4x2048, .f32⟩
  | 59 => ⟨S8x60x4x2048, .f32⟩
  | 60 => ⟨S_, .f32⟩
  | 61 => ⟨S_, .f32⟩
  | 62 => ⟨S_, .f32⟩
  | 63 => ⟨S_, .f32⟩
  | 64 => ⟨S60, .f32⟩
  | 65 => ⟨S1x60x1x1, .f32⟩
  | 66 => ⟨S1x60x1x1, .f32⟩
  | 67 => ⟨S1x60x1x1, .f32⟩
  | 68 => ⟨S_, .f32⟩
  | 69 => ⟨S_, .i1⟩
  | 70 => ⟨S_, .f32⟩
  | 71 => ⟨S_, .f32⟩
  | 72 => ⟨S1x60x1x1, .f32⟩
  | 73 => ⟨S1x60x1x1, .f32⟩
  | 74 => ⟨S8x60x4x2048, .f32⟩
  | 75 => ⟨S8x60x4x2048, .f32⟩
  | 76 => ⟨S_, .f32⟩
  | 77 => ⟨S1x60x1x1, .f32⟩
  | 78 => ⟨S1x60x1x1, .f32⟩
  | 79 => ⟨S1x60x1x1, .f32⟩
  | 80 => ⟨S8x60x4x2048, .f32⟩
  | 81 => ⟨S8x60x4x2048, .f32⟩
  | 82 => ⟨S1x60x1x1, .f32⟩
  | 83 => ⟨S8x60x4x2048, .f32⟩
  | 84 => ⟨S8x60x4x2048, .f32⟩
  | 85 => ⟨S1x60x1x1, .f32⟩
  | 86 => ⟨S8x60x4x2048, .f32⟩
  | 87 => ⟨S8x60x4x2048, .f32⟩
  | 88 => ⟨S_, .f32⟩
  | 89 => ⟨S8x60x4x2048, .f32⟩
  | 90 => ⟨S8x60x4x2048, .f32⟩
  | 91 => ⟨S_, .f32⟩
  | 92 => ⟨S8x60x2048, .f32⟩
  | 93 => ⟨S_, .f32⟩
  | 94 => ⟨S60, .f32⟩
  | 95 => ⟨S1x60x1, .f32⟩
  | 96 => ⟨S_, .f32⟩
  | 97 => ⟨S1x60x1, .f32⟩
  | 98 => ⟨S1x60x1, .f32⟩
  | 99 => ⟨S_, .i32⟩
  | 100 => ⟨S_, .f32⟩
  | 101 => ⟨S60, .f32⟩
  | 102 => ⟨S1x60x1, .f32⟩
  | 103 => ⟨S_, .f32⟩
  | 104 => ⟨S1x60x1, .f32⟩
  | 105 => ⟨S1x60x1, .f32⟩
  | 106 => ⟨S8x60x2048, .f32⟩
  | 107 => ⟨S8x60x2048, .f32⟩
  | 108 => ⟨S8x60x2048, .f32⟩
  | 109 => ⟨S_, .f32⟩
  | 110 => ⟨S_, .f32⟩
  | 111 => ⟨S_, .f32⟩
  | 112 => ⟨S_, .f32⟩
  | 113 => ⟨S60, .f32⟩
  | 114 => ⟨S1x60x1, .f32⟩
  | 115 => ⟨S1x60x1, .f32⟩
  | 116 => ⟨S1x60x1, .f32⟩
  | 117 => ⟨S_, .f32⟩
  | 118 => ⟨S_, .i1⟩
  | 119 => ⟨S_, .f32⟩
  | 120 => ⟨S_, .f32⟩
  | 121 => ⟨S1x60x1, .f32⟩
  | 122 => ⟨S1x60x1, .f32⟩
  | 123 => ⟨S8x60x2048, .f32⟩
  | 124 => ⟨S8x60x2048, .f32⟩
  | 125 => ⟨S_, .f32⟩
  | 126 => ⟨S1x60x1, .f32⟩
  | 127 => ⟨S1x60x1, .f32⟩
  | _ => ⟨S8x2048x2, .f32⟩

abbrev hbmTy0_3 (i : Nat) : BufTy := match i % 128 with
  | 0 => ⟨S1x60x1, .f32⟩
  | 1 => ⟨S8x60x2048, .f32⟩
  | 2 => ⟨S8x60x2048, .f32⟩
  | 3 => ⟨S1x60x1, .f32⟩
  | 4 => ⟨S8x60x2048, .f32⟩
  | 5 => ⟨S8x60x2048, .f32⟩
  | 6 => ⟨S1x60x1, .f32⟩
  | 7 => ⟨S8x60x2048, .f32⟩
  | 8 => ⟨S8x60x2048, .f32⟩
  | 9 => ⟨S8x2048x60, .f32⟩
  | 10 => ⟨S_, .f32⟩
  | 11 => ⟨S8x2048x60, .f32⟩
  | 12 => ⟨S8x2048x60, .f32⟩
  | 13 => ⟨S60x2, .f32⟩
  | 14 => ⟨S8x2048x2, .f32⟩
  | 15 => ⟨S1x1x2, .f32⟩
  | 16 => ⟨S8x2048x2, .f32⟩
  | 17 => ⟨S8x2048x2, .f32⟩
  | 18 => ⟨S16384x2, .f32⟩
  | _ => ⟨S8x2048x2, .f32⟩

abbrev hbmTy (i : Nat) : BufTy := match i / 128 with
  | 0 => hbmTy0_0 i
  | 1 => hbmTy0_1 i
  | 2 => hbmTy0_2 i
  | 3 => hbmTy0_3 i
  | _ => ⟨S8x2048x2, .f32⟩

abbrev bufTy : (tb : Table) → Fin (tcTables nBuf tb) → BufTy
  | .hbm, ⟨i, _⟩ => hbmTy i
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_call0_cst : Ref sig .tc := ⟨.hbm, 129, rfl⟩
abbrev main_call0_v0 : Ref sig .tc := ⟨.hbm, 130, rfl⟩
abbrev main_v111 : Ref sig .tc := ⟨.hbm, 131, rfl⟩
abbrev main_v112 : Ref sig .tc := ⟨.hbm, 132, rfl⟩
abbrev main_cst_0 : Ref sig .tc := ⟨.hbm, 133, rfl⟩
abbrev main_v113 : Ref sig .tc := ⟨.hbm, 134, rfl⟩
abbrev main_v114 : Ref sig .tc := ⟨.hbm, 135, rfl⟩
abbrev main_cst_1 : Ref sig .tc := ⟨.hbm, 136, rfl⟩
abbrev main_v115 : Ref sig .tc := ⟨.hbm, 137, rfl⟩
abbrev main_v116 : Ref sig .tc := ⟨.hbm, 138, rfl⟩
abbrev main_c : Ref sig .tc := ⟨.hbm, 139, rfl⟩
abbrev main_call1_cst : Ref sig .tc := ⟨.hbm, 140, rfl⟩
abbrev main_call1_v0 : Ref sig .tc := ⟨.hbm, 141, rfl⟩
abbrev main_call1_v1 : Ref sig .tc := ⟨.hbm, 142, rfl⟩
abbrev main_call1_cst_0 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_cst_1 : Ref sig .tc := ⟨.hbm, 150, rfl⟩
abbrev main_call1_v8 : Ref sig .tc := ⟨.hbm, 151, rfl⟩
abbrev main_call1_cst_2 : Ref sig .tc := ⟨.hbm, 152, rfl⟩
abbrev main_call1_v9 : Ref sig .tc := ⟨.hbm, 153, rfl⟩
abbrev main_call1_v10 : Ref sig .tc := ⟨.hbm, 154, rfl⟩
abbrev main_call1_v11 : Ref sig .tc := ⟨.hbm, 155, rfl⟩
abbrev main_call1_v12 : Ref sig .tc := ⟨.hbm, 156, rfl⟩
abbrev main_call1_cst_3 : Ref sig .tc := ⟨.hbm, 157, rfl⟩
abbrev main_call1_v13 : Ref sig .tc := ⟨.hbm, 158, rfl⟩
abbrev main_call1_cst_4 : Ref sig .tc := ⟨.hbm, 159, rfl⟩
abbrev main_call1_call0_v0 : Ref sig .tc := ⟨.hbm, 160, rfl⟩
abbrev main_call1_call0_v1 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_2 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call2_cst : Ref sig .tc := ⟨.hbm, 178, rfl⟩
abbrev main_call2_v0 : Ref sig .tc := ⟨.hbm, 179, rfl⟩
abbrev main_v132 : Ref sig .tc := ⟨.hbm, 180, rfl⟩
abbrev main_cst_3 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_4 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_5 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_6 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_7 : Ref sig .tc := ⟨.hbm, 205, rfl⟩
abbrev main_v153 : Ref sig .tc := ⟨.hbm, 206, rfl⟩
abbrev main_v154 : Ref sig .tc := ⟨.hbm, 207, rfl⟩
abbrev main_c_8 : Ref sig .tc := ⟨.hbm, 208, rfl⟩
abbrev main_call3_v0 : Ref sig .tc := ⟨.hbm, 209, rfl⟩
abbrev main_call3_v1 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_9 : Ref sig .tc := ⟨.hbm, 215, rfl⟩
abbrev main_v159 : Ref sig .tc := ⟨.hbm, 216, rfl⟩
abbrev main_v160 : Ref sig .tc := ⟨.hbm, 217, rfl⟩
abbrev main_call5_v0 : Ref sig .tc := ⟨.hbm, 218, rfl⟩
abbrev main_v161 : Ref sig .tc := ⟨.hbm, 219, rfl⟩
abbrev main_c_10 : Ref sig .tc := ⟨.hbm, 220, rfl⟩
abbrev main_v162 : Ref sig .tc := ⟨.hbm, 221, rfl⟩
abbrev main_v163 : Ref sig .tc := ⟨.hbm, 222, rfl⟩
abbrev main_c_11 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_12 : Ref sig .tc := ⟨.hbm, 232, rfl⟩
abbrev main_v172 : Ref sig .tc := ⟨.hbm, 233, rfl⟩
abbrev main_v173 : Ref sig .tc := ⟨.hbm, 234, rfl⟩
abbrev main_c_13 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_14 : Ref sig .tc := ⟨.hbm, 248, rfl⟩
abbrev main_v186 : Ref sig .tc := ⟨.hbm, 249, rfl⟩
abbrev main_v187 : Ref sig .tc := ⟨.hbm, 250, rfl⟩
abbrev main_cst_15 : Ref sig .tc := ⟨.hbm, 251, rfl⟩
abbrev main_v188 : Ref sig .tc := ⟨.hbm, 252, rfl⟩
abbrev main_v189 : Ref sig .tc := ⟨.hbm, 253, rfl⟩
abbrev main_c_16 : Ref sig .tc := ⟨.hbm, 254, rfl⟩
abbrev main_call6_cst : Ref sig .tc := ⟨.hbm, 255, rfl⟩
abbrev main_call6_v0 : Ref sig .tc := ⟨.hbm, 256, rfl⟩
abbrev main_call6_v1 : Ref sig .tc := ⟨.hbm, 257, rfl⟩
abbrev main_call6_cst_0 : Ref sig .tc := ⟨.hbm, 258, rfl⟩
abbrev main_call6_v2 : Ref sig .tc := ⟨.hbm, 259, rfl⟩
abbrev main_call6_v3 : Ref sig .tc := ⟨.hbm, 260, rfl⟩
abbrev main_call6_v4 : Ref sig .tc := ⟨.hbm, 261, rfl⟩
abbrev main_call6_v5 : Ref sig .tc := ⟨.hbm, 262, rfl⟩
abbrev main_call6_v6 : Ref sig .tc := ⟨.hbm, 263, rfl⟩
abbrev main_call6_v7 : Ref sig .tc := ⟨.hbm, 264, rfl⟩
abbrev main_call6_cst_1 : Ref sig .tc := ⟨.hbm, 265, rfl⟩
abbrev main_call6_v8 : Ref sig .tc := ⟨.hbm, 266, rfl⟩
abbrev main_call6_cst_2 : Ref sig .tc := ⟨.hbm, 267, rfl⟩
abbrev main_call6_v9 : Ref sig .tc := ⟨.hbm, 268, rfl⟩
abbrev main_call6_v10 : Ref sig .tc := ⟨.hbm, 269, rfl⟩
abbrev main_call6_v11 : Ref sig .tc := ⟨.hbm, 270, rfl⟩
abbrev main_call6_v12 : Ref sig .tc := ⟨.hbm, 271, rfl⟩
abbrev main_call6_cst_3 : Ref sig .tc := ⟨.hbm, 272, rfl⟩
abbrev main_call6_v13 : Ref sig .tc := ⟨.hbm, 273, rfl⟩
abbrev main_call6_cst_4 : Ref sig .tc := ⟨.hbm, 274, rfl⟩
abbrev main_call6_call0_v0 : Ref sig .tc := ⟨.hbm, 275, rfl⟩
abbrev main_call6_call0_v1 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_cst_17 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_call7_cst : Ref sig .tc := ⟨.hbm, 292, rfl⟩
abbrev main_call7_v0 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_cst_18 : Ref sig .tc := ⟨.hbm, 300, rfl⟩
abbrev main_v210 : Ref sig .tc := ⟨.hbm, 301, rfl⟩
abbrev main_v211 : Ref sig .tc := ⟨.hbm, 302, rfl⟩
abbrev main_cst_19 : Ref sig .tc := ⟨.hbm, 303, rfl⟩
abbrev main_v212 : Ref sig .tc := ⟨.hbm, 304, rfl⟩
abbrev main_v213 : Ref sig .tc := ⟨.hbm, 305, rfl⟩
abbrev main_c_20 : Ref sig .tc := ⟨.hbm, 306, rfl⟩
abbrev main_call8_cst : Ref sig .tc := ⟨.hbm, 307, rfl⟩
abbrev main_call8_v0 : Ref sig .tc := ⟨.hbm, 308, rfl⟩
abbrev main_call8_v1 : Ref sig .tc := ⟨.hbm, 309, rfl⟩
abbrev main_call8_cst_0 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_call8_v5 : Ref sig .tc := ⟨.hbm, 314, rfl⟩
abbrev main_call8_v6 : Ref sig .tc := ⟨.hbm, 315, rfl⟩
abbrev main_call8_v7 : Ref sig .tc := ⟨.hbm, 316, rfl⟩
abbrev main_call8_cst_1 : Ref sig .tc := ⟨.hbm, 317, rfl⟩
abbrev main_call8_v8 : Ref sig .tc := ⟨.hbm, 318, rfl⟩
abbrev main_call8_cst_2 : Ref sig .tc := ⟨.hbm, 319, rfl⟩
abbrev main_call8_v9 : Ref sig .tc := ⟨.hbm, 320, rfl⟩
abbrev main_call8_v10 : Ref sig .tc := ⟨.hbm, 321, rfl⟩
abbrev main_call8_v11 : Ref sig .tc := ⟨.hbm, 322, rfl⟩
abbrev main_call8_v12 : Ref sig .tc := ⟨.hbm, 323, rfl⟩
abbrev main_call8_cst_3 : Ref sig .tc := ⟨.hbm, 324, rfl⟩
abbrev main_call8_v13 : Ref sig .tc := ⟨.hbm, 325, rfl⟩
abbrev main_call8_cst_4 : Ref sig .tc := ⟨.hbm, 326, rfl⟩
abbrev main_call8_call0_v0 : Ref sig .tc := ⟨.hbm, 327, rfl⟩
abbrev main_call8_call0_v1 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_cst_21 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_call9_cst : Ref sig .tc := ⟨.hbm, 344, rfl⟩
abbrev main_call9_v0 : Ref sig .tc := ⟨.hbm, 345, rfl⟩
abbrev main_v228 : Ref sig .tc := ⟨.hbm, 346, rfl⟩
abbrev main_cst_22 : Ref sig .tc := ⟨.hbm, 347, rfl⟩
abbrev main_v229 : Ref sig .tc := ⟨.hbm, 348, rfl⟩
abbrev main_cst_23 : Ref sig .tc := ⟨.hbm, 349, rfl⟩
abbrev main_v230 : Ref sig .tc := ⟨.hbm, 350, rfl⟩
abbrev main_v231 : Ref sig .tc := ⟨.hbm, 351, rfl⟩
abbrev main_cst_24 : Ref sig .tc := ⟨.hbm, 352, rfl⟩
abbrev main_v232 : Ref sig .tc := ⟨.hbm, 353, rfl⟩
abbrev main_v233 : Ref sig .tc := ⟨.hbm, 354, rfl⟩
abbrev main_c_25 : Ref sig .tc := ⟨.hbm, 355, rfl⟩
abbrev main_call10_cst : Ref sig .tc := ⟨.hbm, 356, rfl⟩
abbrev main_call10_v0 : Ref sig .tc := ⟨.hbm, 357, rfl⟩
abbrev main_call10_v1 : Ref sig .tc := ⟨.hbm, 358, rfl⟩
abbrev main_call10_cst_0 : Ref sig .tc := ⟨.hbm, 359, rfl⟩
abbrev main_call10_v2 : Ref sig .tc := ⟨.hbm, 360, rfl⟩
abbrev main_call10_v3 : Ref sig .tc := ⟨.hbm, 361, rfl⟩
abbrev main_call10_v4 : Ref sig .tc := ⟨.hbm, 362, rfl⟩
abbrev main_call10_v5 : Ref sig .tc := ⟨.hbm, 363, rfl⟩
abbrev main_call10_v6 : Ref sig .tc := ⟨.hbm, 364, rfl⟩
abbrev main_call10_v7 : Ref sig .tc := ⟨.hbm, 365, rfl⟩
abbrev main_call10_cst_1 : Ref sig .tc := ⟨.hbm, 366, rfl⟩
abbrev main_call10_v8 : Ref sig .tc := ⟨.hbm, 367, rfl⟩
abbrev main_call10_cst_2 : Ref sig .tc := ⟨.hbm, 368, rfl⟩
abbrev main_call10_v9 : Ref sig .tc := ⟨.hbm, 369, rfl⟩
abbrev main_call10_v10 : Ref sig .tc := ⟨.hbm, 370, rfl⟩
abbrev main_call10_v11 : Ref sig .tc := ⟨.hbm, 371, rfl⟩
abbrev main_call10_v12 : Ref sig .tc := ⟨.hbm, 372, rfl⟩
abbrev main_call10_cst_3 : Ref sig .tc := ⟨.hbm, 373, rfl⟩
abbrev main_call10_v13 : Ref sig .tc := ⟨.hbm, 374, rfl⟩
abbrev main_call10_cst_4 : Ref sig .tc := ⟨.hbm, 375, rfl⟩
abbrev main_call10_call0_v0 : Ref sig .tc := ⟨.hbm, 376, rfl⟩
abbrev main_call10_call0_v1 : Ref sig .tc := ⟨.hbm, 377, rfl⟩
abbrev main_v234 : Ref sig .tc := ⟨.hbm, 378, rfl⟩
abbrev main_v235 : Ref sig .tc := ⟨.hbm, 379, rfl⟩
abbrev main_v236 : Ref sig .tc := ⟨.hbm, 380, rfl⟩
abbrev main_cst_26 : Ref sig .tc := ⟨.hbm, 381, rfl⟩
abbrev main_v237 : Ref sig .tc := ⟨.hbm, 382, rfl⟩
abbrev main_v238 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_v242 : Ref sig .tc := ⟨.hbm, 387, rfl⟩
abbrev main_v243 : Ref sig .tc := ⟨.hbm, 388, rfl⟩
abbrev main_v244 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_v248 : Ref sig .tc := ⟨.hbm, 393, rfl⟩
abbrev main_call11_cst : Ref sig .tc := ⟨.hbm, 394, rfl⟩
abbrev main_call11_v0 : Ref sig .tc := ⟨.hbm, 395, rfl⟩
abbrev main_v249 : Ref sig .tc := ⟨.hbm, 396, rfl⟩
abbrev main_v250 : Ref sig .tc := ⟨.hbm, 397, rfl⟩
abbrev main_v251 : Ref sig .tc := ⟨.hbm, 398, rfl⟩
abbrev main_v252 : Ref sig .tc := ⟨.hbm, 399, rfl⟩
abbrev main_v253 : Ref sig .tc := ⟨.hbm, 400, rfl⟩
abbrev main_v254 : Ref sig .tc := ⟨.hbm, 401, rfl⟩
abbrev main_v255 : Ref sig .tc := ⟨.hbm, 402, rfl⟩

abbrev nD : Nat := 1
abbrev τ : Topo := Topo.v7x

variable {F : FTy → Type} [FloatOps F]
-- ==== Proof.KI.Own.lean ====
/-
  What a memref reads after writes through a whole-shape rectangle, and after writes through a row slice: the two
  facts the runs of the body are read back with.
-/
module

public import Idealize.ShloMosaic.Lib.Pipeline.FrameBody
public import Idealize.ShloMosaic.Lib.Pipeline.Value

@[expose] public section

namespace Cert.Own

open Idealize.ShloMosaic

variable {sig : RefSig} {κ : Kind} {sp : Space} {s : Shape} {e : EltTy} {Val : EltTy → Type}

/-- A last write through the rectangle of the whole shape reads back as its payload, whatever was there before. -/
theorem read_full (v : View sig κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  subst h
  funext y
  have h := View.read_writes_cons_emb v f (Rect.whole s) w L y
  rwa [Rect.emb_whole_apply] at h

/-- A load of the whole shape after such a write reads the payload. -/
theorem readCov_full [∀ e, Nonempty (Val e)] (v : View sig κ sp s e) {off : Fin s.rank → ℕ}
    (inb : ∀ a, off a + s.size a ≤ s.size a) (w : s.Idx → Val e) (L : List (View.Piece Val s e)) :
    v.readCov (⟨Rect.unit off s.size inb, w⟩ :: L) (Rect.unit off s.size inb).toLoadRect = w :=
  View.readCov_cons_toLoadRect v (Rect.unit off s.size inb) w L

/-- A load of the whole shape reads the contents. -/
theorem readAt_full (v : View sig κ sp s e) (f : v.ty.Contents Val) {off : Fin s.rank → ℕ} (h : off = fun _ => 0)
    (inb : ∀ a, off a + s.size a ≤ s.size a) :
    v.readAt Val (Rect.unit off s.size inb).toLoadRect f = v.read Val f :=
  (View.readAt_eq_ld v f _).trans (View.ld_unit_zero h inb _)

/-- A last write through a rectangle lays its payload over what the earlier writes left. -/
theorem read_cons (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · rw [← Rect.map_emb_univ] at hy
    obtain ⟨x, -, rfl⟩ := Finset.mem_map.mp hy
    rw [Rect.overlay_emb]
    exact View.read_writes_cons_emb v f r w L x
  · rw [Rect.overlay_of_not_mem _ _ _ hy]
    exact View.read_writes_cons_miss v f _ L y hy

theorem zero2 : (![0, 0] : Fin 2 → ℕ) = fun _ => 0 := by
  funext a; fin_cases a <;> rfl

/-- The same two facts of loads, at rank two with the offsets as a body spells them. -/
theorem readAt2 {d : Fin 2 → ℕ} (v : View sig κ sp ⟨2, d⟩ e) (f : v.ty.Contents Val) (inb : ∀ a, (![0, 0] : Fin 2 → ℕ) a + d a ≤ d a) :
    v.readAt Val (Rect.unit (s := ⟨2, d⟩) ![0, 0] d inb).toLoadRect f = v.read Val f :=
  readAt_full v f zero2 inb

theorem readCov2 [∀ e, Nonempty (Val e)] {d : Fin 2 → ℕ} (v : View sig κ sp ⟨2, d⟩ e) (inb : ∀ a, (![0, 0] : Fin 2 → ℕ) a + d a ≤ d a)
    (w : (⟨2, d⟩ : Shape).Idx → Val e) (L : List (View.Piece Val ⟨2, d⟩ e)) :
    v.readCov (⟨Rect.unit (s := ⟨2, d⟩) ![0, 0] d inb, w⟩ :: L) (Rect.unit (s := ⟨2, d⟩) ![0, 0] d inb).toLoadRect = w :=
  readCov_full v inb w L

end Cert.Own
-- ==== Proof.KI.Steps.lean ====
/-
  What one batch of rows adds, phase by phase, as functions of the values the body loads: the accumulators of the
  first phase, the coefficients the second phase sets up, the sums of the second and third, the rows of the last.
-/
module

public import proofs.«01_k».proof.Proof.Gen.KernelIdeal.Skeleton
public import proofs.«01_k».proof.Proof.KI.Own

@[expose] public section

noncomputable section

namespace Cert.KernelIdeal.Hand

open Cert.KernelIdeal Cert.KernelIdeal.Gen
open Idealize.ShloMosaic

variable {F : FTy → Type} [FloatOps F]

/-- The blocks the launch hands the body, in the order of its inputs. -/
structure Ins (F : FTy → Type) where
  x : Vec F S16384x2 .f32
  fr : Vec F S20x2 .f32
  w1 : Vec F S42x60 .bf16
  b1 : Vec F S1x60 .f32
  c1 : Vec F S122x30 .bf16
  bg : Vec F S1x60 .f32
  bb : Vec F S1x60 .f32
  c1b : Vec F S1x30 .f32
  bg1 : Vec F S1x30 .f32
  bb1 : Vec F S1x30 .f32
  rep : Vec F S32x8 .f32
  w2 : Vec F S120x240 .bf16
  axy : Vec F S2x120 .bf16
  c2b : Vec F S1x240 .f32
  bg2 : Vec F S1x60 .f32
  bb2 : Vec F S1x60 .f32
  bg3 : Vec F S1x60 .f32
  bb3 : Vec F S1x60 .f32
  w4 : Vec F S60x2 .bf16
  b4 : Vec F S1x2 .f32

/-- The accumulators of the first phase. -/
structure Acc (F : FTy → Type) where
  s1 : Vec F S1x60 .f32
  z1 : Vec F S1x60 .f32
  q1 : Vec F S8x30 .f32
  q2 : Vec F S8x30 .f32
  q4 : Vec F S32x30 .f32
  tm : Vec F S8x60 .f32
  t4 : Vec F S32x60 .f32

/-- The accumulators at the start of the first phase. -/
def acc0 : Acc F := ⟨k0_pay10, k0_pay11, k0_pay12, k0_pay13, k0_pay14, k0_pay15, k0_pay16⟩

/-- The first layer's rows of one batch. -/
def tRow (I : Ins F) (X : Vec F S2048x2 .f32) : FVec F S2048x60 .f32 := k0_pay18 X I.w1 I.fr I.b1

/-- The last two rows of the first convolution's matrix. -/
def c1tail (I : Ins F) : Vec F S2x30 .bf16 := View.ld I.c1 (Rect.unit (s := S122x30) ![120, 0] S2x30.size inb_S122x30_S2x30_120_0)
def c1head (I : Ins F) : Vec F S60x30 .bf16 := View.ld I.c1 (Rect.unit (s := S122x30) ![0, 0] S60x30.size inb_S122x30_S60x30_0_0)
def c1mid (I : Ins F) : Vec F S60x30 .bf16 := View.ld I.c1 (Rect.unit (s := S122x30) ![60, 0] S60x30.size inb_S122x30_S60x30_60_0)

/-- The rows' offsets through the first convolution. -/
def qRow (I : Ins F) (X : Vec F S2048x2 .f32) : FVec F S2048x30 .f32 := k0_pay19 X (c1tail I)

/-- The accumulators after one batch of the first phase. -/
def accStep (I : Ins F) (bw : BitVec 32) (X : Vec F S2048x2 .f32) (A : Acc F) : Acc F where
  s1 := k0_pay21 (tRow I X) k0_pay20 A.s1
  z1 := k0_pay22 (tRow I X) k0_pay20 A.z1
  q1 := k0_pay25 bw (qRow I X) k0_pay20 A.q1
  q2 := k0_pay26 (qRow I X) k0_pay20 (k0_pay23 bw) A.q2
  q4 := k0_pay28 bw (qRow I X) A.q4
  tm := k0_pay24 bw (tRow I X) A.tm
  t4 := k0_pay29 bw (tRow I X) A.t4

/-- The second phase's set-up: the first convolution of the four points of each batch, -/
def d3Of (I : Ins F) (A : Acc F) : FVec F S32x30 .f32 :=
  k0_pay77 (k0_pay74 A.s1 A.z1 I.bg I.bb A.tm) (k0_pay75 A.s1 A.z1 I.bg I.bb A.t4 (c1head I)) (k0_pay76 (c1mid I)) A.q4 I.c1b I.rep
/-- the mean of the first convolution, -/
def m2Of (I : Ins F) (A : Acc F) : FVec F S1x30 .f32 :=
  k0_pay78 (k0_pay74 A.s1 A.z1 I.bg I.bb A.tm) (k0_pay75 A.s1 A.z1 I.bg I.bb A.t4 (c1head I)) (k0_pay76 (c1mid I)) A.q4 I.c1b I.rep A.q1
/-- the sum of squares of its part constant in a batch, -/
def e2aOf (I : Ins F) (A : Acc F) : FVec F S1x30 .f32 :=
  k0_pay79 (k0_pay74 A.s1 A.z1 I.bg I.bb A.tm) (k0_pay75 A.s1 A.z1 I.bg I.bb A.t4 (c1head I)) (k0_pay76 (c1mid I)) A.q4 I.c1b I.rep
/-- the cross term, -/
def e2bOf (I : Ins F) (A : Acc F) : FVec F S1x30 .f32 :=
  k0_pay80 (k0_pay74 A.s1 A.z1 I.bg I.bb A.tm) (k0_pay75 A.s1 A.z1 I.bg I.bb A.t4 (c1head I)) (k0_pay76 (c1mid I)) A.q4 I.c1b I.rep I.rep A.q1
/-- its scale, -/
def al2rOf (I : Ins F) (A : Acc F) : FVec F S1x30 .f32 :=
  k0_pay81 (m2Of I A) (e2aOf I A) (e2bOf I A) (Scalar.ofBits .f32 0x40000000#32) A.q2 I.bg1
/-- and, normalised, its part constant in a batch. -/
def pOf (I : Ins F) (A : Acc F) : FVec F S32x30 .f32 :=
  k0_pay82 (d3Of I A) (m2Of I A) (e2aOf I A) (e2bOf I A) (Scalar.ofBits .f32 0x40000000#32) A.q2 I.bg1 I.bb1

/-- The normalised part, the four points side by side, a row per batch; -/
def p3Of (I : Ins F) (A : Acc F) : Vec F S8x120 .f32 :=
  k0_pay85 (pOf I A) (iota .tc S8x32 32 [0] iota_S8x32_d0_w32) (iota .tc S8x32 32 [1] iota_S8x32_d1_w32)
    (k0_pay83 (d3Of I A) (m2Of I A) (e2aOf I A) (e2bOf I A) (Scalar.ofBits .f32 0x40000000#32) A.q2 I.bg1 I.bb1) (k0_pay84 (F := F))
    (constant S8x30 .f32 0x00000000#32)
/-- and the scale four times. -/
def al2Of (I : Ins F) (A : Acc F) : Vec F S1x120 .f32 := k0_pay86 (al2rOf I A)

/-- The second convolution of one batch, the four points side by side. -/
def hRow (I : Ins F) (p3 : Vec F S8x120 .f32) (al2 : Vec F S1x120 .f32) (bw : BitVec 32) (X : Vec F S2048x2 .f32) : FVec F S2048x240 .f32 :=
  k0_pay93 bw al2 (k0_pay92 X I.axy) p3 I.w2 I.c2b

/-- A pair of running sums: of a quantity and of its square. -/
structure Sums (F : FTy → Type) where
  s : Vec F S1x60 .f32
  q : Vec F S1x60 .f32

/-- The second phase's sums at its start, and after one more batch; -/
def sums3 : Sums F := ⟨k0_pay87, k0_pay88⟩
def sum3Step (h : FVec F S2048x240 .f32) (S : Sums F) : Sums F := ⟨k0_pay90 h S.s, k0_pay91 h S.q⟩

/-- the maximum over the four points of one batch, normalised by the second phase's sums; -/
def npRow (I : Ins F) (p3 : Vec F S8x120 .f32) (al2 : Vec F S1x120 .f32) (S : Sums F) (bw : BitVec 32) (X : Vec F S2048x2 .f32) :
    FVec F S2048x60 .f32 :=
  k0_pay113 (k0_pay108 S.s S.q I.bg2) (k0_pay109 S.s S.q I.bg2 I.bb2) bw (k0_pay112 X al2 I.axy) (iota .tc S8x1 32 [0] iota_S8x1_d0_w32)
    p3 I.w2 I.c2b

/-- A sum of a batch's rows added to a running one. -/
def addRows (np : FVec F S2048x60 .f32) (v : Vec F S1x60 .f32) : FVec F S1x60 .f32 :=
  addf v (shapeCast S1x60 (multiReduction .add [0] S60 np 0x00000000#32 reduces_S2048x60_S60 (.inl rfl) rfl) shapeCasts_S60_S1x60)

/-- the third phase's sums at its start and after one more batch; -/
def sums4 : Sums F := ⟨k0_pay110, k0_pay111⟩
def sum4Step (np : FVec F S2048x60 .f32) (S : Sums F) : Sums F :=
  ⟨addRows np S.s, k0_pay117 np S.q⟩

/-- the result's rows of one batch. -/
def outRow (I : Ins F) (S : Sums F) (np : Vec F S2048x60 .f32) : FVec F S2048x2 .f32 :=
  k0_pay137 (k0_pay134 S.s S.q I.bg3) (k0_pay135 S.s S.q I.bg3 I.bb3) np I.w4 I.b4

/-- The batch's number, as the body computes it. -/
def bWord (i : grid0.Coords) (j : BitVec 32) : BitVec 32 := Scalar.addi (Scalar.muli 4#32 (BitVec.ofNat 32 (i 1).val)) j

end Cert.KernelIdeal.Hand
-- ==== Proof.KI.Run0.lean ====
/-
  The body at a point of the first phase: the seven accumulators after its four batches.
-/
module

public import proofs.«01_k».proof.Proof.Gen.KernelIdeal.Frame
public import proofs.«01_k».proof.Proof.KI.Steps
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable
  (arg2 : Memref sig .tc .vmem S16384x2 .f32) (harg2 : arg2.IsWhole)
  (arg3 : Memref sig .tc .vmem S20x2 .f32) (harg3 : arg3.IsWhole)
  (arg4 : Memref sig .tc .vmem S42x60 .bf16) (harg4 : arg4.IsWhole)
  (arg5 : Memref sig .tc .vmem S1x60 .f32) (harg5 : arg5.IsWhole)
  (arg6 : Memref sig .tc .vmem S122x30 .bf16) (harg6 : arg6.IsWhole)
  (arg7 : Memref sig .tc .vmem S1x60 .f32) (harg7 : arg7.IsWhole)
  (arg8 : Memref sig .tc .vmem S1x60 .f32) (harg8 : arg8.IsWhole)
  (arg9 : Memref sig .tc .vmem S1x30 .f32) (harg9 : arg9.IsWhole)
  (arg10 : Memref sig .tc .vmem S1x30 .f32) (harg10 : arg10.IsWhole)
  (arg11 : Memref sig .tc .vmem S1x30 .f32) (harg11 : arg11.IsWhole)
  (arg12 : Memref sig .tc .vmem S32x8 .f32) (harg12 : arg12.IsWhole)
  (arg13 : Memref sig .tc .vmem S120x240 .bf16) (harg13 : arg13.IsWhole)
  (arg14 : Memref sig .tc .vmem S2x120 .bf16) (harg14 : arg14.IsWhole)
  (arg15 : Memref sig .tc .vmem S1x240 .f32) (harg15 : arg15.IsWhole)
  (arg16 : Memref sig .tc .vmem S1x60 .f32) (harg16 : arg16.IsWhole)
  (arg17 : Memref sig .tc .vmem S1x60 .f32) (harg17 : arg17.IsWhole)
  (arg18 : Memref sig .tc .vmem S1x60 .f32) (harg18 : arg18.IsWhole)
  (arg19 : Memref sig .tc .vmem S1x60 .f32) (harg19 : arg19.IsWhole)
  (arg20 : Memref sig .tc .vmem S60x2 .bf16) (harg20 : arg20.IsWhole)
  (arg21 : Memref sig .tc .vmem S1x2 .f32) (harg21 : arg21.IsWhole)
  (arg22 : Memref sig .tc .vmem S16384x2 .f32) (harg22 : arg22.IsWhole)
  (arg23 : Memref sig .tc .vmem S16384x60 .f32) (harg23 : arg23.IsWhole)
  (arg24 : Memref sig .tc .vmem S1x60 .f32) (harg24 : arg24.IsWhole)
  (arg25 : Memref sig .tc .vmem S1x60 .f32) (harg25 : arg25.IsWhole)
  (arg26 : Memref sig .tc .vmem S8x30 .f32) (harg26 : arg26.IsWhole)
  (arg27 : Memref sig .tc .vmem S8x30 .f32) (harg27 : arg27.IsWhole)
  (arg28 : Memref sig .tc .vmem S32x30 .f32) (harg28 : arg28.IsWhole)
  (arg29 : Memref sig .tc .vmem S8x60 .f32) (harg29 : arg29.IsWhole)
  (arg30 : Memref sig .tc .vmem S32x60 .f32) (harg30 : arg30.IsWhole)
  (arg31 : Memref sig .tc .vmem S8x120 .f32) (harg31 : arg31.IsWhole)
  (arg32 : Memref sig .tc .vmem S1x120 .f32) (harg32 : arg32.IsWhole)
  (arg33 : Memref sig .tc .vmem S1x60 .f32) (harg33 : arg33.IsWhole)
  (arg34 : Memref sig .tc .vmem S1x60 .f32) (harg34 : arg34.IsWhole)
  (arg35 : Memref sig .tc .vmem S1x60 .f32) (harg35 : arg35.IsWhole)
  (arg36 : Memref sig .tc .vmem S1x60 .f32) (harg36 : arg36.IsWhole)

/-- At the first point of the first phase, the accumulators start afresh. -/
theorem run0a (c : Dev nD) (i : grid0.Coords) (h1 : k0_cond1 i = 1#1) (h3 : ¬ k0_cond3 i = 1#1) (h5 : ¬ k0_cond5 i = 1#1) (h7 : ¬ k0_cond7 i = 1#1)
    (hb : Scalar.cmpi .ne (Scalar.extui (Scalar.cmpi .eq (BitVec.ofNat 32 (i 1).val) 0#32) : BitVec 32) 0#32 = 1#1)
    (I : Ins F) (G24 : Vec F S1x60 .f32) (G25 : Vec F S1x60 .f32) (G26 : Vec F S8x30 .f32) (G27 : Vec F S8x30 .f32) (G28 : Vec F S32x30 .f32) (G29 : Vec F S8x60 .f32) (G30 : Vec F S32x60 .f32) (K : PUnit → sProp 𝕄) :
    iprop(owns (c : Thread nD τ) arg2 fullShare I.x ∗ owns (c : Thread nD τ) arg3 fullShare I.fr ∗ owns (c : Thread nD τ) arg4 fullShare I.w1 ∗ owns (c : Thread nD τ) arg5 fullShare I.b1 ∗ owns (c : Thread nD τ) arg6 fullShare I.c1 ∗ owns (c : Thread nD τ) arg24 fullShare G24 ∗ owns (c : Thread nD τ) arg25 fullShare G25 ∗ owns (c : Thread nD τ) arg26 fullShare G26 ∗ owns (c : Thread nD τ) arg27 fullShare G27 ∗ owns (c : Thread nD τ) arg28 fullShare G28 ∗ owns (c : Thread nD τ) arg29 fullShare G29 ∗ owns (c : Thread nD τ) arg30 fullShare G30
        ∗ (iprop(owns (c : Thread nD τ) arg2 fullShare I.x ∗ owns (c : Thread nD τ) arg3 fullShare I.fr ∗ owns (c : Thread nD τ) arg4 fullShare I.w1 ∗ owns (c : Thread nD τ) arg5 fullShare I.b1 ∗ owns (c : Thread nD τ) arg6 fullShare I.c1 ∗ owns (c : Thread nD τ) arg24 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).s1 ∗ owns (c : Thread nD τ) arg25 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).z1 ∗ owns (c : Thread nD τ) arg26 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).q1 ∗ owns (c : Thread nD τ) arg27 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).q2 ∗ owns (c : Thread nD τ) arg28 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).q4 ∗ owns (c : Thread nD τ) arg29 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).tm ∗ owns (c : Thread nD τ) arg30 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) acc0))))).t4) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f3, %e3, H3⟩, ⟨%f4, %e4, H4⟩, ⟨%f5, %e5, H5⟩, ⟨%f6, %e6, H6⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, Hk⟩
  subst e2; subst e3; subst e4; subst e5; subst e6; subst e24; subst e25; subst e26; subst e27; subst e28; subst e29; subst e30
  sl_exec!
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H24]
  · iexists _; isplitr; swap; · iexact H24
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  isplitl [H25]
  · iexists _; isplitr; swap; · iexact H25
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  isplitl [H26]
  · iexists _; isplitr; swap; · iexact H26
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  isplitl [H27]
  · iexists _; isplitr; swap; · iexact H27
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  isplitl [H28]
  · iexists _; isplitr; swap; · iexact H28
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  isplitl [H29]
  · iexists _; isplitr; swap; · iexact H29
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl
  · iexists _; isplitr; swap; · iexact H30
    ipureintro
    refine (Cert.Own.read_full _ _ Cert.Own.zero2 _ _ _).trans ?_
    repeat delta run0a.sl.H24_1 run0a.sl.H24_2 run0a.sl.H24_3 run0a.sl.H24_4 run0a.sl.H24_5 run0a.sl.H25_1 run0a.sl.H25_2 run0a.sl.H25_3 run0a.sl.H25_4 run0a.sl.H25_5 run0a.sl.H26_1 run0a.sl.H26_2 run0a.sl.H26_3 run0a.sl.H26_4 run0a.sl.H26_5 run0a.sl.H27_1 run0a.sl.H27_2 run0a.sl.H27_3 run0a.sl.H27_4 run0a.sl.H27_5 run0a.sl.H28_1 run0a.sl.H28_2 run0a.sl.H28_3 run0a.sl.H28_4 run0a.sl.H28_5 run0a.sl.H29_1 run0a.sl.H29_2 run0a.sl.H29_3 run0a.sl.H29_4 run0a.sl.H29_5 run0a.sl.H30_1 run0a.sl.H30_2 run0a.sl.H30_3 run0a.sl.H30_4 run0a.sl.H30_5 run0a.sl.r run0a.sl.r_1 run0a.sl.r_10 run0a.sl.r_11 run0a.sl.r_12 run0a.sl.r_13 run0a.sl.r_14 run0a.sl.r_15 run0a.sl.r_16 run0a.sl.r_2 run0a.sl.r_3 run0a.sl.r_4 run0a.sl.r_5 run0a.sl.r_6 run0a.sl.r_7 run0a.sl.r_8 run0a.sl.r_9 run0a.sl.v111 run0a.sl.v118 run0a.sl.v12 run0a.sl.v126 run0a.sl.v13 run0a.sl.v14 run0a.sl.v15 run0a.sl.v16 run0a.sl.v160 run0a.sl.v166 run0a.sl.v178 run0a.sl.v188 run0a.sl.v197 run0a.sl.v221 run0a.sl.v228 run0a.sl.v236 run0a.sl.v270 run0a.sl.v276 run0a.sl.v288 run0a.sl.v298 run0a.sl.v307 run0a.sl.v331 run0a.sl.v338 run0a.sl.v346 run0a.sl.v380 run0a.sl.v386 run0a.sl.v398 run0a.sl.v408 run0a.sl.v417 run0a.sl.v427 run0a.sl.v428 run0a.sl.v429 run0a.sl.v441 run0a.sl.v448 run0a.sl.v50 run0a.sl.v56 run0a.sl.v68 run0a.sl.v78 run0a.sl.v87
    simp only [Cert.Own.readCov2, Cert.Own.readAt2]; rfl

/-- At a later point they go on from what they hold. -/
theorem run0b (c : Dev nD) (i : grid0.Coords) (h1 : k0_cond1 i = 1#1) (h3 : ¬ k0_cond3 i = 1#1) (h5 : ¬ k0_cond5 i = 1#1) (h7 : ¬ k0_cond7 i = 1#1)
    (hb : ¬ Scalar.cmpi .ne (Scalar.extui (Scalar.cmpi .eq (BitVec.ofNat 32 (i 1).val) 0#32) : BitVec 32) 0#32 = 1#1)
    (I : Ins F) (G24 : Vec F S1x60 .f32) (G25 : Vec F S1x60 .f32) (G26 : Vec F S8x30 .f32) (G27 : Vec F S8x30 .f32) (G28 : Vec F S32x30 .f32) (G29 : Vec F S8x60 .f32) (G30 : Vec F S32x60 .f32) (K : PUnit → sProp 𝕄) :
    iprop(owns (c : Thread nD τ) arg2 fullShare I.x ∗ owns (c : Thread nD τ) arg3 fullShare I.fr ∗ owns (c : Thread nD τ) arg4 fullShare I.w1 ∗ owns (c : Thread nD τ) arg5 fullShare I.b1 ∗ owns (c : Thread nD τ) arg6 fullShare I.c1 ∗ owns (c : Thread nD τ) arg24 fullShare G24 ∗ owns (c : Thread nD τ) arg25 fullShare G25 ∗ owns (c : Thread nD τ) arg26 fullShare G26 ∗ owns (c : Thread nD τ) arg27 fullShare G27 ∗ owns (c : Thread nD τ) arg28 fullShare G28 ∗ owns (c : Thread nD τ) arg29 fullShare G29 ∗ owns (c : Thread nD τ) arg30 fullShare G30
        ∗ (iprop(owns (c : Thread nD τ) arg2 fullShare I.x ∗ owns (c : Thread nD τ) arg3 fullShare I.fr ∗ owns (c : Thread nD τ) arg4 fullShare I.w1 ∗ owns (c : Thread nD τ) arg5 fullShare I.b1 ∗ owns (c : Thread nD τ) arg6 fullShare I.c1 ∗ owns (c : Thread nD τ) arg24 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).s1 ∗ owns (c : Thread nD τ) arg25 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).z1 ∗ owns (c : Thread nD τ) arg26 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).q1 ∗ owns (c : Thread nD τ) arg27 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).q2 ∗ owns (c : Thread nD τ) arg28 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).q4 ∗ owns (c : Thread nD τ) arg29 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).tm ∗ owns (c : Thread nD τ) arg30 fullShare ((accStep I (bWord i 3#32) (View.ld I.x (Rect.unit (s := S16384x2) (k0_off1 i 3#32) S2048x2.size (k0_off1_inb i h1 3))) (accStep I (bWord i 2#32) (View.ld I.x (Rect.unit (s := S16384x2) (k0_off1 i 2#32) S2048x2.size (k0_off1_inb i h1 2))) (accStep I (bWord i 1#32) (View.ld I.x (Rect.unit (s := S16384x2) (k0_off1 i 1#32) S2048x2.size (k0_off1_inb i h1 1))) (accStep I (bWord i 0#32) (View.ld I.x (Rect.unit (s := S16384x2) (k0_off1 i 0#32) S2048x2.size (k0_off1_inb i h1 0))) ⟨G24, G25, G26, G27, G28, G29, G30⟩))))).t4) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f3, %e3, H3⟩, ⟨%f4, %e4, H4⟩, ⟨%f5, %e5, H5⟩, ⟨%f6, %e6, H6⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, Hk⟩
  subst e2; subst e3; subst e4; subst e5; subst e6; subst e24; subst e25; subst e26; subst e27; subst e28; subst e29; subst e30
  sl_exec!
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H24]
  · iexists _; isplitr; swap; · iexact H24
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  isplitl [H25]
  · iexists _; isplitr; swap; · iexact H25
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  isplitl [H26]
  · iexists _; isplitr; swap; · iexact H26
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  isplitl [H27]
  · iexists _; isplitr; swap; · iexact H27
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  isplitl [H28]
  · iexists _; isplitr; swap; · iexact H28
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  isplitl [H29]
  · iexists _; isplitr; swap; · iexact H29
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl
  · iexists _; isplitr; swap; · iexact H30
    ipureintro
    refine (Cert.Own.read_full _ _ Cert.Own.zero2 _ _ _).trans ?_
    repeat delta run0b.sl.H24_1 run0b.sl.H24_2 run0b.sl.H24_3 run0b.sl.H24_4 run0b.sl.H25_1 run0b.sl.H25_2 run0b.sl.H25_3 run0b.sl.H25_4 run0b.sl.H26_1 run0b.sl.H26_2 run0b.sl.H26_3 run0b.sl.H26_4 run0b.sl.H27_1 run0b.sl.H27_2 run0b.sl.H27_3 run0b.sl.H27_4 run0b.sl.H28_1 run0b.sl.H28_2 run0b.sl.H28_3 run0b.sl.H28_4 run0b.sl.H29_1 run0b.sl.H29_2 run0b.sl.H29_3 run0b.sl.H29_4 run0b.sl.H30_1 run0b.sl.H30_2 run0b.sl.H30_3 run0b.sl.H30_4 run0b.sl.r run0b.sl.r_1 run0b.sl.r_10 run0b.sl.r_11 run0b.sl.r_12 run0b.sl.r_13 run0b.sl.r_14 run0b.sl.r_15 run0b.sl.r_16 run0b.sl.r_2 run0b.sl.r_3 run0b.sl.r_4 run0b.sl.r_5 run0b.sl.r_6 run0b.sl.r_7 run0b.sl.r_8 run0b.sl.r_9 run0b.sl.v12 run0b.sl.v126 run0b.sl.v13 run0b.sl.v14 run0b.sl.v15 run0b.sl.v16 run0b.sl.v160 run0b.sl.v166 run0b.sl.v178 run0b.sl.v188 run0b.sl.v197 run0b.sl.v221 run0b.sl.v228 run0b.sl.v236 run0b.sl.v270 run0b.sl.v276 run0b.sl.v288 run0b.sl.v298 run0b.sl.v307 run0b.sl.v331 run0b.sl.v338 run0b.sl.v346 run0b.sl.v380 run0b.sl.v386 run0b.sl.v398 run0b.sl.v408 run0b.sl.v417 run0b.sl.v427 run0b.sl.v428 run0b.sl.v429 run0b.sl.v441 run0b.sl.v448
    simp only [Cert.Own.readCov2, Cert.Own.readAt2]; rfl

end Cert.KernelIdeal.Hand
-- ==== Proof.KI.Fold.lean ====
/-
  The body spells the four batches of a point one by one and splits each where its text happens to be split: the
  spellings of the second and third phase, brought to one.
-/
module

public import proofs.«01_k».proof.Proof.KI.Steps
public import Idealize.ShloMosaic.Lib.Pipeline.Value

@[expose] public section

set_option maxHeartbeats 1000000

noncomputable section

namespace Cert.KernelIdeal.Hand

open Cert.KernelIdeal Cert.KernelIdeal.Gen
open Idealize.ShloMosaic

variable {F : FTy → Type} [FloatOps F]

/-! The second convolution of each batch, -/
theorem fold89 : k0_pay89 (F := F) a X Q m P w c = k0_pay93 (Scalar.addi (Scalar.muli 4#32 a) 0#32) Q (k0_pay92 X m) P w c := rfl
theorem fold99 : k0_pay99 (F := F) (k0_pay97 w) (k0_pay98 a X Q m P) (constant S2048x240 .f32 0x00000000#32) c
    = k0_pay93 (Scalar.addi (Scalar.muli 4#32 a) 2#32) Q (k0_pay92 X m) P w c := rfl
theorem fold103 : k0_pay103 (F := F) b (k0_pay102 X) Q m P w c = k0_pay93 b Q (k0_pay92 X m) P w c := rfl
/-! its sums, -/
theorem fold95 : k0_pay95 (F := F) b Q t P w c v = k0_pay90 (k0_pay93 b Q t P w c) v := rfl
theorem fold96 : k0_pay96 (F := F) (k0_pay94 b Q t P w c) v = k0_pay91 (k0_pay93 b Q t P w c) v := rfl
theorem fold100 : k0_pay100 (F := F) w r k c v = k0_pay90 (k0_pay99 w r k c) v := rfl
theorem fold101 : k0_pay101 (F := F) w r k c v = k0_pay91 (k0_pay99 w r k c) v := rfl
theorem fold4 : k0_pay4 (F := F) (k0_pay105 b X Q m P w c v) = k0_pay90 (k0_pay103 b X Q m P w c) v := rfl
theorem fold5 : k0_pay5 (F := F) (k0_pay104 b X Q m P w c) v = k0_pay91 (k0_pay103 b X Q m P w c) v := rfl

/-! the maximum over the four points, -/
theorem fold114 : k0_pay114 (F := F) p q b t o P w c = k0_pay113 p q b t o P w c := shapeCast_self _ _
theorem fold119 : k0_pay119 (F := F) p q (k0_pay118 a X Q m P) w c
    = k0_pay113 p q (Scalar.addi (Scalar.muli 4#32 a) 1#32) (k0_pay112 X Q m) (iota .tc S8x1 32 [0] iota_S8x1_d0_w32) P w c := rfl
theorem fold120 : k0_pay120 (F := F) p q t w c = k0_pay119 p q t w c := shapeCast_self _ _
theorem fold125 : k0_pay125 (F := F) (k0_pay123 p q a b X Q m P w c) (k0_pay124 p q a b X Q m P w c)
    = k0_pay113 p q (Scalar.addi a b) (k0_pay112 X Q m) (iota .tc S8x1 32 [0] iota_S8x1_d0_w32) P w c := rfl
theorem fold126 : k0_pay126 (F := F) x y = k0_pay125 x y := shapeCast_self _ _
theorem fold130 : k0_pay130 (F := F) p q b (k0_pay129 X Q m) o P w c = k0_pay113 p q b (k0_pay112 X Q m) o P w c := rfl
theorem fold131 : k0_pay131 (F := F) p q b t o P w c = k0_pay130 p q b t o P w c := shapeCast_self _ _

/-! and its sums. -/
theorem fold116 : k0_pay116 (F := F) (k0_pay115 p q b t o P w c v) = addRows (k0_pay113 p q b t o P w c) v := shapeCast_self _ _
theorem fold121 : k0_pay121 (F := F) p q t w c v = addRows (k0_pay119 p q t w c) v := shapeCast_self _ _
theorem fold122 : k0_pay122 (F := F) p q t w c v = k0_pay117 (k0_pay119 p q t w c) v := rfl
theorem fold127 : k0_pay127 (F := F) x y v = addRows (k0_pay125 x y) v := shapeCast_self _ _
theorem fold128 : k0_pay128 (F := F) x y v = k0_pay117 (k0_pay125 x y) v := rfl
theorem fold6 : k0_pay6 (F := F) (k0_pay132 p q b t o P w c v) = addRows (k0_pay130 p q b t o P w c) v := shapeCast_self _ _
theorem fold7 : k0_pay7 (F := F) x v = k0_pay117 x v := rfl

end Cert.KernelIdeal.Hand
-- ==== Proof.KI.Run1.lean ====
/-
  The body at a point of the second phase: the sums of the second convolution after its four batches.
-/
module

public import proofs.«01_k».proof.Proof.Gen.KernelIdeal.Frame
public import proofs.«01_k».proof.Proof.KI.Fold
public import Idealize.ShloMosaic.Lib.Pipeline.Frame
public import Idealize.ShloMosaic.Lib.Tactic

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable
  (arg2 : Memref sig .tc .vmem S16384x2 .f32) (harg2 : arg2.IsWhole)
  (arg3 : Memref sig .tc .vmem S20x2 .f32) (harg3 : arg3.IsWhole)
  (arg4 : Memref sig .tc .vmem S42x60 .bf16) (harg4 : arg4.IsWhole)
  (arg5 : Memref sig .tc .vmem S1x60 .f32) (harg5 : arg5.IsWhole)
  (arg6 : Memref sig .tc .vmem S122x30 .bf16) (harg6 : arg6.IsWhole)
  (arg7 : Memref sig .tc .vmem S1x60 .f32) (harg7 : arg7.IsWhole)
  (arg8 : Memref sig .tc .vmem S1x60 .f32) (harg8 : arg8.IsWhole)
  (arg9 : Memref sig .tc .vmem S1x30 .f32) (harg9 : arg9.IsWhole)
  (arg10 : Memref sig .tc .vmem S1x30 .f32) (harg10 : arg10.IsWhole)
  (arg11 : Memref sig .tc .vmem S1x30 .f32) (harg11 : arg11.IsWhole)
  (arg12 : Memref sig .tc .vmem S32x8 .f32) (harg12 : arg12.IsWhole)
  (arg13 : Memref sig .tc .vmem S120x240 .bf16) (harg13 : arg13.IsWhole)
  (arg14 : Memref sig .tc .vmem S2x120 .bf16) (harg14 : arg14.IsWhole)
  (arg15 : Memref sig .tc .vmem S1x240 .f32) (harg15 : arg15.IsWhole)
  (arg16 : Memref sig .tc .vmem S1x60 .f32) (harg16 : arg16.IsWhole)
  (arg17 : Memref sig .tc .vmem S1x60 .f32) (harg17 : arg17.IsWhole)
  (arg18 : Memref sig .tc .vmem S1x60 .f32) (harg18 : arg18.IsWhole)
  (arg19 : Memref sig .tc .vmem S1x60 .f32) (harg19 : arg19.IsWhole)
  (arg20 : Memref sig .tc .vmem S60x2 .bf16) (harg20 : arg20.IsWhole)
  (arg21 : Memref sig .tc .vmem S1x2 .f32) (harg21 : arg21.IsWhole)
  (arg22 : Memref sig .tc .vmem S16384x2 .f32) (harg22 : arg22.IsWhole)
  (arg23 : Memref sig .tc .vmem S16384x60 .f32) (harg23 : arg23.IsWhole)
  (arg24 : Memref sig .tc .vmem S1x60 .f32) (harg24 : arg24.IsWhole)
  (arg25 : Memref sig .tc .vmem S1x60 .f32) (harg25 : arg25.IsWhole)
  (arg26 : Memref sig .tc .vmem S8x30 .f32) (harg26 : arg26.IsWhole)
  (arg27 : Memref sig .tc .vmem S8x30 .f32) (harg27 : arg27.IsWhole)
  (arg28 : Memref sig .tc .vmem S32x30 .f32) (harg28 : arg28.IsWhole)
  (arg29 : Memref sig .tc .vmem S8x60 .f32) (harg29 : arg29.IsWhole)
  (arg30 : Memref sig .tc .vmem S32x60 .f32) (harg30 : arg30.IsWhole)
  (arg31 : Memref sig .tc .vmem S8x120 .f32) (harg31 : arg31.IsWhole)
  (arg32 : Memref sig .tc .vmem S1x120 .f32) (harg32 : arg32.IsWhole)
  (arg33 : Memref sig .tc .vmem S1x60 .f32) (harg33 : arg33.IsWhole)
  (arg34 : Memref sig .tc .vmem S1x60 .f32) (harg34 : arg34.IsWhole)
  (arg35 : Memref sig .tc .vmem S1x60 .f32) (harg35 : arg35.IsWhole)
  (arg36 : Memref sig .tc .vmem S1x60 .f32) (harg36 : arg36.IsWhole)

/-- At its first point the phase sets up the first normalisation and starts its sums afresh. -/
theorem run1a (c : Dev nD) (i : grid0.Coords) (h1 : ¬ k0_cond1 i = 1#1) (h3 : k0_cond3 i = 1#1) (h5 : ¬ k0_cond5 i = 1#1) (h7 : ¬ k0_cond7 i = 1#1)
    (hb : Scalar.cmpi .ne (Scalar.extui (Scalar.cmpi .eq (BitVec.ofNat 32 (i 1).val) 0#32) : BitVec 32) 0#32 = 1#1)
    (I : Ins F) (G24 : Vec F S1x60 .f32) (G25 : Vec F S1x60 .f32) (G26 : Vec F S8x30 .f32) (G27 : Vec F S8x30 .f32) (G28 : Vec F S32x30 .f32) (G29 : Vec F S8x60 .f32) (G30 : Vec F S32x60 .f32) (G31 : Vec F S8x120 .f32) (G32 : Vec F S1x120 .f32) (G33 : Vec F S1x60 .f32) (G34 : Vec F S1x60 .f32) (K : PUnit → sProp 𝕄) :
    iprop(owns (c : Thread nD τ) arg2 fullShare I.x ∗ owns (c : Thread nD τ) arg6 fullShare I.c1 ∗ owns (c : Thread nD τ) arg7 fullShare I.bg ∗ owns (c : Thread nD τ) arg8 fullShare I.bb ∗ owns (c : Thread nD τ) arg9 fullShare I.c1b ∗ owns (c : Thread nD τ) arg10 fullShare I.bg1 ∗ owns (c : Thread nD τ) arg11 fullShare I.bb1 ∗ owns (c : Thread nD τ) arg12 fullShare I.rep ∗ owns (c : Thread nD τ) arg13 fullShare I.w2 ∗ owns (c : Thread nD τ) arg14 fullShare I.axy ∗ owns (c : Thread nD τ) arg15 fullShare I.c2b ∗ owns (c : Thread nD τ) arg24 fullShare G24 ∗ owns (c : Thread nD τ) arg25 fullShare G25 ∗ owns (c : Thread nD τ) arg26 fullShare G26 ∗ owns (c : Thread nD τ) arg27 fullShare G27 ∗ owns (c : Thread nD τ) arg28 fullShare G28 ∗ owns (c : Thread nD τ) arg29 fullShare G29 ∗ owns (c : Thread nD τ) arg30 fullShare G30 ∗ owns (c : Thread nD τ) arg31 fullShare G31 ∗ owns (c : Thread nD τ) arg32 fullShare G32 ∗ owns (c : Thread nD τ) arg33 fullShare G33 ∗ owns (c : Thread nD τ) arg34 fullShare G34
        ∗ (iprop(owns (c : Thread nD τ) arg2 fullShare I.x ∗ owns (c : Thread nD τ) arg6 fullShare I.c1 ∗ owns (c : Thread nD τ) arg7 fullShare I.bg ∗ owns (c : Thread nD τ) arg8 fullShare I.bb ∗ owns (c : Thread nD τ) arg9 fullShare I.c1b ∗ owns (c : Thread nD τ) arg10 fullShare I.bg1 ∗ owns (c : Thread nD τ) arg11 fullShare I.bb1 ∗ owns (c : Thread nD τ) arg12 fullShare I.rep ∗ owns (c : Thread nD τ) arg13 fullShare I.w2 ∗ owns (c : Thread nD τ) arg14 fullShare I.axy ∗ owns (c : Thread nD τ) arg15 fullShare I.c2b ∗ owns (c : Thread nD τ) arg24 fullShare G24 ∗ owns (c : Thread nD τ) arg25 fullShare G25 ∗ owns (c : Thread nD τ) arg26 fullShare G26 ∗ owns (c : Thread nD τ) arg27 fullShare G27 ∗ owns (c : Thread nD τ) arg28 fullShare G28 ∗ owns (c : Thread nD τ) arg29 fullShare G29 ∗ owns (c : Thread nD τ) arg30 fullShare G30 ∗ owns (c : Thread nD τ) arg31 fullShare (p3Of I ⟨G24, G25, G26, G27, G28, G29, G30⟩) ∗ owns (c : Thread nD τ) arg32 fullShare (al2Of I ⟨G24, G25, G26, G27, G28, G29, G30⟩) ∗ owns (c : Thread nD τ) arg33 fullShare (sum3Step (hRow I (p3Of I ⟨G24, G25, G26, G27, G28, G29, G30⟩) (al2Of I ⟨G24, G25, G26, G27, G28, G29, G30⟩) (bWord i 3#32) (View.ld I.x (Rect.unit (s := S16384x2) (k0_off2 i 3#32) S2048x2.size (k0_off2_inb i h3 3)))) (sum3Step (hRow I (p3Of I ⟨G24, G25, G26, G27, G28, G29, G30⟩) (al2Of I ⟨G24, G25, G26, G27, G28, G29, G30⟩) (bWord i 2#32) (View.ld I.x (Rect.unit (s := S16384x2) (k0_off2 i 2#32) S2048x2.size (k0_off2_inb i h3 2)))) (sum3Step (hRow I (p3Of I ⟨G24, G25, G26, G27, G28, G29, G30⟩) (al2Of I ⟨G24, G25, G26, G27, G28, G29, G30⟩) (bWord i 1#32) (View.ld I.x (Rect.unit (s := S16384x2) (k0_off2 i 1#32) S2048x2.size (k0_off2_inb i h3 1)))) (sum3Step (hRow I (p3Of I ⟨G24, G25, G26, G27, G28, G29, G30⟩) (al2Of I ⟨G24, G25, G26, G27, G28, G29, G30⟩) (bWord i 0#32) (View.ld I.x (Rect.unit (s := S16384x2) (k0_off2 i 0#32) S2048x2.size (k0_off2_inb i h3 0)))) sums3)))).s ∗ owns (c : Thread nD τ) arg34 fullShare (sum3Step (hRow I (p3Of I ⟨G24, G25, G26, G27, G28, G29, G30⟩) (al2Of I ⟨G24, G25, G26, G27, G28, G29, G30⟩) (bWord i 3#32) (View.ld I.x (Rect.unit (s := S16384x2) (k0_off2 i 3#32) S2048x2.size (k0_off2_inb i h3 3)))) (sum3Step (hRow I (p3Of I ⟨G24, G25, G26, G27, G28, G29, G30⟩) (al2Of I ⟨G24, G25, G26, G27, G28, G29, G30⟩) (bWord i 2#32) (View.ld I.x (Rect.unit (s := S16384x2) (k0_off2 i 2#32) S2048x2.size (k0_off2_inb i h3 2)))) (sum3Step (hRow I (p3Of I ⟨G24, G25, G26, G27, G28, G29, G30⟩) (al2Of I ⟨G24, G25, G26, G27, G28, G29, G30⟩) (bWord i 1#32) (View.ld I.x (Rect.unit (s := S16384x2) (k0_off2 i 1#32) S2048x2.size (k0_off2_inb i h3 1)))) (sum3Step (hRow I (p3Of I ⟨G24, G25, G26, G27, G28, G29, G30⟩) (al2Of I ⟨G24, G25, G26, G27, G28, G29, G30⟩) (bWord i 0#32) (View.ld I.x (Rect.unit (s := S16384x2) (k0_off2 i 0#32) S2048x2.size (k0_off2_inb i h3 0)))) sums3)))).q) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, Hk⟩
  subst e2; subst e6; subst e7; subst e8; subst e9; subst e10; subst e11; subst e12; subst e13; subst e14; subst e15; subst e24; subst e25; subst e26; subst e27; subst e28; subst e29; subst e30; subst e31; subst e32; subst e33; subst e34
  sl_exec!
  sl_step
  iapply Hk
  isplitl [H2]
  · iexists _; isplitr; swap; · iexact H2
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H24]
  · iexists _; isplitr; swap; · iexact H24
    ipureintro; rfl
  isplitl [H25]
  · iexists _; isplitr; swap; · iexact H25
    ipureintro; rfl
  isplitl [H26]
  · iexists _; isplitr; swap; · iexact H26
    ipureintro; rfl
  isplitl [H27]
  · iexists _; isplitr; swap; · iexact H27
    ipureintro; rfl
  isplitl [H28]
  · iexists _; isplitr; swap; · iexact H28
    ipureintro; rfl
  isplitl [H29]
  · iexists _; isplitr; swap; · iexact H29
    ipureintro; rfl
  isplitl [H30]
  · iexists _; isplitr; swap; · iexact H30
    ipureintro; rfl
  isplitl [H31]
  · iexists _; isplitr; swap; · iexact H31
    ipureintro
    refine (Cert.Own.read_full _ _ Cert.Own.zero2 _ _ _).trans ?_
    repeat delta run1a.sl.H31_1 run1a.sl.H32_1 run1a.sl.H33_1 run1a.sl.H33_2 run1a.sl.H33_3 run1a.sl.H33_4 run1a.sl.H33_5 run1a.sl.H34_1 run1a.sl.H34_2 run1a.sl.H34_3 run1a.sl.H34_4 run1a.sl.H34_5 run1a.sl.cst_158 run1a.sl.cst_174 run1a.sl.cst_73 run1a.sl.r run1a.sl.r_1 run1a.sl.r_10 run1a.sl.r_11 run1a.sl.r_12 run1a.sl.r_13 run1a.sl.r_14 run1a.sl.r_15 run1a.sl.r_16 run1a.sl.r_17 run1a.sl.r_2 run1a.sl.r_3 run1a.sl.r_4 run1a.sl.r_5 run1a.sl.r_6 run1a.sl.r_7 run1a.sl.r_8 run1a.sl.r_9 run1a.sl.v119 run1a.sl.v12 run1a.sl.v13 run1a.sl.v131 run1a.sl.v14 run1a.sl.v183 run1a.sl.v195 run1a.sl.v208 run1a.sl.v21 run1a.sl.v247 run1a.sl.v259 run1a.sl.v33 run1a.sl.v372 run1a.sl.v373 run1a.sl.v55 run1a.sl.v67 run1a.sl.v79 run1a.sl.v80
    simp only [Cert.Own.readCov2, Cert.Own.readAt2, p3Of, al2Of, pOf, d3Of, m2Of, e2aOf, e2bOf, al2rOf]; rfl
  isplitl [H32]
  · iexists _; isplitr; swap; · iexact H32
    ipureintro
    refine (Cert.Own.read_full _ _ Cert.Own.zero2 _ _ _).trans ?_
    repeat delta run1a.sl.H31_1 run1a.sl.H32_1 run1a.sl.H33_1 run1a.sl.H33_2 run1a.sl.H33_3 run1a.sl.H33_4 run1a.sl.H33_5 run1a.sl.H34_1 run1a.sl.H34_2 run1a.sl.H34_3 run1a.sl.H34_4 run1a.sl.H34_5 run1a.sl.cst_158 run1a.sl.cst_174 run1a.sl.cst_73 run1a.sl.r run1a.sl.r_1 run1a.sl.r_10 run1a.sl.r_11 run1a.sl.r_12 run1a.sl.r_13 run1a.sl.r_14 run1a.sl.r_15 run1a.sl.r_16 run1a.sl.r_17 run1a.sl.r_2 run1a.sl.r_3 run1a.sl.r_4 run1a.sl.r_5 run1a.sl.r_6 run1a.sl.r_7 run1a.sl.r_8 run1a.sl.r_9 run1a.sl.v119 run1a.sl.v12 run1a.sl.v13 run1a.sl.v131 run1a.sl.v14 run1a.sl.v183 run1a.sl.v195 run1a.sl.v208 run1a.sl.v21 run1a.sl.v247 run1a.sl.v259 run1a.sl.v33 run1a.sl.v372 run1a.sl.v373 run1a.sl.v55 run1a.sl.v67 run1a.sl.v79 run1a.sl.v80
    simp only [Cert.Own.readCov2, Cert.Own.readAt2, p3Of, al2Of, pOf, d3Of, m2Of, e2aOf, e2bOf, al2rOf]; rfl
  isplitl [H33]
  · iexists _; isplitr; swap; · iexact H33
    ipureintro
    refine (Cert.Own.read_full _ _ Cert.Own.zero2 _ _ _).trans ?_
    repeat delta run1a.sl.H31_1 run1a.sl.H32_1 run1a.sl.H33_1 run1a.sl.H33_2 run1a.sl.H33_3 run1a.sl.H33_4 run1a.sl.H33_5 run1a.sl.H34_1 run1a.sl.H34_2 run1a.sl.H34_3 run1a.sl.H34_4 run1a.sl.H34_5 run1a.sl.cst_158 run1a.sl.cst_174 run1a.sl.cst_73 run1a.sl.r run1a.sl.r_1 run1a.sl.r_10 run1a.sl.r_11 run1a.sl.r_12 run1a.sl.r_13 run1a.sl.r_14 run1a.sl.r_15 run1a.sl.r_16 run1a.sl.r_17 run1a.sl.r_2 run1a.sl.r_3 run1a.sl.r_4 run1a.sl.r_5 run1a.sl.r_6 run1a.sl.r_7 run1a.sl.r_8 run1a.sl.r_9 run1a.sl.v119 run1a.sl.v12 run1a.sl.v13 run1a.sl.v131 run1a.sl.v14 run1a.sl.v183 run1a.sl.v195 run1a.sl.v208 run1a.sl.v21 run1a.sl.v247 run1a.sl.v259 run1a.sl.v33 run1a.sl.v372 run1a.sl.v373 run1a.sl.v55 run1a.sl.v67 run1a.sl.v79 run1a.sl.v80
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  · iexists _; isplitr; swap; · iexact H34
    ipureintro
    refine (Cert.Own.read_full _ _ Cert.Own.zero2 _ _ _).trans ?_
    repeat delta run1a.sl.H31_1 run1a.sl.H32_1 run1a.sl.H33_1 run1a.sl.H33_2 run1a.sl.H33_3 run1a.sl.H33_4 run1a.sl.H33_5 run1a.sl.H34_1 run1a.sl.H34_2 run1a.sl.H34_3 run1a.sl.H34_4 run1a.sl.H34_5 run1a.sl.cst_158 run1a.sl.cst_174 run1a.sl.cst_73 run1a.sl.r run1a.sl.r_1 run1a.sl.r_10 run1a.sl.r_11 run1a.sl.r_12 run1a.sl.r_13 run1a.sl.r_14 run1a.sl.r_15 run1a.sl.r_16 run1a.sl.r_17 run1a.sl.r_2 run1a.sl.r_3 run1a.sl.r_4 run1a.sl.r_5 run1a.sl.r_6 run1a.sl.r_7 run1a.sl.r_8 run1a.sl.r_9 run1a.sl.v119 run1a.sl.v12 run1a.sl.v13 run1a.sl.v131 run1a.sl.v14 run1a.sl.v183 run1a.sl.v195 run1a.sl.v208 run1a.sl.v21 run1a.sl.v247 run1a.sl.v259 run1a.sl.v33 run1a.sl.v372 run1a.sl.v373 run1a.sl.v55 run1a.sl.v67 run1a.sl.v79 run1a.sl.v80
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl

/-- At a later point the sums go on. -/
theorem run1b (c : Dev nD) (i : grid0.Coords) (h1 : ¬ k0_cond1 i = 1#1) (h3 : k0_cond3 i = 1#1) (h5 : ¬ k0_cond5 i = 1#1) (h7 : ¬ k0_cond7 i = 1#1)
    (hb : ¬ Scalar.cmpi .ne (Scalar.extui (Scalar.cmpi .eq (BitVec.ofNat 32 (i 1).val) 0#32) : BitVec 32) 0#32 = 1#1)
    (I : Ins F) (G31 : Vec F S8x120 .f32) (G32 : Vec F S1x120 .f32) (G33 : Vec F S1x60 .f32) (G34 : Vec F S1x60 .f32) (K : PUnit → sProp 𝕄) :
    iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg31 fullShare G31 ∗ owns (c : Thread nD τ) arg32 fullShare G32 ∗ owns (c : Thread nD τ) arg33 fullShare G33 ∗ owns (c : Thread nD τ) arg34 fullShare G34
        ∗ (iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg31 fullShare G31 ∗ owns (c : Thread nD τ) arg32 fullShare G32 ∗ owns (c : Thread nD τ) arg33 fullShare (sum3Step (hRow I G31 G32 (bWord i 3#32) (View.ld I.x (Rect.unit (s := S16384x2) (k0_off2 i 3#32) S2048x2.size (k0_off2_inb i h3 3)))) (sum3Step (hRow I G31 G32 (bWord i 2#32) (View.ld I.x (Rect.unit (s := S16384x2) (k0_off2 i 2#32) S2048x2.size (k0_off2_inb i h3 2)))) (sum3Step (hRow I G31 G32 (bWord i 1#32) (View.ld I.x (Rect.unit (s := S16384x2) (k0_off2 i 1#32) S2048x2.size (k0_off2_inb i h3 1)))) (sum3Step (hRow I G31 G32 (bWord i 0#32) (View.ld I.x (Rect.unit (s := S16384x2) (k0_off2 i 0#32) S2048x2.size (k0_off2_inb i h3 0)))) ⟨G33, G34⟩)))).s ∗ owns (c : Thread nD τ) arg34 fullShare (sum3Step (hRow I G31 G32 (bWord i 3#32) (View.ld I.x (Rect.unit (s := S16384x2) (k0_off2 i 3#32) S2048x2.size (k0_off2_inb i h3 3)))) (sum3Step (hRow I G31 G32 (bWord i 2#32) (View.ld I.x (Rect.unit (s := S16384x2) (k0_off2 i 2#32) S2048x2.size (k0_off2_inb i h3 2)))) (sum3Step (hRow I G31 G32 (bWord i 1#32) (View.ld I.x (Rect.unit (s := S16384x2) (k0_off2 i 1#32) S2048x2.size (k0_off2_inb i h3 1)))) (sum3Step (hRow I G31 G32 (bWord i 0#32) (View.ld I.x (Rect.unit (s := S16384x2) (k0_off2 i 0#32) S2048x2.size (k0_off2_inb i h3 0)))) ⟨G33, G34⟩)))).q) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f13, %e13, H13⟩, ⟨%f14, %e14, H14⟩, ⟨%f15, %e15, H15⟩, ⟨%f31, %e31, H31⟩, ⟨%f32, %e32, H32⟩, ⟨%f33, %e33, H33⟩, ⟨%f34, %e34, H34⟩, Hk⟩
  subst e2; subst e13; subst e14; subst e15; subst e31; subst e32; subst e33; subst e34
  sl_exec!
  sl_step
  iapply Hk
  isplitl [H2]
  · iexists _; isplitr; swap; · iexact H2
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H31]
  · iexists _; isplitr; swap; · iexact H31
    ipureintro; rfl
  isplitl [H32]
  · iexists _; isplitr; swap; · iexact H32
    ipureintro; rfl
  isplitl [H33]
  · iexists _; isplitr; swap; · iexact H33
    ipureintro
    refine (Cert.Own.read_full _ _ Cert.Own.zero2 _ _ _).trans ?_
    repeat delta run1b.sl.H33_1 run1b.sl.H33_2 run1b.sl.H33_3 run1b.sl.H33_4 run1b.sl.H34_1 run1b.sl.H34_2 run1b.sl.H34_3 run1b.sl.H34_4 run1b.sl.cst_73 run1b.sl.r run1b.sl.r_1 run1b.sl.r_2 run1b.sl.r_3 run1b.sl.r_4 run1b.sl.r_5 run1b.sl.r_6 run1b.sl.r_7 run1b.sl.r_8 run1b.sl.v119 run1b.sl.v12 run1b.sl.v13 run1b.sl.v131 run1b.sl.v14 run1b.sl.v183 run1b.sl.v195 run1b.sl.v208 run1b.sl.v247 run1b.sl.v259 run1b.sl.v79 run1b.sl.v80
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  · iexists _; isplitr; swap; · iexact H34
    ipureintro
    refine (Cert.Own.read_full _ _ Cert.Own.zero2 _ _ _).trans ?_
    repeat delta run1b.sl.H33_1 run1b.sl.H33_2 run1b.sl.H33_3 run1b.sl.H33_4 run1b.sl.H34_1 run1b.sl.H34_2 run1b.sl.H34_3 run1b.sl.H34_4 run1b.sl.cst_73 run1b.sl.r run1b.sl.r_1 run1b.sl.r_2 run1b.sl.r_3 run1b.sl.r_4 run1b.sl.r_5 run1b.sl.r_6 run1b.sl.r_7 run1b.sl.r_8 run1b.sl.v119 run1b.sl.v12 run1b.sl.v13 run1b.sl.v131 run1b.sl.v14 run1b.sl.v183 run1b.sl.v195 run1b.sl.v208 run1b.sl.v247 run1b.sl.v259 run1b.sl.v79 run1b.sl.v80
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl

end Cert.KernelIdeal.Hand
-- ==== Proof.KI.Run2.lean ====
/-
  The body at a point of the third phase: the rows of the maximum over the four points, and their sums.
-/
module

public import proofs.«01_k».proof.Proof.Gen.KernelIdeal.Frame
public import proofs.«01_k».proof.Proof.KI.Fold
public import Idealize.ShloMosaic.Lib.Pipeline.Frame
public import Idealize.ShloMosaic.Lib.Tactic

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable
  (arg2 : Memref sig .tc .vmem S16384x2 .f32) (harg2 : arg2.IsWhole)
  (arg3 : Memref sig .tc .vmem S20x2 .f32) (harg3 : arg3.IsWhole)
  (arg4 : Memref sig .tc .vmem S42x60 .bf16) (harg4 : arg4.IsWhole)
  (arg5 : Memref sig .tc .vmem S1x60 .f32) (harg5 : arg5.IsWhole)
  (arg6 : Memref sig .tc .vmem S122x30 .bf16) (harg6 : arg6.IsWhole)
  (arg7 : Memref sig .tc .vmem S1x60 .f32) (harg7 : arg7.IsWhole)
  (arg8 : Memref sig .tc .vmem S1x60 .f32) (harg8 : arg8.IsWhole)
  (arg9 : Memref sig .tc .vmem S1x30 .f32) (harg9 : arg9.IsWhole)
  (arg10 : Memref sig .tc .vmem S1x30 .f32) (harg10 : arg10.IsWhole)
  (arg11 : Memref sig .tc .vmem S1x30 .f32) (harg11 : arg11.IsWhole)
  (arg12 : Memref sig .tc .vmem S32x8 .f32) (harg12 : arg12.IsWhole)
  (arg13 : Memref sig .tc .vmem S120x240 .bf16) (harg13 : arg13.IsWhole)
  (arg14 : Memref sig .tc .vmem S2x120 .bf16) (harg14 : arg14.IsWhole)
  (arg15 : Memref sig .tc .vmem S1x240 .f32) (harg15 : arg15.IsWhole)
  (arg16 : Memref sig .tc .vmem S1x60 .f32) (harg16 : arg16.IsWhole)
  (arg17 : Memref sig .tc .vmem S1x60 .f32) (harg17 : arg17.IsWhole)
  (arg18 : Memref sig .tc .vmem S1x60 .f32) (harg18 : arg18.IsWhole)
  (arg19 : Memref sig .tc .vmem S1x60 .f32) (harg19 : arg19.IsWhole)
  (arg20 : Memref sig .tc .vmem S60x2 .bf16) (harg20 : arg20.IsWhole)
  (arg21 : Memref sig .tc .vmem S1x2 .f32) (harg21 : arg21.IsWhole)
  (arg22 : Memref sig .tc .vmem S16384x2 .f32) (harg22 : arg22.IsWhole)
  (arg23 : Memref sig .tc .vmem S16384x60 .f32) (harg23 : arg23.IsWhole)
  (arg24 : Memref sig .tc .vmem S1x60 .f32) (harg24 : arg24.IsWhole)
  (arg25 : Memref sig .tc .vmem S1x60 .f32) (harg25 : arg25.IsWhole)
  (arg26 : Memref sig .tc .vmem S8x30 .f32) (harg26 : arg26.IsWhole)
  (arg27 : Memref sig .tc .vmem S8x30 .f32) (harg27 : arg27.IsWhole)
  (arg28 : Memref sig .tc .vmem S32x30 .f32) (harg28 : arg28.IsWhole)
  (arg29 : Memref sig .tc .vmem S8x60 .f32) (harg29 : arg29.IsWhole)
  (arg30 : Memref sig .tc .vmem S32x60 .f32) (harg30 : arg30.IsWhole)
  (arg31 : Memref sig .tc .vmem S8x120 .f32) (harg31 : arg31.IsWhole)
  (arg32 : Memref sig .tc .vmem S1x120 .f32) (harg32 : arg32.IsWhole)
  (arg33 : Memref sig .tc .vmem S1x60 .f32) (harg33 : arg33.IsWhole)
  (arg34 : Memref sig .tc .vmem S1x60 .f32) (harg34 : arg34.IsWhole)
  (arg35 : Memref sig .tc .vmem S1x60 .f32) (harg35 : arg35.IsWhole)
  (arg36 : Memref sig .tc .vmem S1x60 .f32) (harg36 : arg36.IsWhole)

/-- At its first point the phase starts its sums afresh. -/
theorem run2a (c : Dev nD) (i : grid0.Coords) (h1 : ¬ k0_cond1 i = 1#1) (h3 : ¬ k0_cond3 i = 1#1) (h5 : k0_cond5 i = 1#1) (h7 : ¬ k0_cond7 i = 1#1)
    (hb : Scalar.cmpi .ne (Scalar.extui (Scalar.cmpi .eq (BitVec.ofNat 32 (i 1).val) 0#32) : BitVec 32) 0#32 = 1#1)
    (I : Ins F) (G23 : Vec F S16384x60 .f32) (G31 : Vec F S8x120 .f32) (G32 : Vec F S1x120 .f32) (G33 : Vec F S1x60 .f32) (G34 : Vec F S1x60 .f32) (G35 : Vec F S1x60 .f32) (G36 : Vec F S1x60 .f32) (K : PUnit → sProp 𝕄) :
    iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg16 fullShare I.bg2 ∗ owns (c : Thread nD τ) arg17 fullShare I.bb2 ∗ owns (c : Thread nD τ) arg31 fullShare G31 ∗ owns (c : Thread nD τ) arg32 fullShare G32 ∗ owns (c : Thread nD τ) arg33 fullShare G33 ∗ owns (c : Thread nD τ) arg34 fullShare G34 ∗ owns (c : Thread nD τ) arg23 fullShare G23 ∗ owns (c : Thread nD τ) arg35 fullShare G35 ∗ owns (c : Thread nD τ) arg36 fullShare G36
        ∗ (iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg16 fullShare I.bg2 ∗ owns (c : Thread nD τ) arg17 fullShare I.bb2 ∗ owns (c : Thread nD τ) arg31 fullShare G31 ∗ owns (c : Thread nD τ) arg32 fullShare G32 ∗ owns (c : Thread nD τ) arg33 fullShare G33 ∗ owns (c : Thread nD τ) arg34 fullShare G34 ∗ owns (c : Thread nD τ) arg23 fullShare ((Rect.unit (s := S16384x60) (k0_off4 i 3#32) S2048x60.size (k0_off4_inb i h5 3)).overlay ((Rect.unit (s := S16384x60) (k0_off4 i 2#32) S2048x60.size (k0_off4_inb i h5 2)).overlay ((Rect.unit (s := S16384x60) (k0_off4 i 1#32) S2048x60.size (k0_off4_inb i h5 1)).overlay ((Rect.unit (s := S16384x60) (k0_off4 i 0#32) S2048x60.size (k0_off4_inb i h5 0)).overlay G23 (npRow I G31 G32 ⟨G33, G34⟩ (bWord i 0#32) (View.ld I.x (Rect.unit (s := S16384x2) (k0_off3 i 0#32) S2048x2.size (k0_off3_inb i h5 0))))) (npRow I G31 G32 ⟨G33, G34⟩ (bWord i 1#32) (View.ld I.x (Rect.unit (s := S16384x2) (k0_off3 i 1#32) S2048x2.size (k0_off3_inb i h5 1))))) (npRow I G31 G32 ⟨G33, G34⟩ (bWord i 2#32) (View.ld I.x (Rect.unit (s := S16384x2) (k0_off3 i 2#32) S2048x2.size (k0_off3_inb i h5 2))))) (npRow I G31 G32 ⟨G33, G34⟩ (bWord i 3#32) (View.ld I.x (Rect.unit (s := S16384x2) (k0_off3 i 3#32) S2048x2.size (k0_off3_inb i h5 3))))) ∗ owns (c : Thread nD τ) arg35 fullShare (sum4Step (npRow I G31 G32 ⟨G33, G34⟩ (bWord i 3#32) (View.ld I.x (Rect.unit (s := S16384x2) (k0_off3 i 3#32) S2048x2.size (k0_off3_inb i h5 3)))) (sum4Step (npRow I G31 G32 ⟨G33, G34⟩ (bWord i 2#32) (View.ld I.x (Rect.unit (s := S16384x2) (k0_off3 i 2#32) S2048x2.size (k0_off3_inb i h5 2)))) (sum4Step (npRow I G31 G32 ⟨G33, G34⟩ (bWord i 1#32) (View.ld I.x (Rect.unit (s := S16384x2) (k0_off3 i 1#32) S2048x2.size (k0_off3_inb i h5 1)))) (sum4Step (npRow I G31 G32 ⟨G33, G34⟩ (bWord i 0#32) (View.ld I.x (Rect.unit (s := S16384x2) (k0_off3 i 0#32) S2048x2.size (k0_off3_inb i h5 0)))) sums4)))).s ∗ owns (c : Thread nD τ) arg36 fullShare (sum4Step (npRow I G31 G32 ⟨G33, G34⟩ (bWord i 3#32) (View.ld I.x (Rect.unit (s := S16384x2) (k0_off3 i 3#32) S2048x2.size (k0_off3_inb i h5 3)))) (sum4Step (npRow I G31 G32 ⟨G33, G34⟩ (bWord i 2#32) (View.ld I.x (Rect.unit (s := S16384x2) (k0_off3 i 2#32) S2048x2.size (k0_off3_inb i h5 2)))) (sum4Step (npRow I G31 G32 ⟨G33, G34⟩ (bWord i 1#32) (View.ld I.x (Rect.unit (s := S16384x2) (k0_off3 i 1#32) S2048x2.size (k0_off3_inb i h5 1)))) (sum4Step (npRow I G31 G32 ⟨G33, G34⟩ (bWord i 0#32) (View.ld I.x (Rect.unit (s := S16384x2) (k0_off3 i 0#32) S2048x2.size (k0_off3_inb i h5 0)))) sums4)))).q) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f13, %e13, H13⟩, ⟨%f14, %e14, H14⟩, ⟨%f15, %e15, H15⟩, ⟨%f16, %e16, H16⟩, ⟨%f17, %e17, H17⟩, ⟨%f31, %e31, H31⟩, ⟨%f32, %e32, H32⟩, ⟨%f33, %e33, H33⟩, ⟨%f34, %e34, H34⟩, ⟨%f23, %e23, H23⟩, ⟨%f35, %e35, H35⟩, ⟨%f36, %e36, H36⟩, Hk⟩
  subst e2; subst e13; subst e14; subst e15; subst e16; subst e17; subst e31; subst e32; subst e33; subst e34; subst e23; subst e35; subst e36
  sl_exec!
  sl_step
  iapply Hk
  isplitl [H2]
  · iexists _; isplitr; swap; · iexact H2
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H31]
  · iexists _; isplitr; swap; · iexact H31
    ipureintro; rfl
  isplitl [H32]
  · iexists _; isplitr; swap; · iexact H32
    ipureintro; rfl
  isplitl [H33]
  · iexists _; isplitr; swap; · iexact H33
    ipureintro; rfl
  isplitl [H34]
  · iexists _; isplitr; swap; · iexact H34
    ipureintro; rfl
  isplitl [H23]
  · iexists _; isplitr; swap; · iexact H23
    ipureintro
    repeat delta run2a.sl.H35_1 run2a.sl.H35_2 run2a.sl.H35_3 run2a.sl.H35_4 run2a.sl.H35_5 run2a.sl.H36_1 run2a.sl.H36_2 run2a.sl.H36_3 run2a.sl.H36_4 run2a.sl.H36_5 run2a.sl.r run2a.sl.r_1 run2a.sl.r_10 run2a.sl.r_11 run2a.sl.r_2 run2a.sl.r_3 run2a.sl.r_4 run2a.sl.r_5 run2a.sl.r_6 run2a.sl.r_7 run2a.sl.r_8 run2a.sl.r_9 run2a.sl.v103 run2a.sl.v104 run2a.sl.v154 run2a.sl.v161 run2a.sl.v170 run2a.sl.v171 run2a.sl.v221 run2a.sl.v228 run2a.sl.v237 run2a.sl.v238 run2a.sl.v288 run2a.sl.v295 run2a.sl.v32 run2a.sl.v33 run2a.sl.v34 run2a.sl.v35 run2a.sl.v36 run2a.sl.v37 run2a.sl.v48 run2a.sl.v87 run2a.sl.v94
    simp only [Cert.Own.read_cons, Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  isplitl [H35]
  · iexists _; isplitr; swap; · iexact H35
    ipureintro
    refine (Cert.Own.read_full _ _ Cert.Own.zero2 _ _ _).trans ?_
    repeat delta run2a.sl.H35_1 run2a.sl.H35_2 run2a.sl.H35_3 run2a.sl.H35_4 run2a.sl.H35_5 run2a.sl.H36_1 run2a.sl.H36_2 run2a.sl.H36_3 run2a.sl.H36_4 run2a.sl.H36_5 run2a.sl.r run2a.sl.r_1 run2a.sl.r_10 run2a.sl.r_11 run2a.sl.r_2 run2a.sl.r_3 run2a.sl.r_4 run2a.sl.r_5 run2a.sl.r_6 run2a.sl.r_7 run2a.sl.r_8 run2a.sl.r_9 run2a.sl.v103 run2a.sl.v104 run2a.sl.v154 run2a.sl.v161 run2a.sl.v170 run2a.sl.v171 run2a.sl.v221 run2a.sl.v228 run2a.sl.v237 run2a.sl.v238 run2a.sl.v288 run2a.sl.v295 run2a.sl.v32 run2a.sl.v33 run2a.sl.v34 run2a.sl.v35 run2a.sl.v36 run2a.sl.v37 run2a.sl.v48 run2a.sl.v87 run2a.sl.v94
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  · iexists _; isplitr; swap; · iexact H36
    ipureintro
    refine (Cert.Own.read_full _ _ Cert.Own.zero2 _ _ _).trans ?_
    repeat delta run2a.sl.H35_1 run2a.sl.H35_2 run2a.sl.H35_3 run2a.sl.H35_4 run2a.sl.H35_5 run2a.sl.H36_1 run2a.sl.H36_2 run2a.sl.H36_3 run2a.sl.H36_4 run2a.sl.H36_5 run2a.sl.r run2a.sl.r_1 run2a.sl.r_10 run2a.sl.r_11 run2a.sl.r_2 run2a.sl.r_3 run2a.sl.r_4 run2a.sl.r_5 run2a.sl.r_6 run2a.sl.r_7 run2a.sl.r_8 run2a.sl.r_9 run2a.sl.v103 run2a.sl.v104 run2a.sl.v154 run2a.sl.v161 run2a.sl.v170 run2a.sl.v171 run2a.sl.v221 run2a.sl.v228 run2a.sl.v237 run2a.sl.v238 run2a.sl.v288 run2a.sl.v295 run2a.sl.v32 run2a.sl.v33 run2a.sl.v34 run2a.sl.v35 run2a.sl.v36 run2a.sl.v37 run2a.sl.v48 run2a.sl.v87 run2a.sl.v94
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl

/-- At a later point the sums go on. -/
theorem run2b (c : Dev nD) (i : grid0.Coords) (h1 : ¬ k0_cond1 i = 1#1) (h3 : ¬ k0_cond3 i = 1#1) (h5 : k0_cond5 i = 1#1) (h7 : ¬ k0_cond7 i = 1#1)
    (hb : ¬ Scalar.cmpi .ne (Scalar.extui (Scalar.cmpi .eq (BitVec.ofNat 32 (i 1).val) 0#32) : BitVec 32) 0#32 = 1#1)
    (I : Ins F) (G23 : Vec F S16384x60 .f32) (G31 : Vec F S8x120 .f32) (G32 : Vec F S1x120 .f32) (G33 : Vec F S1x60 .f32) (G34 : Vec F S1x60 .f32) (G35 : Vec F S1x60 .f32) (G36 : Vec F S1x60 .f32) (K : PUnit → sProp 𝕄) :
    iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg16 fullShare I.bg2 ∗ owns (c : Thread nD τ) arg17 fullShare I.bb2 ∗ owns (c : Thread nD τ) arg31 fullShare G31 ∗ owns (c : Thread nD τ) arg32 fullShare G32 ∗ owns (c : Thread nD τ) arg33 fullShare G33 ∗ owns (c : Thread nD τ) arg34 fullShare G34 ∗ owns (c : Thread nD τ) arg23 fullShare G23 ∗ owns (c : Thread nD τ) arg35 fullShare G35 ∗ owns (c : Thread nD τ) arg36 fullShare G36
        ∗ (iprop(owns (c : Thread nD τ) arg2 fullShare I.x ∗ owns (c : Thread nD τ) arg13 fullShare I.w2 ∗ owns (c : Thread nD τ) arg14 fullShare I.axy ∗ owns (c : Thread nD τ) arg15 fullShare I.c2b ∗ owns (c : Thread nD τ) arg16 fullShare I.bg2 ∗ owns (c : Thread nD τ) arg17 fullShare I.bb2 ∗ owns (c : Thread nD τ) arg31 fullShare G31 ∗ owns (c : Thread nD τ) arg32 fullShare G32 ∗ owns (c : Thread nD τ) arg33 fullShare G33 ∗ owns (c : Thread nD τ) arg34 fullShare G34 ∗ owns (c : Thread nD τ) arg23 fullShare ((Rect.unit (s := S16384x60) (k0_off4 i 3#32) S2048x60.size (k0_off4_inb i h5 3)).overlay ((Rect.unit (s := S16384x60) (k0_off4 i 2#32) S2048x60.size (k0_off4_inb i h5 2)).overlay ((Rect.unit (s := S16384x60) (k0_off4 i 1#32) S2048x60.size (k0_off4_inb i h5 1)).overlay ((Rect.unit (s := S16384x60) (k0_off4 i 0#32) S2048x60.size (k0_off4_inb i h5 0)).overlay G23 (npRow I G31 G32 ⟨G33, G34⟩ (bWord i 0#32) (View.ld I.x (Rect.unit (s := S16384x2) (k0_off3 i 0#32) S2048x2.size (k0_off3_inb i h5 0))))) (npRow I G31 G32 ⟨G33, G34⟩ (bWord i 1#32) (View.ld I.x (Rect.unit (s := S16384x2) (k0_off3 i 1#32) S2048x2.size (k0_off3_inb i h5 1))))) (npRow I G31 G32 ⟨G33, G34⟩ (bWord i 2#32) (View.ld I.x (Rect.unit (s := S16384x2) (k0_off3 i 2#32) S2048x2.size (k0_off3_inb i h5 2))))) (npRow I G31 G32 ⟨G33, G34⟩ (bWord i 3#32) (View.ld I.x (Rect.unit (s := S16384x2) (k0_off3 i 3#32) S2048x2.size (k0_off3_inb i h5 3))))) ∗ owns (c : Thread nD τ) arg35 fullShare (sum4Step (npRow I G31 G32 ⟨G33, G34⟩ (bWord i 3#32) (View.ld I.x (Rect.unit (s := S16384x2) (k0_off3 i 3#32) S2048x2.size (k0_off3_inb i h5 3)))) (sum4Step (npRow I G31 G32 ⟨G33, G34⟩ (bWord i 2#32) (View.ld I.x (Rect.unit (s := S16384x2) (k0_off3 i 2#32) S2048x2.size (k0_off3_inb i h5 2)))) (sum4Step (npRow I G31 G32 ⟨G33, G34⟩ (bWord i 1#32) (View.ld I.x (Rect.unit (s := S16384x2) (k0_off3 i 1#32) S2048x2.size (k0_off3_inb i h5 1)))) (sum4Step (npRow I G31 G32 ⟨G33, G34⟩ (bWord i 0#32) (View.ld I.x (Rect.unit (s := S16384x2) (k0_off3 i 0#32) S2048x2.size (k0_off3_inb i h5 0)))) ⟨G35, G36⟩)))).s ∗ owns (c : Thread nD τ) arg36 fullShare (sum4Step (npRow I G31 G32 ⟨G33, G34⟩ (bWord i 3#32) (View.ld I.x (Rect.unit (s := S16384x2) (k0_off3 i 3#32) S2048x2.size (k0_off3_inb i h5 3)))) (sum4Step (npRow I G31 G32 ⟨G33, G34⟩ (bWord i 2#32) (View.ld I.x (Rect.unit (s := S16384x2) (k0_off3 i 2#32) S2048x2.size (k0_off3_inb i h5 2)))) (sum4Step (npRow I G31 G32 ⟨G33, G34⟩ (bWord i 1#32) (View.ld I.x (Rect.unit (s := S16384x2) (k0_off3 i 1#32) S2048x2.size (k0_off3_inb i h5 1)))) (sum4Step (npRow I G31 G32 ⟨G33, G34⟩ (bWord i 0#32) (View.ld I.x (Rect.unit (s := S16384x2) (k0_off3 i 0#32) S2048x2.size (k0_off3_inb i h5 0)))) ⟨G35, G36⟩)))).q) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f2, %e2, H2⟩, ⟨%f13, %e13, H13⟩, ⟨%f14, %e14, H14⟩, ⟨%f15, %e15, H15⟩, ⟨%f16, %e16, H16⟩, ⟨%f17, %e17, H17⟩, ⟨%f31, %e31, H31⟩, ⟨%f32, %e32, H32⟩, ⟨%f33, %e33, H33⟩, ⟨%f34, %e34, H34⟩, ⟨%f23, %e23, H23⟩, ⟨%f35, %e35, H35⟩, ⟨%f36, %e36, H36⟩, Hk⟩
  subst e2; subst e13; subst e14; subst e15; subst e16; subst e17; subst e31; subst e32; subst e33; subst e34; subst e23; subst e35; subst e36
  sl_exec!
  sl_step
  iapply Hk
  isplitl [H2]
  · iexists _; isplitr; swap; · iexact H2
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H31]
  · iexists _; isplitr; swap; · iexact H31
    ipureintro; rfl
  isplitl [H32]
  · iexists _; isplitr; swap; · iexact H32
    ipureintro; rfl
  isplitl [H33]
  · iexists _; isplitr; swap; · iexact H33
    ipureintro; rfl
  isplitl [H34]
  · iexists _; isplitr; swap; · iexact H34
    ipureintro; rfl
  isplitl [H23]
  · iexists _; isplitr; swap; · iexact H23
    ipureintro
    repeat delta run2b.sl.H35_1 run2b.sl.H35_2 run2b.sl.H35_3 run2b.sl.H35_4 run2b.sl.H36_1 run2b.sl.H36_2 run2b.sl.H36_3 run2b.sl.H36_4 run2b.sl.r run2b.sl.r_1 run2b.sl.r_10 run2b.sl.r_11 run2b.sl.r_12 run2b.sl.r_2 run2b.sl.r_3 run2b.sl.r_4 run2b.sl.r_5 run2b.sl.r_6 run2b.sl.r_7 run2b.sl.r_8 run2b.sl.r_9 run2b.sl.v103 run2b.sl.v104 run2b.sl.v154 run2b.sl.v161 run2b.sl.v170 run2b.sl.v171 run2b.sl.v221 run2b.sl.v228 run2b.sl.v237 run2b.sl.v238 run2b.sl.v288 run2b.sl.v295 run2b.sl.v32 run2b.sl.v33 run2b.sl.v34 run2b.sl.v35 run2b.sl.v36 run2b.sl.v37 run2b.sl.v48
    simp only [Cert.Own.read_cons, Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  isplitl [H35]
  · iexists _; isplitr; swap; · iexact H35
    ipureintro
    refine (Cert.Own.read_full _ _ Cert.Own.zero2 _ _ _).trans ?_
    repeat delta run2b.sl.H35_1 run2b.sl.H35_2 run2b.sl.H35_3 run2b.sl.H35_4 run2b.sl.H36_1 run2b.sl.H36_2 run2b.sl.H36_3 run2b.sl.H36_4 run2b.sl.r run2b.sl.r_1 run2b.sl.r_10 run2b.sl.r_11 run2b.sl.r_12 run2b.sl.r_2 run2b.sl.r_3 run2b.sl.r_4 run2b.sl.r_5 run2b.sl.r_6 run2b.sl.r_7 run2b.sl.r_8 run2b.sl.r_9 run2b.sl.v103 run2b.sl.v104 run2b.sl.v154 run2b.sl.v161 run2b.sl.v170 run2b.sl.v171 run2b.sl.v221 run2b.sl.v228 run2b.sl.v237 run2b.sl.v238 run2b.sl.v288 run2b.sl.v295 run2b.sl.v32 run2b.sl.v33 run2b.sl.v34 run2b.sl.v35 run2b.sl.v36 run2b.sl.v37 run2b.sl.v48
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl
  · iexists _; isplitr; swap; · iexact H36
    ipureintro
    refine (Cert.Own.read_full _ _ Cert.Own.zero2 _ _ _).trans ?_
    repeat delta run2b.sl.H35_1 run2b.sl.H35_2 run2b.sl.H35_3 run2b.sl.H35_4 run2b.sl.H36_1 run2b.sl.H36_2 run2b.sl.H36_3 run2b.sl.H36_4 run2b.sl.r run2b.sl.r_1 run2b.sl.r_10 run2b.sl.r_11 run2b.sl.r_12 run2b.sl.r_2 run2b.sl.r_3 run2b.sl.r_4 run2b.sl.r_5 run2b.sl.r_6 run2b.sl.r_7 run2b.sl.r_8 run2b.sl.r_9 run2b.sl.v103 run2b.sl.v104 run2b.sl.v154 run2b.sl.v161 run2b.sl.v170 run2b.sl.v171 run2b.sl.v221 run2b.sl.v228 run2b.sl.v237 run2b.sl.v238 run2b.sl.v288 run2b.sl.v295 run2b.sl.v32 run2b.sl.v33 run2b.sl.v34 run2b.sl.v35 run2b.sl.v36 run2b.sl.v37 run2b.sl.v48
    simp only [Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl

end Cert.KernelIdeal.Hand
-- ==== Proof.KI.Run3.lean ====
/-
  The body at a point of the last phase: the rows of the result.
-/
module

public import proofs.«01_k».proof.Proof.Gen.KernelIdeal.Frame
public import proofs.«01_k».proof.Proof.KI.Fold
public import Idealize.ShloMosaic.Lib.Pipeline.Frame
public import Idealize.ShloMosaic.Lib.Tactic

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable
  (arg2 : Memref sig .tc .vmem S16384x2 .f32) (harg2 : arg2.IsWhole)
  (arg3 : Memref sig .tc .vmem S20x2 .f32) (harg3 : arg3.IsWhole)
  (arg4 : Memref sig .tc .vmem S42x60 .bf16) (harg4 : arg4.IsWhole)
  (arg5 : Memref sig .tc .vmem S1x60 .f32) (harg5 : arg5.IsWhole)
  (arg6 : Memref sig .tc .vmem S122x30 .bf16) (harg6 : arg6.IsWhole)
  (arg7 : Memref sig .tc .vmem S1x60 .f32) (harg7 : arg7.IsWhole)
  (arg8 : Memref sig .tc .vmem S1x60 .f32) (harg8 : arg8.IsWhole)
  (arg9 : Memref sig .tc .vmem S1x30 .f32) (harg9 : arg9.IsWhole)
  (arg10 : Memref sig .tc .vmem S1x30 .f32) (harg10 : arg10.IsWhole)
  (arg11 : Memref sig .tc .vmem S1x30 .f32) (harg11 : arg11.IsWhole)
  (arg12 : Memref sig .tc .vmem S32x8 .f32) (harg12 : arg12.IsWhole)
  (arg13 : Memref sig .tc .vmem S120x240 .bf16) (harg13 : arg13.IsWhole)
  (arg14 : Memref sig .tc .vmem S2x120 .bf16) (harg14 : arg14.IsWhole)
  (arg15 : Memref sig .tc .vmem S1x240 .f32) (harg15 : arg15.IsWhole)
  (arg16 : Memref sig .tc .vmem S1x60 .f32) (harg16 : arg16.IsWhole)
  (arg17 : Memref sig .tc .vmem S1x60 .f32) (harg17 : arg17.IsWhole)
  (arg18 : Memref sig .tc .vmem S1x60 .f32) (harg18 : arg18.IsWhole)
  (arg19 : Memref sig .tc .vmem S1x60 .f32) (harg19 : arg19.IsWhole)
  (arg20 : Memref sig .tc .vmem S60x2 .bf16) (harg20 : arg20.IsWhole)
  (arg21 : Memref sig .tc .vmem S1x2 .f32) (harg21 : arg21.IsWhole)
  (arg22 : Memref sig .tc .vmem S16384x2 .f32) (harg22 : arg22.IsWhole)
  (arg23 : Memref sig .tc .vmem S16384x60 .f32) (harg23 : arg23.IsWhole)
  (arg24 : Memref sig .tc .vmem S1x60 .f32) (harg24 : arg24.IsWhole)
  (arg25 : Memref sig .tc .vmem S1x60 .f32) (harg25 : arg25.IsWhole)
  (arg26 : Memref sig .tc .vmem S8x30 .f32) (harg26 : arg26.IsWhole)
  (arg27 : Memref sig .tc .vmem S8x30 .f32) (harg27 : arg27.IsWhole)
  (arg28 : Memref sig .tc .vmem S32x30 .f32) (harg28 : arg28.IsWhole)
  (arg29 : Memref sig .tc .vmem S8x60 .f32) (harg29 : arg29.IsWhole)
  (arg30 : Memref sig .tc .vmem S32x60 .f32) (harg30 : arg30.IsWhole)
  (arg31 : Memref sig .tc .vmem S8x120 .f32) (harg31 : arg31.IsWhole)
  (arg32 : Memref sig .tc .vmem S1x120 .f32) (harg32 : arg32.IsWhole)
  (arg33 : Memref sig .tc .vmem S1x60 .f32) (harg33 : arg33.IsWhole)
  (arg34 : Memref sig .tc .vmem S1x60 .f32) (harg34 : arg34.IsWhole)
  (arg35 : Memref sig .tc .vmem S1x60 .f32) (harg35 : arg35.IsWhole)
  (arg36 : Memref sig .tc .vmem S1x60 .f32) (harg36 : arg36.IsWhole)

/-- The four batches of the point get their rows, the others keep theirs. -/
theorem run3 (c : Dev nD) (i : grid0.Coords) (h1 : ¬ k0_cond1 i = 1#1) (h3 : ¬ k0_cond3 i = 1#1) (h5 : ¬ k0_cond5 i = 1#1) (h7 : k0_cond7 i = 1#1)
    (I : Ins F) (G22 : Vec F S16384x2 .f32) (G23 : Vec F S16384x60 .f32) (G35 : Vec F S1x60 .f32) (G36 : Vec F S1x60 .f32) (K : PUnit → sProp 𝕄) :
    iprop(owns (c : Thread nD τ) arg18 fullShare I.bg3 ∗ owns (c : Thread nD τ) arg19 fullShare I.bb3 ∗ owns (c : Thread nD τ) arg20 fullShare I.w4 ∗ owns (c : Thread nD τ) arg21 fullShare I.b4 ∗ owns (c : Thread nD τ) arg23 fullShare G23 ∗ owns (c : Thread nD τ) arg35 fullShare G35 ∗ owns (c : Thread nD τ) arg36 fullShare G36 ∗ owns (c : Thread nD τ) arg22 fullShare G22
        ∗ (iprop(owns (c : Thread nD τ) arg18 fullShare I.bg3 ∗ owns (c : Thread nD τ) arg19 fullShare I.bb3 ∗ owns (c : Thread nD τ) arg20 fullShare I.w4 ∗ owns (c : Thread nD τ) arg21 fullShare I.b4 ∗ owns (c : Thread nD τ) arg23 fullShare G23 ∗ owns (c : Thread nD τ) arg35 fullShare G35 ∗ owns (c : Thread nD τ) arg36 fullShare G36 ∗ owns (c : Thread nD τ) arg22 fullShare ((Rect.unit (s := S16384x2) (k0_off6 i 3#32) S2048x2.size (k0_off6_inb i h7 3)).overlay ((Rect.unit (s := S16384x2) (k0_off6 i 2#32) S2048x2.size (k0_off6_inb i h7 2)).overlay ((Rect.unit (s := S16384x2) (k0_off6 i 1#32) S2048x2.size (k0_off6_inb i h7 1)).overlay ((Rect.unit (s := S16384x2) (k0_off6 i 0#32) S2048x2.size (k0_off6_inb i h7 0)).overlay G22 (outRow I ⟨G35, G36⟩ (View.ld G23 (Rect.unit (s := S16384x60) (k0_off5 i 0#32) S2048x60.size (k0_off5_inb i h7 0))))) (outRow I ⟨G35, G36⟩ (View.ld G23 (Rect.unit (s := S16384x60) (k0_off5 i 1#32) S2048x60.size (k0_off5_inb i h7 1))))) (outRow I ⟨G35, G36⟩ (View.ld G23 (Rect.unit (s := S16384x60) (k0_off5 i 2#32) S2048x60.size (k0_off5_inb i h7 2))))) (outRow I ⟨G35, G36⟩ (View.ld G23 (Rect.unit (s := S16384x60) (k0_off5 i 3#32) S2048x60.size (k0_off5_inb i h7 3)))))) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨X2, X3, X4, X5, X6, X7, X8, X9, X10, X11, X12, X13, X14, X15, X16, X17, X18, X19, X20, X21⟩ := I
  simp only [cc0__body_eq_skeleton]; unfold cc0__body_skel
  unfold owns
  iintro ⟨⟨%f18, %e18, H18⟩, ⟨%f19, %e19, H19⟩, ⟨%f20, %e20, H20⟩, ⟨%f21, %e21, H21⟩, ⟨%f23, %e23, H23⟩, ⟨%f35, %e35, H35⟩, ⟨%f36, %e36, H36⟩, ⟨%f22, %e22, H22⟩, Hk⟩
  subst e18; subst e19; subst e20; subst e21; subst e23; subst e35; subst e36; subst e22
  sl_exec!
  sl_step
  iapply Hk
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H23]
  · iexists _; isplitr; swap; · iexact H23
    ipureintro; rfl
  isplitl [H35]
  · iexists _; isplitr; swap; · iexact H35
    ipureintro; rfl
  isplitl [H36]
  · iexists _; isplitr; swap; · iexact H36
    ipureintro; rfl
  · iexists _; isplitr; swap; · iexact H22
    ipureintro
    repeat delta run3.sl.r run3.sl.r_1 run3.sl.r_2 run3.sl.r_3 run3.sl.v72 run3.sl.v73 run3.sl.v74
    simp only [Cert.Own.read_cons, Cert.Own.readCov2, Cert.Own.readAt2, fold89, fold99, fold103, fold95, fold96, fold100, fold101, fold4, fold5, fold114, fold119, fold120, fold125, fold126, fold130, fold131, fold116, fold121, fold122, fold127, fold128, fold6, fold7, sum3Step, hRow, sums3, npRow, sum4Step, sums4, bWord, p3Of, al2Of, pOf, d3Of, m2Of, e2aOf, e2bOf, al2rOf]; rfl

end Cert.KernelIdeal.Hand
-- ==== Proof.KI.Body.lean ====
/-
  The body at each of the eight points, over everything the launch owns: the inputs, the output's buffer, the scratch buffers.
-/
module

public import proofs.«01_k».proof.Proof.Gen.KernelIdeal.Frame
public import proofs.«01_k».proof.Proof.KI.Run0
public import proofs.«01_k».proof.Proof.KI.Run1
public import proofs.«01_k».proof.Proof.KI.Run2
public import proofs.«01_k».proof.Proof.KI.Run3
public import Idealize.ShloMosaic.Lib.Pipeline.Frame
public import Idealize.ShloMosaic.Lib.Tactic

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the scratch buffers hold between two points. -/
structure St (F : FTy → Type) where
  np : Vec F S16384x60 .f32
  acc : Acc F
  p3 : Vec F S8x120 .f32
  al2 : Vec F S1x120 .f32
  s3 : Sums F
  s4 : Sums F

/-- The accumulators after a point of the first phase, from those before. -/
abbrev accPt (I : Ins F) (i : grid0.Coords) (h : k0_cond1 i = 1#1) (A : Acc F) : Acc F :=
  (accStep I (bWord i 3#32) (View.ld I.x (Rect.unit (s := S16384x2) (k0_off1 i 3#32) S2048x2.size (k0_off1_inb i h 3))) (accStep I (bWord i 2#32) (View.ld I.x (Rect.unit (s := S16384x2) (k0_off1 i 2#32) S2048x2.size (k0_off1_inb i h 2))) (accStep I (bWord i 1#32) (View.ld I.x (Rect.unit (s := S16384x2) (k0_off1 i 1#32) S2048x2.size (k0_off1_inb i h 1))) (accStep I (bWord i 0#32) (View.ld I.x (Rect.unit (s := S16384x2) (k0_off1 i 0#32) S2048x2.size (k0_off1_inb i h 0))) A))))

/-- The sums after a point of the second phase, from those before. -/
abbrev sum3Pt (I : Ins F) (P : Vec F S8x120 .f32) (Q : Vec F S1x120 .f32) (i : grid0.Coords) (h : k0_cond3 i = 1#1) (S : Sums F) : Sums F :=
  (sum3Step (hRow I P Q (bWord i 3#32) (View.ld I.x (Rect.unit (s := S16384x2) (k0_off2 i 3#32) S2048x2.size (k0_off2_inb i h 3)))) (sum3Step (hRow I P Q (bWord i 2#32) (View.ld I.x (Rect.unit (s := S16384x2) (k0_off2 i 2#32) S2048x2.size (k0_off2_inb i h 2)))) (sum3Step (hRow I P Q (bWord i 1#32) (View.ld I.x (Rect.unit (s := S16384x2) (k0_off2 i 1#32) S2048x2.size (k0_off2_inb i h 1)))) (sum3Step (hRow I P Q (bWord i 0#32) (View.ld I.x (Rect.unit (s := S16384x2) (k0_off2 i 0#32) S2048x2.size (k0_off2_inb i h 0)))) S))))

/-- The stored rows after a point of the third phase, and their sums. -/
abbrev npPt (I : Ins F) (P : Vec F S8x120 .f32) (Q : Vec F S1x120 .f32) (S : Sums F) (i : grid0.Coords) (h : k0_cond5 i = 1#1) (g : Vec F S16384x60 .f32) : Vec F S16384x60 .f32 :=
  ((Rect.unit (s := S16384x60) (k0_off4 i 3#32) S2048x60.size (k0_off4_inb i h 3)).overlay ((Rect.unit (s := S16384x60) (k0_off4 i 2#32) S2048x60.size (k0_off4_inb i h 2)).overlay ((Rect.unit (s := S16384x60) (k0_off4 i 1#32) S2048x60.size (k0_off4_inb i h 1)).overlay ((Rect.unit (s := S16384x60) (k0_off4 i 0#32) S2048x60.size (k0_off4_inb i h 0)).overlay g (npRow I P Q S (bWord i 0#32) (View.ld I.x (Rect.unit (s := S16384x2) (k0_off3 i 0#32) S2048x2.size (k0_off3_inb i h 0))))) (npRow I P Q S (bWord i 1#32) (View.ld I.x (Rect.unit (s := S16384x2) (k0_off3 i 1#32) S2048x2.size (k0_off3_inb i h 1))))) (npRow I P Q S (bWord i 2#32) (View.ld I.x (Rect.unit (s := S16384x2) (k0_off3 i 2#32) S2048x2.size (k0_off3_inb i h 2))))) (npRow I P Q S (bWord i 3#32) (View.ld I.x (Rect.unit (s := S16384x2) (k0_off3 i 3#32) S2048x2.size (k0_off3_inb i h 3)))))
abbrev sum4Pt (I : Ins F) (P : Vec F S8x120 .f32) (Q : Vec F S1x120 .f32) (S : Sums F) (i : grid0.Coords) (h : k0_cond5 i = 1#1) (T : Sums F) : Sums F :=
  (sum4Step (npRow I P Q S (bWord i 3#32) (View.ld I.x (Rect.unit (s := S16384x2) (k0_off3 i 3#32) S2048x2.size (k0_off3_inb i h 3)))) (sum4Step (npRow I P Q S (bWord i 2#32) (View.ld I.x (Rect.unit (s := S16384x2) (k0_off3 i 2#32) S2048x2.size (k0_off3_inb i h 2)))) (sum4Step (npRow I P Q S (bWord i 1#32) (View.ld I.x (Rect.unit (s := S16384x2) (k0_off3 i 1#32) S2048x2.size (k0_off3_inb i h 1)))) (sum4Step (npRow I P Q S (bWord i 0#32) (View.ld I.x (Rect.unit (s := S16384x2) (k0_off3 i 0#32) S2048x2.size (k0_off3_inb i h 0)))) T))))

/-- The result's rows after a point of the last phase. -/
abbrev outPt (I : Ins F) (T : Sums F) (g : Vec F S16384x60 .f32) (i : grid0.Coords) (h : k0_cond7 i = 1#1) (o : Vec F S16384x2 .f32) : Vec F S16384x2 .f32 :=
  ((Rect.unit (s := S16384x2) (k0_off6 i 3#32) S2048x2.size (k0_off6_inb i h 3)).overlay ((Rect.unit (s := S16384x2) (k0_off6 i 2#32) S2048x2.size (k0_off6_inb i h 2)).overlay ((Rect.unit (s := S16384x2) (k0_off6 i 1#32) S2048x2.size (k0_off6_inb i h 1)).overlay ((Rect.unit (s := S16384x2) (k0_off6 i 0#32) S2048x2.size (k0_off6_inb i h 0)).overlay o (outRow I T (View.ld g (Rect.unit (s := S16384x60) (k0_off5 i 0#32) S2048x60.size (k0_off5_inb i h 0))))) (outRow I T (View.ld g (Rect.unit (s := S16384x60) (k0_off5 i 1#32) S2048x60.size (k0_off5_inb i h 1))))) (outRow I T (View.ld g (Rect.unit (s := S16384x60) (k0_off5 i 2#32) S2048x60.size (k0_off5_inb i h 2))))) (outRow I T (View.ld g (Rect.unit (s := S16384x60) (k0_off5 i 3#32) S2048x60.size (k0_off5_inb i h 3)))))

/-- The inputs' staging buffers at a point. -/
def ins (c : Dev nD) (t : Fin cfg0.N) (I : Ins F) : sProp 𝕄 :=
  iprop(owns (c : Thread nD τ) (st0_0 t) fullShare I.x ∗ owns (c : Thread nD τ) (st0_1 t) fullShare I.fr ∗ owns (c : Thread nD τ) (st0_2 t) fullShare I.w1 ∗ owns (c : Thread nD τ) (st0_3 t) fullShare I.b1 ∗ owns (c : Thread nD τ) (st0_4 t) fullShare I.c1 ∗ owns (c : Thread nD τ) (st0_5 t) fullShare I.bg ∗ owns (c : Thread nD τ) (st0_6 t) fullShare I.bb ∗ owns (c : Thread nD τ) (st0_7 t) fullShare I.c1b ∗ owns (c : Thread nD τ) (st0_8 t) fullShare I.bg1 ∗ owns (c : Thread nD τ) (st0_9 t) fullShare I.bb1 ∗ owns (c : Thread nD τ) (st0_10 t) fullShare I.rep ∗ owns (c : Thread nD τ) (st0_11 t) fullShare I.w2 ∗ owns (c : Thread nD τ) (st0_12 t) fullShare I.axy ∗ owns (c : Thread nD τ) (st0_13 t) fullShare I.c2b ∗ owns (c : Thread nD τ) (st0_14 t) fullShare I.bg2 ∗ owns (c : Thread nD τ) (st0_15 t) fullShare I.bb2 ∗ owns (c : Thread nD τ) (st0_16 t) fullShare I.bg3 ∗ owns (c : Thread nD τ) (st0_17 t) fullShare I.bb3 ∗ owns (c : Thread nD τ) (st0_18 t) fullShare I.w4 ∗ owns (c : Thread nD τ) (st0_19 t) fullShare I.b4)

/-- The scratch buffers. -/
def scr (c : Dev nD) (S : St F) : sProp 𝕄 :=
  iprop(owns (c : Thread nD τ) (Memref.whole cc0_scratch0) fullShare S.np ∗ owns (c : Thread nD τ) (Memref.whole cc0_scratch1) fullShare S.acc.s1 ∗ owns (c : Thread nD τ) (Memref.whole cc0_scratch2) fullShare S.acc.z1 ∗ owns (c : Thread nD τ) (Memref.whole cc0_scratch3) fullShare S.acc.q1 ∗ owns (c : Thread nD τ) (Memref.whole cc0_scratch4) fullShare S.acc.q2 ∗ owns (c : Thread nD τ) (Memref.whole cc0_scratch5) fullShare S.acc.q4 ∗ owns (c : Thread nD τ) (Memref.whole cc0_scratch6) fullShare S.acc.tm ∗ owns (c : Thread nD τ) (Memref.whole cc0_scratch7) fullShare S.acc.t4 ∗ owns (c : Thread nD τ) (Memref.whole cc0_scratch8) fullShare S.p3 ∗ owns (c : Thread nD τ) (Memref.whole cc0_scratch9) fullShare S.al2 ∗ owns (c : Thread nD τ) (Memref.whole cc0_scratch10) fullShare S.s3.s ∗ owns (c : Thread nD τ) (Memref.whole cc0_scratch11) fullShare S.s3.q ∗ owns (c : Thread nD τ) (Memref.whole cc0_scratch12) fullShare S.s4.s ∗ owns (c : Thread nD τ) (Memref.whole cc0_scratch13) fullShare S.s4.q)

/-- A first point of the first phase. -/
theorem pt0a (c : Dev nD) (t : Fin cfg0.N) (h1 : k0_cond1 (grid0.coords t) = 1#1) (h3 : ¬ k0_cond3 (grid0.coords t) = 1#1) (h5 : ¬ k0_cond5 (grid0.coords t) = 1#1) (h7 : ¬ k0_cond7 (grid0.coords t) = 1#1)
    (hb : Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with acc := accPt I (grid0.coords t) h1 acc0 })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run0a _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.acc.s1) (S.acc.z1) (S.acc.q1) (S.acc.q2) (S.acc.q4) (S.acc.tm) (S.acc.t4) _)
  isplitl [H2]; · iexact H2
  isplitl [H3]; · iexact H3
  isplitl [H4]; · iexact H4
  isplitl [H5]; · iexact H5
  isplitl [H6]; · iexact H6
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H2, H3, H4, H5, H6, H24, H25, H26, H27, H28, H29, H30⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A later point of the first phase. -/
theorem pt0b (c : Dev nD) (t : Fin cfg0.N) (h1 : k0_cond1 (grid0.coords t) = 1#1) (h3 : ¬ k0_cond3 (grid0.coords t) = 1#1) (h5 : ¬ k0_cond5 (grid0.coords t) = 1#1) (h7 : ¬ k0_cond7 (grid0.coords t) = 1#1)
    (hb : ¬ Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with acc := accPt I (grid0.coords t) h1 S.acc })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run0b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.acc.s1) (S.acc.z1) (S.acc.q1) (S.acc.q2) (S.acc.q4) (S.acc.tm) (S.acc.t4) _)
  isplitl [H2]; · iexact H2
  isplitl [H3]; · iexact H3
  isplitl [H4]; · iexact H4
  isplitl [H5]; · iexact H5
  isplitl [H6]; · iexact H6
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H2, H3, H4, H5, H6, H24, H25, H26, H27, H28, H29, H30⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A first point of the second phase. -/
theorem pt1a (c : Dev nD) (t : Fin cfg0.N) (h1 : ¬ k0_cond1 (grid0.coords t) = 1#1) (h3 : k0_cond3 (grid0.coords t) = 1#1) (h5 : ¬ k0_cond5 (grid0.coords t) = 1#1) (h7 : ¬ k0_cond7 (grid0.coords t) = 1#1)
    (hb : Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with p3 := p3Of I S.acc, al2 := al2Of I S.acc, s3 := sum3Pt I (p3Of I S.acc) (al2Of I S.acc) (grid0.coords t) h3 sums3 })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run1a _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.acc.s1) (S.acc.z1) (S.acc.q1) (S.acc.q2) (S.acc.q4) (S.acc.tm) (S.acc.t4) (S.p3) (S.al2) (S.s3.s) (S.s3.q) _)
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H2, H6, H7, H8, H9, H10, H11, H12, H13, H14, H15, H24, H25, H26, H27, H28, H29, H30, H31, H32, H33, H34⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A later point of the second phase. -/
theorem pt1b (c : Dev nD) (t : Fin cfg0.N) (h1 : ¬ k0_cond1 (grid0.coords t) = 1#1) (h3 : k0_cond3 (grid0.coords t) = 1#1) (h5 : ¬ k0_cond5 (grid0.coords t) = 1#1) (h7 : ¬ k0_cond7 (grid0.coords t) = 1#1)
    (hb : ¬ Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with s3 := sum3Pt I S.p3 S.al2 (grid0.coords t) h3 S.s3 })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run1b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.p3) (S.al2) (S.s3.s) (S.s3.q) _)
  isplitl [H2]; · iexact H2
  isplitl [H13]; · iexact H13
  isplitl [H14]; · iexact H14
  isplitl [H15]; · iexact H15
  isplitl [H31]; · iexact H31
  isplitl [H32]; · iexact H32
  isplitl [H33]; · iexact H33
  isplitl [H34]; · iexact H34
  iintro ⟨H2, H13, H14, H15, H31, H32, H33, H34⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A first point of the third phase. -/
theorem pt2a (c : Dev nD) (t : Fin cfg0.N) (h1 : ¬ k0_cond1 (grid0.coords t) = 1#1) (h3 : ¬ k0_cond3 (grid0.coords t) = 1#1) (h5 : k0_cond5 (grid0.coords t) = 1#1) (h7 : ¬ k0_cond7 (grid0.coords t) = 1#1)
    (hb : Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with np := npPt I S.p3 S.al2 S.s3 (grid0.coords t) h5 S.np, s4 := sum4Pt I S.p3 S.al2 S.s3 (grid0.coords t) h5 sums4 })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run2a _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.np) (S.p3) (S.al2) (S.s3.s) (S.s3.q) (S.s4.s) (S.s4.q) _)
  isplitl [H2]; · iexact H2
  isplitl [H13]; · iexact H13
  isplitl [H14]; · iexact H14
  isplitl [H15]; · iexact H15
  isplitl [H16]; · iexact H16
  isplitl [H17]; · iexact H17
  isplitl [H31]; · iexact H31
  isplitl [H32]; · iexact H32
  isplitl [H33]; · iexact H33
  isplitl [H34]; · iexact H34
  isplitl [H23]; · iexact H23
  isplitl [H35]; · iexact H35
  isplitl [H36]; · iexact H36
  iintro ⟨H2, H13, H14, H15, H16, H17, H31, H32, H33, H34, H23, H35, H36⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A later point of the third phase. -/
theorem pt2b (c : Dev nD) (t : Fin cfg0.N) (h1 : ¬ k0_cond1 (grid0.coords t) = 1#1) (h3 : ¬ k0_cond3 (grid0.coords t) = 1#1) (h5 : k0_cond5 (grid0.coords t) = 1#1) (h7 : ¬ k0_cond7 (grid0.coords t) = 1#1)
    (hb : ¬ Scalar.cmpi .ne (Scalar.extui (Scalar.cmpi .eq (BitVec.ofNat 32 ((grid0.coords t) 1).val) 0#32) : BitVec 32) 0#32 = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare Y ∗ scr c { S with np := npPt I S.p3 S.al2 S.s3 (grid0.coords t) h5 S.np, s4 := sum4Pt I S.p3 S.al2 S.s3 (grid0.coords t) h5 S.s4 })) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run2b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 hb I (S.np) (S.p3) (S.al2) (S.s3.s) (S.s3.q) (S.s4.s) (S.s4.q) _)
  isplitl [H2]; · iexact H2
  isplitl [H13]; · iexact H13
  isplitl [H14]; · iexact H14
  isplitl [H15]; · iexact H15
  isplitl [H16]; · iexact H16
  isplitl [H17]; · iexact H17
  isplitl [H31]; · iexact H31
  isplitl [H32]; · iexact H32
  isplitl [H33]; · iexact H33
  isplitl [H34]; · iexact H34
  isplitl [H23]; · iexact H23
  isplitl [H35]; · iexact H35
  isplitl [H36]; · iexact H36
  iintro ⟨H2, H13, H14, H15, H16, H17, H31, H32, H33, H34, H23, H35, H36⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- A point of the last phase. -/
theorem pt3 (c : Dev nD) (t : Fin cfg0.N) (h1 : ¬ k0_cond1 (grid0.coords t) = 1#1) (h3 : ¬ k0_cond3 (grid0.coords t) = 1#1) (h5 : ¬ k0_cond5 (grid0.coords t) = 1#1) (h7 : k0_cond7 (grid0.coords t) = 1#1)
    (I : Ins F) (S : St F) (Y : Vec F S16384x2 .f32) :
    iprop(ins c t I ∗ owns (c : Thread nD τ) (st0_20 t) fullShare Y ∗ scr c S)
      ⊢ wp frame (wpE (defs₀ (F := F)) Variants.none c none) Set.univ (bodyAt0 t)
          (fun _ => iprop(ins c t I ∗ owns (c : Thread nD τ) (st0_20 t) fullShare (outPt I S.s4 S.np (grid0.coords t) h7 Y) ∗ scr c S)) := by
  unfold ins scr bodyAt0
  iintro ⟨⟨H2, H3, H4, H5, H6, H7, H8, H9, H10, H11, H12, H13, H14, H15, H16, H17, H18, H19, H20, H21⟩, H22, H23, H24, H25, H26, H27, H28, H29, H30, H31, H32, H33, H34, H35, H36⟩
  iapply (run3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ h1 h3 h5 h7 I (Y) (S.np) (S.s4.s) (S.s4.q) _)
  isplitl [H18]; · iexact H18
  isplitl [H19]; · iexact H19
  isplitl [H20]; · iexact H20
  isplitl [H21]; · iexact H21
  isplitl [H23]; · iexact H23
  isplitl [H35]; · iexact H35
  isplitl [H36]; · iexact H36
  isplitl [H22]; · iexact H22
  iintro ⟨H18, H19, H20, H21, H23, H35, H36, H22⟩
  isplitl [H2 H3 H4 H5 H6 H7 H8 H9 H10 H11 H12 H13 H14 H15 H16 H17 H18 H19 H20 H21]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

end Cert.KernelIdeal.Hand
-- ==== Proof.KI.Launch.lean ====
/-
  The launch: what the scratch buffers hold before each of the eight points, and the run of @main with it.
-/
module

public import proofs.«01_k».proof.Proof.KI.Body

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points' coordinates -/

theorem cond1_0 : k0_cond1 (grid0.coords t0_0) = 1#1 := by decide
theorem cond3_0 : ¬ k0_cond3 (grid0.coords t0_0) = 1#1 := by decide
theorem cond5_0 : ¬ k0_cond5 (grid0.coords t0_0) = 1#1 := by decide
theorem cond7_0 : ¬ k0_cond7 (grid0.coords t0_0) = 1#1 := by decide
theorem first_0 : Scalar.cmpi .ne (Scalar.extui (Scalar.cmpi .eq (BitVec.ofNat 32 ((grid0.coords t0_0) 1).val) 0#32) : BitVec 32) 0#32 = 1#1 := by decide
theorem cond1_1 : k0_cond1 (grid0.coords t0_1) = 1#1 := by decide
theorem cond3_1 : ¬ k0_cond3 (grid0.coords t0_1) = 1#1 := by decide
theorem cond5_1 : ¬ k0_cond5 (grid0.coords t0_1) = 1#1 := by decide
theorem cond7_1 : ¬ k0_cond7 (grid0.coords t0_1) = 1#1 := by decide
theorem first_1 : ¬ Scalar.cmpi .ne (Scalar.extui (Scalar.cmpi .eq (BitVec.ofNat 32 ((grid0.coords t0_1) 1).val) 0#32) : BitVec 32) 0#32 = 1#1 := by decide
theorem cond1_2 : ¬ k0_cond1 (grid0.coords t0_2) = 1#1 := by decide
theorem cond3_2 : k0_cond3 (grid0.coords t0_2) = 1#1 := by decide
theorem cond5_2 : ¬ k0_cond5 (grid0.coords t0_2) = 1#1 := by decide
theorem cond7_2 : ¬ k0_cond7 (grid0.coords t0_2) = 1#1 := by decide
theorem first_2 : Scalar.cmpi .ne (Scalar.extui (Scalar.cmpi .eq (BitVec.ofNat 32 ((grid0.coords t0_2) 1).val) 0#32) : BitVec 32) 0#32 = 1#1 := by decide
theorem cond1_3 : ¬ k0_cond1 (grid0.coords t0_3) = 1#1 := by decide
theorem cond3_3 : k0_cond3 (grid0.coords t0_3) = 1#1 := by decide
theorem cond5_3 : ¬ k0_cond5 (grid0.coords t0_3) = 1#1 := by decide
theorem cond7_3 : ¬ k0_cond7 (grid0.coords t0_3) = 1#1 := by decide
theorem first_3 : ¬ Scalar.cmpi .ne (Scalar.extui (Scalar.cmpi .eq (BitVec.ofNat 32 ((grid0.coords t0_3) 1).val) 0#32) : BitVec 32) 0#32 = 1#1 := by decide
theorem cond1_4 : ¬ k0_cond1 (grid0.coords t0_4) = 1#1 := by decide
theorem cond3_4 : ¬ k0_cond3 (grid0.coords t0_4) = 1#1 := by decide
theorem cond5_4 : k0_cond5 (grid0.coords t0_4) = 1#1 := by decide
theorem cond7_4 : ¬ k0_cond7 (grid0.coords t0_4) = 1#1 := by decide
theorem first_4 : Scalar.cmpi .ne (Scalar.extui (Scalar.cmpi .eq (BitVec.ofNat 32 ((grid0.coords t0_4) 1).val) 0#32) : BitVec 32) 0#32 = 1#1 := by decide
theorem cond1_5 : ¬ k0_cond1 (grid0.coords t0_5) = 1#1 := by decide
theorem cond3_5 : ¬ k0_cond3 (grid0.coords t0_5) = 1#1 := by decide
theorem cond5_5 : k0_cond5 (grid0.coords t0_5) = 1#1 := by decide
theorem cond7_5 : ¬ k0_cond7 (grid0.coords t0_5) = 1#1 := by decide
theorem first_5 : ¬ Scalar.cmpi .ne (Scalar.extui (Scalar.cmpi .eq (BitVec.ofNat 32 ((grid0.coords t0_5) 1).val) 0#32) : BitVec 32) 0#32 = 1#1 := by decide
theorem cond1_6 : ¬ k0_cond1 (grid0.coords t0_6) = 1#1 := by decide
theorem cond3_6 : ¬ k0_cond3 (grid0.coords t0_6) = 1#1 := by decide
theorem cond5_6 : ¬ k0_cond5 (grid0.coords t0_6) = 1#1 := by decide
theorem cond7_6 : k0_cond7 (grid0.coords t0_6) = 1#1 := by decide
theorem first_6 : Scalar.cmpi .ne (Scalar.extui (Scalar.cmpi .eq (BitVec.ofNat 32 ((grid0.coords t0_6) 1).val) 0#32) : BitVec 32) 0#32 = 1#1 := by decide
theorem cond1_7 : ¬ k0_cond1 (grid0.coords t0_7) = 1#1 := by decide
theorem cond3_7 : ¬ k0_cond3 (grid0.coords t0_7) = 1#1 := by decide
theorem cond5_7 : ¬ k0_cond5 (grid0.coords t0_7) = 1#1 := by decide
theorem cond7_7 : k0_cond7 (grid0.coords t0_7) = 1#1 := by decide
theorem first_7 : ¬ Scalar.cmpi .ne (Scalar.extui (Scalar.cmpi .eq (BitVec.ofNat 32 ((grid0.coords t0_7) 1).val) 0#32) : BitVec 32) 0#32 = 1#1 := by decide

/-! ## What the launch hands the body -/

/-- The blocks of the inputs: every window is its whole array, the same at every point. -/
def insOf (c : Dev nD) : Ins F where
  x := iblk m c 0 t0_0
  fr := iblk m c 1 t0_0
  w1 := iblk m c 2 t0_0
  b1 := iblk m c 3 t0_0
  c1 := iblk m c 4 t0_0
  bg := iblk m c 5 t0_0
  bb := iblk m c 6 t0_0
  c1b := iblk m c 7 t0_0
  bg1 := iblk m c 8 t0_0
  bb1 := iblk m c 9 t0_0
  rep := iblk m c 10 t0_0
  w2 := iblk m c 11 t0_0
  axy := iblk m c 12 t0_0
  c2b := iblk m c 13 t0_0
  bg2 := iblk m c 14 t0_0
  bb2 := iblk m c 15 t0_0
  bg3 := iblk m c 16 t0_0
  bb3 := iblk m c 17 t0_0
  w4 := iblk m c 18 t0_0
  b4 := iblk m c 19 t0_0

/-- The accumulators after the first point and after the first phase, -/
def acc1 (c : Dev nD) : Acc F := accPt (insOf m c) (grid0.coords t0_0) cond1_0 acc0
def acc2 (c : Dev nD) : Acc F := accPt (insOf m c) (grid0.coords t0_1) cond1_1 (acc1 m c)
/-- the second phase's coefficients, -/
def pAt (c : Dev nD) : Vec F S8x120 .f32 := p3Of (insOf m c) (acc2 m c)
def alAt (c : Dev nD) : Vec F S1x120 .f32 := al2Of (insOf m c) (acc2 m c)
/-- its sums after its first and its second point, -/
def sumA1 (c : Dev nD) : Sums F := sum3Pt (insOf m c) (pAt m c) (alAt m c) (grid0.coords t0_2) cond3_2 sums3
def sumA2 (c : Dev nD) : Sums F := sum3Pt (insOf m c) (pAt m c) (alAt m c) (grid0.coords t0_3) cond3_3 (sumA1 m c)
/-- the third phase's rows after its points, from what the buffer held before it, -/
def np1 (c : Dev nD) (g : Vec F S16384x60 .f32) : Vec F S16384x60 .f32 := npPt (insOf m c) (pAt m c) (alAt m c) (sumA2 m c) (grid0.coords t0_4) cond5_4 g
def np2 (c : Dev nD) (g : Vec F S16384x60 .f32) : Vec F S16384x60 .f32 := npPt (insOf m c) (pAt m c) (alAt m c) (sumA2 m c) (grid0.coords t0_5) cond5_5 (np1 m c g)
/-- and its sums. -/
def sumB1 (c : Dev nD) : Sums F := sum4Pt (insOf m c) (pAt m c) (alAt m c) (sumA2 m c) (grid0.coords t0_4) cond5_4 sums4
def sumB2 (c : Dev nD) : Sums F := sum4Pt (insOf m c) (pAt m c) (alAt m c) (sumA2 m c) (grid0.coords t0_5) cond5_5 (sumB1 m c)
/-- The result's buffer after the last phase's two points, from the third phase's rows and what it held before. -/
def out1 (c : Dev nD) (g : Vec F S16384x60 .f32) (o : Vec F S16384x2 .f32) : Vec F S16384x2 .f32 := outPt (insOf m c) (sumB2 m c) (np2 m c g) (grid0.coords t0_6) cond7_6 o
def out2 (c : Dev nD) (g : Vec F S16384x60 .f32) (o : Vec F S16384x2 .f32) : Vec F S16384x2 .f32 := outPt (insOf m c) (sumB2 m c) (np2 m c g) (grid0.coords t0_7) cond7_7 o

/-- What is known of the scratch buffers before point `n`. -/
def Holds (c : Dev nD) : ℕ → St F → Prop
  | 1, S => S.acc = acc1 m c
  | 2, S => S.acc = acc2 m c
  | 3, S => S.p3 = pAt m c ∧ S.al2 = alAt m c ∧ S.s3 = sumA1 m c
  | 4, S => S.p3 = pAt m c ∧ S.al2 = alAt m c ∧ S.s3 = sumA2 m c
  | 5, S => S.p3 = pAt m c ∧ S.al2 = alAt m c ∧ S.s3 = sumA2 m c ∧ S.s4 = sumB1 m c ∧ ∃ g, S.np = np1 m c g
  | 6, S => S.s4 = sumB2 m c ∧ ∃ g, S.np = np2 m c g
  | 7, S => S.s4 = sumB2 m c ∧ ∃ g, S.np = np2 m c g
  | _, _ => True

/-- What point `n` leaves in the result's buffer, from what it found there. -/
def OutStep (c : Dev nD) : ℕ → Vec F S16384x2 .f32 → Vec F S16384x2 .f32 → Prop
  | 6, Y, X => ∃ g, X = out1 m c g Y
  | 7, Y, X => ∃ g, X = out2 m c g Y
  | _, Y, X => X = Y

/-- The launch's data: the inputs kept, the result as `OutStep` says, the scratch buffers as `Holds` says. -/
def rdat (_ : Fin 1) (c : Dev nD) : RDat τ (Elt F) Unit ℕ (UR sig nD τ) ℕ cfg0 c where
  A w := V m c (Pipeline.arrRef spec0 w)
  after w t Y X := match w, Y, X with
    | 0, Y, X => X = Y
    | 1, Y, X => X = Y
    | 2, Y, X => X = Y
    | 3, Y, X => X = Y
    | 4, Y, X => X = Y
    | 5, Y, X => X = Y
    | 6, Y, X => X = Y
    | 7, Y, X => X = Y
    | 8, Y, X => X = Y
    | 9, Y, X => X = Y
    | 10, Y, X => X = Y
    | 11, Y, X => X = Y
    | 12, Y, X => X = Y
    | 13, Y, X => X = Y
    | 14, Y, X => X = Y
    | 15, Y, X => X = Y
    | 16, Y, X => X = Y
    | 17, Y, X => X = Y
    | 18, Y, X => X = Y
    | 19, Y, X => X = Y
    | 20, Y, X => OutStep m c t.val Y X
    | ⟨_ + 21, h⟩, _, _ => absurd h (Nat.not_lt.2 (Nat.le_add_left _ _))
  Φ t := iprop((∃ S, ⌜Holds m c t.val S⌝ ∗ scr c S) ∗ ∃ r, prngReg c r)
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem found_0 (c : Dev nD) (t : Fin cfg0.N) (Y) (h : (rdat m 0 c).Finds 0 t Y) : Y = (insOf m c).x := by
  obtain ⟨d, rfl⟩ := (rdat m 0 c).finds_in_eq_fetched 0 rfl (fun _ _ _ => rfl) (fun _ _ _ h => h) t Y h
  rfl
theorem found_1 (c : Dev nD) (t : Fin cfg0.N) (Y) (h : (rdat m 0 c).Finds 1 t Y) : Y = (insOf m c).fr := by
  obtain ⟨d, rfl⟩ := (rdat m 0 c).finds_in_eq_fetched 1 rfl (fun _ _ _ => rfl) (fun _ _ _ h => h) t Y h
  rfl
theorem found_2 (c : Dev nD) (t : Fin cfg0.N) (Y) (h : (rdat m 0 c).Finds 2 t Y) : Y = (insOf m c).w1 := by
  obtain ⟨d, rfl⟩ := (rdat m 0 c).finds_in_eq_fetched 2 rfl (fun _ _ _ => rfl) (fun _ _ _ h => h) t Y h
  rfl
theorem found_3 (c : Dev nD) (t : Fin cfg0.N) (Y) (h : (rdat m 0 c).Finds 3 t Y) : Y = (insOf m c).b1 := by
  obtain ⟨d, rfl⟩ := (rdat m 0 c).finds_in_eq_fetched 3 rfl (fun _ _ _ => rfl) (fun _ _ _ h => h) t Y h
  rfl
theorem found_4 (c : Dev nD) (t : Fin cfg0.N) (Y) (h : (rdat m 0 c).Finds 4 t Y) : Y = (insOf m c).c1 := by
  obtain ⟨d, rfl⟩ := (rdat m 0 c).finds_in_eq_fetched 4 rfl (fun _ _ _ => rfl) (fun _ _ _ h => h) t Y h
  rfl
theorem found_5 (c : Dev nD) (t : Fin cfg0.N) (Y) (h : (rdat m 0 c).Finds 5 t Y) : Y = (insOf m c).bg := by
  obtain ⟨d, rfl⟩ := (rdat m 0 c).finds_in_eq_fetched 5 rfl (fun _ _ _ => rfl) (fun _ _ _ h => h) t Y h
  rfl
theorem found_6 (c : Dev nD) (t : Fin cfg0.N) (Y) (h : (rdat m 0 c).Finds 6 t Y) : Y = (insOf m c).bb := by
  obtain ⟨d, rfl⟩ := (rdat m 0 c).finds_in_eq_fetched 6 rfl (fun _ _ _ => rfl) (fun _ _ _ h => h) t Y h
  rfl
theorem found_7 (c : Dev nD) (t : Fin cfg0.N) (Y) (h : (rdat m 0 c).Finds 7 t Y) : Y = (insOf m c).c1b := by
  obtain ⟨d, rfl⟩ := (rdat m 0 c).finds_in_eq_fetched 7 rfl (fun _ _ _ => rfl) (fun _ _ _ h => h) t Y h
  rfl
theorem found_8 (c : Dev nD) (t : Fin cfg0.N) (Y) (h : (rdat m 0 c).Finds 8 t Y) : Y = (insOf m c).bg1 := by
  obtain ⟨d, rfl⟩ := (rdat m 0 c).finds_in_eq_fetched 8 rfl (fun _ _ _ => rfl) (fun _ _ _ h => h) t Y h
  rfl
theorem found_9 (c : Dev nD) (t : Fin cfg0.N) (Y) (h : (rdat m 0 c).Finds 9 t Y) : Y = (insOf m c).bb1 := by
  obtain ⟨d, rfl⟩ := (rdat m 0 c).finds_in_eq_fetched 9 rfl (fun _ _ _ => rfl) (fun _ _ _ h => h) t Y h
  rfl
theorem found_10 (c : Dev nD) (t : Fin cfg0.N) (Y) (h : (rdat m 0 c).Finds 10 t Y) : Y = (insOf m c).rep := by
  obtain ⟨d, rfl⟩ := (rdat m 0 c).finds_in_eq_fetched 10 rfl (fun _ _ _ => rfl) (fun _ _ _ h => h) t Y h
  rfl
theorem found_11 (c : Dev nD) (t : Fin cfg0.N) (Y) (h : (rdat m 0 c).Finds 11 t Y) : Y = (insOf m c).w2 := by
  obtain ⟨d, rfl⟩ := (rdat m 0 c).finds_in_eq_fetched 11 rfl (fun _ _ _ => rfl) (fun _ _ _ h => h) t Y h
  rfl
theorem found_12 (c : Dev nD) (t : Fin cfg0.N) (Y) (h : (rdat m 0 c).Finds 12 t Y) : Y = (insOf m c).axy := by
  obtain ⟨d, rfl⟩ := (rdat m 0 c).finds_in_eq_fetched 12 rfl (fun _ _ _ => rfl) (fun _ _ _ h => h) t Y h
  rfl
theorem found_13 (c : Dev nD) (t : Fin cfg0.N) (Y) (h : (rdat m 0 c).Finds 13 t Y) : Y = (insOf m c).c2b := by
  obtain ⟨d, rfl⟩ := (rdat m 0 c).finds_in_eq_fetched 13 rfl (fun _ _ _ => rfl) (fun _ _ _ h => h) t Y h
  rfl
theorem found_14 (c : Dev nD) (t : Fin cfg0.N) (Y) (h : (rdat m 0 c).Finds 14 t Y) : Y = (insOf m c).bg2 := by
  obtain ⟨d, rfl⟩ := (rdat m 0 c).finds_in_eq_fetched 14 rfl (fun _ _ _ => rfl) (fun _ _ _ h => h) t Y h
  rfl
theorem found_15 (c : Dev nD) (t : Fin cfg0.N) (Y) (h : (rdat m 0 c).Finds 15 t Y) : Y = (insOf m c).bb2 := by
  obtain ⟨d, rfl⟩ := (rdat m 0 c).finds_in_eq_fetched 15 rfl (fun _ _ _ => rfl) (fun _ _ _ h => h) t Y h
  rfl
theorem found_16 (c : Dev nD) (t : Fin cfg0.N) (Y) (h : (rdat m 0 c).Finds 16 t Y) : Y = (insOf m c).bg3 := by
  obtain ⟨d, rfl⟩ := (rdat m 0 c).finds_in_eq_fetched 16 rfl (fun _ _ _ => rfl) (fun _ _ _ h => h) t Y h
  rfl
theorem found_17 (c : Dev nD) (t : Fin cfg0.N) (Y) (h : (rdat m 0 c).Finds 17 t Y) : Y = (insOf m c).bb3 := by
  obtain ⟨d, rfl⟩ := (rdat m 0 c).finds_in_eq_fetched 17 rfl (fun _ _ _ => rfl) (fun _ _ _ h => h) t Y h
  rfl
theorem found_18 (c : Dev nD) (t : Fin cfg0.N) (Y) (h : (rdat m 0 c).Finds 18 t Y) : Y = (insOf m c).w4 := by
  obtain ⟨d, rfl⟩ := (rdat m 0 c).finds_in_eq_fetched 18 rfl (fun _ _ _ => rfl) (fun _ _ _ h => h) t Y h
  rfl
theorem found_19 (c : Dev nD) (t : Fin cfg0.N) (Y) (h : (rdat m 0 c).Finds 19 t Y) : Y = (insOf m c).b4 := by
  obtain ⟨d, rfl⟩ := (rdat m 0 c).finds_in_eq_fetched 19 rfl (fun _ _ _ => rfl) (fun _ _ _ h => h) t Y h
  rfl

end Cert.KernelIdeal.Hand
-- ==== Proof.KI.Main.lean ====
/-
  The body's obligation at the eight points, and the run of @main: it ends, leaves the arguments alone, and the
  result's array is what the last two points left in its buffer.
-/
module

public import proofs.«01_k».proof.Proof.KI.Launch

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's obligation, from what the point does to the result's buffer and to the scratch buffers. -/
theorem body_of (c : Dev nD) (t : Fin cfg0.N)
    (hstep : ∀ S, Holds m c t.val S → ∀ Y, ∃ S' Y', Holds m c (t.val + 1) S' ∧ OutStep m c t.val Y Y' ∧
      (iprop(ins c t (insOf m c) ∗ owns (c : Thread nD τ) (st0_20 t) fullShare Y ∗ scr c S)
        ⊢ wp frame (wpE (defs₀ (F := F)) Variants.none c none) Set.univ (bodyAt0 t)
            (fun _ => iprop(ins c t (insOf m c) ∗ owns (c : Thread nD τ) (st0_20 t) fullShare Y' ∗ scr c S'))))
    (Y : (w : Fin cfg0.W) → (cfg0.win w).block.Idx → Elt F (cfg0.win w).elt) (hY : ∀ w, (rdat m 0 c).Finds w t (Y w)) :
    iprop((rdat m 0 c).Φ t.castSucc ∗ (rdat m 0 c).owesAt () t.castSucc
        ∗ bigSep Finset.univ fun w => owns (c : Thread nD τ) ((cfg0.win w).stage (cfg0.slots t w)) fullShare (Y w))
      ⊢ wp frame (wpE (defs₀ (F := F)) Variants.none c none) Set.univ (defs₀ .tc cfg0.body (cfg0.bodyArgs t (cfg0.slots t))) fun _ =>
          iprop((rdat m 0 c).Φ t.succ ∗ (rdat m 0 c).owesAt () t.succ
            ∗ bigSep Finset.univ fun w => iprop(∃ X, ⌜(rdat m 0 c).after w t (Y w) X⌝
                ∗ owns (c : Thread nD τ) ((cfg0.win w).stage (cfg0.slots t w)) fullShare X)) := by
  rw [bigSep_W0, defs₀_row]
  rw [show (rdat m 0 c).Φ t.castSucc = iprop((∃ S, ⌜Holds m c t.val S⌝ ∗ scr c S) ∗ ∃ r, prngReg c r) from rfl,
    show (rdat m 0 c).Φ t.succ = iprop((∃ S, ⌜Holds m c (t.val + 1) S⌝ ∗ scr c S) ∗ ∃ r, prngReg c r) from rfl,
    show (rdat m 0 c).owesAt () t.succ = (rdat m 0 c).owesAt () t.castSucc from rfl]
  have e0 := found_0 m c t _ (hY 0)
  have e1 := found_1 m c t _ (hY 1)
  have e2 := found_2 m c t _ (hY 2)
  have e3 := found_3 m c t _ (hY 3)
  have e4 := found_4 m c t _ (hY 4)
  have e5 := found_5 m c t _ (hY 5)
  have e6 := found_6 m c t _ (hY 6)
  have e7 := found_7 m c t _ (hY 7)
  have e8 := found_8 m c t _ (hY 8)
  have e9 := found_9 m c t _ (hY 9)
  have e10 := found_10 m c t _ (hY 10)
  have e11 := found_11 m c t _ (hY 11)
  have e12 := found_12 m c t _ (hY 12)
  have e13 := found_13 m c t _ (hY 13)
  have e14 := found_14 m c t _ (hY 14)
  have e15 := found_15 m c t _ (hY 15)
  have e16 := found_16 m c t _ (hY 16)
  have e17 := found_17 m c t _ (hY 17)
  have e18 := found_18 m c t _ (hY 18)
  have e19 := found_19 m c t _ (hY 19)
  iintro ⟨⟨⟨%S, %hS, HS⟩, Hg⟩, HO, H0, H1, H2, H3, H4, H5, H6, H7, H8, H9, H10, H11, H12, H13, H14, H15, H16, H17, H18, H19, H20⟩
  obtain ⟨S', Y', hS', ho, htr⟩ := hstep S hS (Y 20)
  iapply (wp_wand_r frame (wpE (defs₀ (F := F)) Variants.none c none) Set.univ)
  isplitl [HS H0 H1 H2 H3 H4 H5 H6 H7 H8 H9 H10 H11 H12 H13 H14 H15 H16 H17 H18 H19 H20]
  · iapply htr
    unfold ins
    isplitl [H0 H1 H2 H3 H4 H5 H6 H7 H8 H9 H10 H11 H12 H13 H14 H15 H16 H17 H18 H19]
    · isplitl [H0]; · rw [← e0]; iexact H0
      isplitl [H1]; · rw [← e1]; iexact H1
      isplitl [H2]; · rw [← e2]; iexact H2
      isplitl [H3]; · rw [← e3]; iexact H3
      isplitl [H4]; · rw [← e4]; iexact H4
      isplitl [H5]; · rw [← e5]; iexact H5
      isplitl [H6]; · rw [← e6]; iexact H6
      isplitl [H7]; · rw [← e7]; iexact H7
      isplitl [H8]; · rw [← e8]; iexact H8
      isplitl [H9]; · rw [← e9]; iexact H9
      isplitl [H10]; · rw [← e10]; iexact H10
      isplitl [H11]; · rw [← e11]; iexact H11
      isplitl [H12]; · rw [← e12]; iexact H12
      isplitl [H13]; · rw [← e13]; iexact H13
      isplitl [H14]; · rw [← e14]; iexact H14
      isplitl [H15]; · rw [← e15]; iexact H15
      isplitl [H16]; · rw [← e16]; iexact H16
      isplitl [H17]; · rw [← e17]; iexact H17
      isplitl [H18]; · rw [← e18]; iexact H18
      rw [← e19]; iexact H19
    isplitl [H20]; · iexact H20
    iexact HS
  iintro %_ ⟨HI, H20, HS⟩
  unfold ins
  icases HI with ⟨H0, H1, H2, H3, H4, H5, H6, H7, H8, H9, H10, H11, H12, H13, H14, H15, H16, H17, H18, H19⟩
  isplitl [HS Hg]
  · isplitl [HS]
    · iexists S'; isplitr; · ipureintro; exact hS'
      iexact HS
    iexact Hg
  isplitl [HO]; · iexact HO
  rw [bigSep_W0]
  isplitl [H0]
  · iexists _; isplitr; swap; · iexact H0
    ipureintro; exact e0.symm
  isplitl [H1]
  · iexists _; isplitr; swap; · iexact H1
    ipureintro; exact e1.symm
  isplitl [H2]
  · iexists _; isplitr; swap; · iexact H2
    ipureintro; exact e2.symm
  isplitl [H3]
  · iexists _; isplitr; swap; · iexact H3
    ipureintro; exact e3.symm
  isplitl [H4]
  · iexists _; isplitr; swap; · iexact H4
    ipureintro; exact e4.symm
  isplitl [H5]
  · iexists _; isplitr; swap; · iexact H5
    ipureintro; exact e5.symm
  isplitl [H6]
  · iexists _; isplitr; swap; · iexact H6
    ipureintro; exact e6.symm
  isplitl [H7]
  · iexists _; isplitr; swap; · iexact H7
    ipureintro; exact e7.symm
  isplitl [H8]
  · iexists _; isplitr; swap; · iexact H8
    ipureintro; exact e8.symm
  isplitl [H9]
  · iexists _; isplitr; swap; · iexact H9
    ipureintro; exact e9.symm
  isplitl [H10]
  · iexists _; isplitr; swap; · iexact H10
    ipureintro; exact e10.symm
  isplitl [H11]
  · iexists _; isplitr; swap; · iexact H11
    ipureintro; exact e11.symm
  isplitl [H12]
  · iexists _; isplitr; swap; · iexact H12
    ipureintro; exact e12.symm
  isplitl [H13]
  · iexists _; isplitr; swap; · iexact H13
    ipureintro; exact e13.symm
  isplitl [H14]
  · iexists _; isplitr; swap; · iexact H14
    ipureintro; exact e14.symm
  isplitl [H15]
  · iexists _; isplitr; swap; · iexact H15
    ipureintro; exact e15.symm
  isplitl [H16]
  · iexists _; isplitr; swap; · iexact H16
    ipureintro; exact e16.symm
  isplitl [H17]
  · iexists _; isplitr; swap; · iexact H17
    ipureintro; exact e17.symm
  isplitl [H18]
  · iexists _; isplitr; swap; · iexact H18
    ipureintro; exact e18.symm
  isplitl [H19]
  · iexists _; isplitr; swap; · iexact H19
    ipureintro; exact e19.symm
  iexists Y'; isplitr; · ipureintro; exact ho
  iexact H20

/-- The eight points. -/
theorem body_obligation (c : Dev nD) : (rdat (F := F) m 0 c).BodyObligation (defs₀ (F := F)) Variants.none () Set.univ := by
  intro t Y hY
  refine body_of m c t ?_ Y hY
  clear hY
  rcases fin_N0 t with rfl | rfl | rfl | rfl | rfl | rfl | rfl | rfl <;> intro S hS Y
  · refine ⟨_, _, ?_, rfl, pt0a c t0_0 cond1_0 cond3_0 cond5_0 cond7_0 first_0 (insOf m c) _ Y⟩; rfl
  · obtain ⟨np, A, P, Q, S3, S4⟩ := S; obtain rfl : A = _ := hS
    refine ⟨_, _, ?_, rfl, pt0b c t0_1 cond1_1 cond3_1 cond5_1 cond7_1 first_1 (insOf m c) _ Y⟩; rfl
  · obtain ⟨np, A, P, Q, S3, S4⟩ := S; obtain rfl : A = _ := hS
    exact ⟨_, _, ⟨rfl, rfl, rfl⟩, rfl, pt1a c t0_2 cond1_2 cond3_2 cond5_2 cond7_2 first_2 (insOf m c) _ Y⟩
  · obtain ⟨np, A, P, Q, S3, S4⟩ := S; obtain ⟨rfl, rfl, rfl⟩ : P = _ ∧ Q = _ ∧ S3 = _ := hS
    exact ⟨_, _, ⟨rfl, rfl, rfl⟩, rfl, pt1b c t0_3 cond1_3 cond3_3 cond5_3 cond7_3 first_3 (insOf m c) _ Y⟩
  · obtain ⟨np, A, P, Q, S3, S4⟩ := S; obtain ⟨rfl, rfl, rfl⟩ : P = _ ∧ Q = _ ∧ S3 = _ := hS
    exact ⟨_, _, ⟨rfl, rfl, rfl, rfl, np, rfl⟩, rfl, pt2a c t0_4 cond1_4 cond3_4 cond5_4 cond7_4 first_4 (insOf m c) _ Y⟩
  · obtain ⟨np, A, P, Q, S3, S4⟩ := S; obtain ⟨rfl, rfl, rfl, rfl, g, rfl⟩ : P = _ ∧ Q = _ ∧ S3 = _ ∧ S4 = _ ∧ ∃ g, np = np1 m c g := hS
    exact ⟨_, _, ⟨rfl, g, rfl⟩, rfl, pt2b c t0_5 cond1_5 cond3_5 cond5_5 cond7_5 first_5 (insOf m c) _ Y⟩
  · obtain ⟨np, A, P, Q, S3, S4⟩ := S; obtain ⟨rfl, g, rfl⟩ : S4 = _ ∧ ∃ g, np = np2 m c g := hS
    exact ⟨_, _, ⟨rfl, g, rfl⟩, ⟨g, rfl⟩, pt3 c t0_6 cond1_6 cond3_6 cond5_6 cond7_6 (insOf m c) _ Y⟩
  · obtain ⟨np, A, P, Q, S3, S4⟩ := S; obtain ⟨rfl, g, rfl⟩ : S4 = _ ∧ ∃ g, np = np2 m c g := hS
    exact ⟨_, _, trivial, ⟨g, rfl⟩, pt3 c t0_7 cond1_7 cond3_7 cond5_7 cond7_7 (insOf m c) _ Y⟩

/-- The scratch buffers at anything. -/
theorem scr_of_rest (c : Dev nD) :
    (Pipeline.ΦA spec0 c : sProp 𝕄) ⊢ iprop((∃ S, ⌜Holds (F := F) m c 0 S⌝ ∗ scr c S) ∗ ∃ r, prngReg c r) := by
  unfold Pipeline.ΦA scr
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩, Hg⟩
  isplitr [Hg]
  · iexists ⟨f0, ⟨f1, f2, f3, f4, f5, f6, f7⟩, f8, f9, ⟨f10, f11⟩, ⟨f12, f13⟩⟩
    isplitr; · ipureintro; trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

theorem rest_of_scr (c : Dev nD) (n : ℕ) :
    iprop((∃ S, ⌜Holds (F := F) m c n S⌝ ∗ scr c S) ∗ ∃ r, prngReg c r) ⊢ (Pipeline.ΦA spec0 c : sProp 𝕄) := by
  unfold Pipeline.ΦA scr
  rw [scopedRest0_eq]
  simp only [owns_whole]
  iintro ⟨⟨%S, -, H0, H1, H2, H3, H4, H5, H6, H7, H8, H9, H10, H11, H12, H13⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  iexact Hg

set_option backward.isDefEq.respectTransparency.types false in
/-- The run of @main. -/
theorem run_main :
    θ_run defs (onTc (τ := τ) (main (F := F))) (s₀ m ρ)
      (fun r => Pipeline.RDat.FramePost (cfgs 0) (fun c => rdat m 0 c) (V m) r ∧ r.2.sem = fun _ => 0) :=
  Pipeline.RDat.θ_run_frame_track (Q' := _) cfgs (0 : Fin 1) launch0 defs₀ Variants.none (fun c => rdat m 0 c) m ρ main
    (hbody := body_obligation m) (hshare := fun c => (rdat m 0 c).share_full fun _ => rfl)
    (howed := fun _ _ => rfl) (V := V m) (hmain := hmain m Variants.none) (hA := fun _ _ => rfl)
    (hin := scr_of_rest m) (hout := fun c => rest_of_scr m c _)

end Cert.KernelIdeal.Hand
-- ==== Proof.V.Model.lean ====
/-
  The network over the reals: its arguments, its stages as the plain program states them, and the facts about means,
  variances and maxima by which the kernel's rearrangement is the same.
-/
module

public import Idealize.ShloMosaic.Lib.Pointwise

@[expose] public section

noncomputable section

namespace Cert.Val

open Finset

/-- The arguments, as real arrays; the last shift and the last layer may be infinite. -/
structure Arg where
  x : Fin 8 → Fin 2048 → Fin 2 → ℝ
  w1 : Fin 60 → Fin 42 → ℝ
  b1 : Fin 60 → ℝ
  g1 : Fin 60 → ℝ
  e1 : Fin 60 → ℝ
  cw : Fin 30 → Fin 122 → ℝ
  cb : Fin 30 → ℝ
  g2 : Fin 30 → ℝ
  e2 : Fin 30 → ℝ
  dw : Fin 60 → Fin 30 → ℝ
  db : Fin 60 → ℝ
  g3 : Fin 60 → ℝ
  e3 : Fin 60 → ℝ
  g4 : Fin 60 → ℝ
  e4 : Fin 60 → EReal
  fw : Fin 2 → Fin 60 → EReal
  fb : Fin 2 → EReal

/-- The mean of a family over `N`, and its variance. -/
def mean {ι : Type} [Fintype ι] (N : ℝ) (f : ι → ℝ) : ℝ := (∑ i, f i) / N
def var {ι : Type} [Fintype ι] (N : ℝ) (f : ι → ℝ) : ℝ := (∑ i, (f i - mean N f) * (f i - mean N f)) / N
/-- The family normalised, scaled and shifted. -/
def bn {ι : Type} [Fintype ι] (ε N : ℝ) (f : ι → ℝ) (g e : ℝ) (i : ι) : ℝ :=
  (f i - mean N f) / Real.sqrt (var N f + ε) * g + e

theorem var_nonneg {ι : Type} [Fintype ι] {N : ℝ} (hN : 0 < N) (f : ι → ℝ) : 0 ≤ var N f :=
  div_nonneg (Finset.sum_nonneg fun _ _ => mul_self_nonneg _) hN.le

/-- The variance is the mean of the squares less the square of the mean. -/
theorem var_eq {ι : Type} [Fintype ι] {N : ℝ} (hN : 0 < N) (hc : (Fintype.card ι : ℝ) = N) (f : ι → ℝ) :
    var N f = (∑ i, f i * f i) * (1 / N) - (∑ i, f i) * (1 / N) * ((∑ i, f i) * (1 / N)) := by
  have h : ∑ i, (f i - mean N f) * (f i - mean N f)
      = ∑ i, f i * f i - 2 * mean N f * ∑ i, f i + N * (mean N f * mean N f) := by
    have : ∀ i, (f i - mean N f) * (f i - mean N f) = f i * f i - 2 * mean N f * f i + mean N f * mean N f := fun i => by ring
    simp only [this, Finset.sum_add_distrib, Finset.sum_sub_distrib, ← Finset.mul_sum, Finset.sum_const, Finset.card_univ, nsmul_eq_mul, hc]
    ring
  unfold var
  rw [h]
  unfold mean
  field_simp
  ring

/-- The scale and the shift that normalise. -/
def al (ε v g : ℝ) : ℝ := g * (Real.sqrt (v + ε))⁻¹
def be (ε m v g e : ℝ) : ℝ := e - m * al ε v g

theorem bn_eq {ι : Type} [Fintype ι] (ε N : ℝ) (f : ι → ℝ) (g e : ℝ) (i : ι) :
    bn ε N f g e i = al ε (var N f) g * f i + be ε (mean N f) (var N f) g e := by
  unfold bn be al; ring

/-- A nondecreasing function of a largest value. -/
theorem map_sup {ι : Type} [Fintype ι] [Nonempty ι] (f : ι → ℝ) {φ : ℝ → ℝ} (hφ : Monotone φ) :
    φ (univ.sup' univ_nonempty f) = univ.sup' univ_nonempty fun i => φ (f i) :=
  Finset.comp_sup'_eq_sup'_comp _ _ fun _ _ => hφ.map_sup _ _

/-- The largest of four values. -/
theorem sup_four (f : Fin 4 → ℝ) : univ.sup' univ_nonempty f = max (max (f 0) (f 1)) (max (f 2) (f 3)) := by
  apply le_antisymm
  · refine Finset.sup'_le _ _ fun i _ => ?_
    fin_cases i <;> simp
  · have h : ∀ i, f i ≤ univ.sup' univ_nonempty f := fun i => Finset.le_sup' f (mem_univ i)
    exact max_le (max_le (h 0) (h 1)) (max_le (h 2) (h 3))

variable (ε : ℝ) (a : Arg)

/-- A row's features: the coordinates, and their sines and cosines at ten frequencies. -/
def emb (b : Fin 8) (n : Fin 2048) (j : Fin 42) : ℝ :=
  let y := a.x b n ⟨j.val % 2, Nat.mod_lt _ (by decide)⟩
  if j.val < 2 then y
  else if (j.val - 2) % 4 < 2 then Real.sin (2 ^ ((j.val - 2) / 4) * y) else Real.cos (2 ^ ((j.val - 2) / 4) * y)

/-- The first layer, -/
def T (b : Fin 8) (n : Fin 2048) (k : Fin 60) : ℝ := max (∑ j, emb a b n j * a.w1 k j + a.b1 k) 0
def Tf (k : Fin 60) (p : Fin 8 × Fin 2048) : ℝ := T a p.1 p.2 k
/-- normalised, -/
def A1 (b : Fin 8) (n : Fin 2048) (k : Fin 60) : ℝ := max (bn ε 16384 (Tf a k) (a.g1 k) (a.e1 k) (b, n)) 0
/-- and its largest value in a batch. -/
def XG (b : Fin 8) (k : Fin 60) : ℝ := univ.sup' univ_nonempty fun n : Fin 2048 => A1 ε a b n k

/-- One of the first four points, as a point. -/
def pt (s : Fin 4) : Fin 2048 := ⟨s.val, by omega⟩

/-- The first convolution of the four points as seen from each point, -/
def C1 (b : Fin 8) (s : Fin 4) (n : Fin 2048) (o : Fin 30) : ℝ :=
  (∑ k : Fin 60, a.cw o ⟨k.val, by omega⟩ * A1 ε a b (pt s) k + ∑ k : Fin 60, a.cw o ⟨60 + k.val, by omega⟩ * XG ε a b k)
    + ∑ c : Fin 2, a.cw o ⟨120 + c.val, by omega⟩ * (a.x b (pt s) c - a.x b n c) + a.cb o
def C1f (o : Fin 30) (p : Fin 8 × Fin 4 × Fin 2048) : ℝ := C1 ε a p.1 p.2.1 p.2.2 o
/-- normalised; -/
def H1 (b : Fin 8) (s : Fin 4) (n : Fin 2048) (o : Fin 30) : ℝ := max (bn ε 65536 (C1f ε a o) (a.g2 o) (a.e2 o) (b, s, n)) 0
/-- the second, -/
def H2 (b : Fin 8) (s : Fin 4) (n : Fin 2048) (p : Fin 60) : ℝ := ∑ o, a.dw p o * H1 ε a b s n o + a.db p
def H2f (k : Fin 60) (p : Fin 8 × Fin 4 × Fin 2048) : ℝ := H2 ε a p.1 p.2.1 p.2.2 k
/-- normalised, -/
def Y (b : Fin 8) (s : Fin 4) (n : Fin 2048) (k : Fin 60) : ℝ := max (bn ε 65536 (H2f ε a k) (a.g3 k) (a.e3 k) (b, s, n)) 0
/-- and its largest value over the four points, -/
def NP (b : Fin 8) (n : Fin 2048) (k : Fin 60) : ℝ := univ.sup' univ_nonempty fun s : Fin 4 => Y ε a b s n k
def NPf (k : Fin 60) (p : Fin 8 × Fin 2048) : ℝ := NP ε a p.1 p.2 k
/-- normalised once more; -/
def Z (b : Fin 8) (n : Fin 2048) (k : Fin 60) : EReal := max (((bn ε 16384 (NPf ε a k) (a.g4 k) 0 (b, n) : ℝ) : EReal) + a.e4 k) 0
/-- the result. -/
def Out (b : Fin 8) (n : Fin 2048) (c : Fin 2) : EReal := ∑ k, Z ε a b n k * a.fw c k + a.fb c

/-! ## The first convolution, split into what is constant in a batch and what is not -/

def Q (b : Fin 8) (n : Fin 2048) (o : Fin 30) : ℝ := ∑ c : Fin 2, a.x b n c * a.cw o ⟨120 + c.val, by omega⟩
def D (b : Fin 8) (s : Fin 4) (o : Fin 30) : ℝ :=
  (∑ k : Fin 60, A1 ε a b (pt s) k * a.cw o ⟨k.val, by omega⟩ + Q a b (pt s) o + a.cb o)
    + ∑ k : Fin 60, XG ε a b k * a.cw o ⟨60 + k.val, by omega⟩

theorem C1_eq (b : Fin 8) (s : Fin 4) (n : Fin 2048) (o : Fin 30) : C1 ε a b s n o = D ε a b s o - Q a b n o := by
  unfold C1 D Q
  have h1 : ∑ k : Fin 60, a.cw o ⟨k.val, by omega⟩ * A1 ε a b (pt s) k = ∑ k : Fin 60, A1 ε a b (pt s) k * a.cw o ⟨k.val, by omega⟩ :=
    Finset.sum_congr rfl fun _ _ => mul_comm _ _
  have h2 : ∑ k : Fin 60, a.cw o ⟨60 + k.val, by omega⟩ * XG ε a b k = ∑ k : Fin 60, XG ε a b k * a.cw o ⟨60 + k.val, by omega⟩ :=
    Finset.sum_congr rfl fun _ _ => mul_comm _ _
  rw [h1, h2]
  simp only [Fin.sum_univ_two]
  ring

theorem sumC1 (o : Fin 30) :
    ∑ p, C1f ε a o p = 2048 * ∑ b, ∑ s, D ε a b s o - 4 * ∑ b, ∑ n, Q a b n o := by
  unfold C1f
  simp only [Fintype.sum_prod_type, C1_eq, Finset.sum_sub_distrib, Finset.sum_const, Finset.card_univ, Fintype.card_fin, nsmul_eq_mul,
    ← Finset.mul_sum]
  norm_num

theorem sumC1sq (o : Fin 30) :
    ∑ p, C1f ε a o p * C1f ε a o p
      = 2048 * (∑ b, ∑ s, D ε a b s o * D ε a b s o) - 2 * (∑ b, ∑ s, D ε a b s o * ∑ n, Q a b n o) + 4 * ∑ b, ∑ n, Q a b n o * Q a b n o := by
  have h : ∀ b s n, C1 ε a b s n o * C1 ε a b s n o
      = D ε a b s o * D ε a b s o - 2 * (D ε a b s o * Q a b n o) + Q a b n o * Q a b n o := fun b s n => by rw [C1_eq]; ring
  unfold C1f
  simp only [Fintype.sum_prod_type, h, Finset.sum_add_distrib, Finset.sum_sub_distrib, Finset.sum_const, Finset.card_univ, Fintype.card_fin,
    nsmul_eq_mul, ← Finset.mul_sum]
  norm_num

end Cert.Val
-- ==== Proof.V.Coe.lean ====
/-
  Extended reals that are reals: sums, largest values, the programs' constants, masks, and roots.
-/
module

public import proofs.«01_k».proof.Proof.V.Model

@[expose] public section

noncomputable section

namespace Cert.Val

open Finset Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  (EReal.coe_strictMono.monotone).map_max

/-- The running maximum from the bottom, of reals. -/
theorem fold_max {ι : Type} [Fintype ι] [Nonempty ι] (f : ι → ℝ) :
    Finset.fold max (⊥ : EReal) (fun i => (f i : EReal)) univ = ((univ.sup' univ_nonempty f : ℝ) : EReal) := by
  have h : Finset.fold max (⊥ : EReal) (fun i => (f i : EReal)) univ = univ.sup fun i => (f i : EReal) := rfl
  rw [h, ← Finset.sup'_eq_sup univ_nonempty]
  exact (Finset.comp_sup'_eq_sup'_comp (g := fun r : ℝ => (r : EReal)) univ_nonempty coe_max).symm

theorem c16384i : Ideal.ofBits .f32 0x38800000#32 = ((1 / 16384 : ℝ) : EReal) := by simp [Ideal.ofBits, Ideal.ieee, -EReal.coe_mul]; norm_num
theorem c65536i : Ideal.ofBits .f32 0x37800000#32 = ((1 / 65536 : ℝ) : EReal) := by simp [Ideal.ofBits, Ideal.ieee, -EReal.coe_mul]; norm_num
theorem c16384 : Ideal.ofBits .f32 0x46800000#32 = ((16384 : ℝ) : EReal) := by simp [Ideal.ofBits, Ideal.ieee, -EReal.coe_mul]; norm_num
theorem c65536 : Ideal.ofBits .f32 0x47800000#32 = ((65536 : ℝ) : EReal) := by simp [Ideal.ofBits, Ideal.ieee, -EReal.coe_mul]; norm_num
theorem c2048 : Ideal.ofBits .f32 0x45000000#32 = ((2048 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c1e8 : Ideal.ofBits .f32 0x4CBEBC20#32 = ((100000000 : ℝ) : EReal) := by simp [Ideal.ofBits, Ideal.ieee, -EReal.coe_mul]; norm_num
theorem c3500 : Ideal.ofBits .f32 0x455AC000#32 = ((3500 : ℝ) : EReal) := by simp [Ideal.ofBits, Ideal.ieee, -EReal.coe_mul]; norm_num
theorem cTop : Ideal.ofBits .f32 0x7F800000#32 = ⊤ := by simp [Ideal.ofBits, Ideal.ieee]
theorem cBot : Ideal.ofBits .f32 0xFF800000#32 = ⊥ := by simp [Ideal.ofBits, Ideal.ieee]

/-- The small number under the roots. -/
def eps : ℝ := 2748779 / 274877906944
theorem cEps : Ideal.ofBits .f32 0x3727C5AC#32 = ((eps : ℝ) : EReal) := by
  simp [Ideal.ofBits, Ideal.ieee, -EReal.coe_mul, eps]; norm_num
theorem eps_pos : 0 < eps := by unfold eps; norm_num

/-- A mask as a number. -/
theorem mask_eq {w : Nat} (x y : BitVec w) :
    (FloatOps.sitofp (F := Ideal) .f32 (BitVec.setWidth 32 (IntOp.cmpi .eq x y)) : EReal) = ((if x = y then 1 else 0 : ℝ) : EReal) := by
  by_cases h : x = y
  · subst h; simp [IntOp.cmpi, FloatOps.sitofp]
  · have e : (x == y) = false := by simpa using h
    simp [IntOp.cmpi, FloatOps.sitofp, h, e]

theorem rsqrt_eps {v : ℝ} (hv : 0 ≤ v) : Ideal.rsqrt ((v + eps : ℝ) : EReal) = (((Real.sqrt (v + eps))⁻¹ : ℝ) : EReal) := by
  have h := add_pos_of_nonneg_of_pos hv eps_pos
  rw [Ideal.rsqrt_coe, if_neg (not_lt.mpr h.le), if_neg h.ne']

theorem sqrt_eps {v : ℝ} (hv : 0 ≤ v) : Ideal.sqrt ((v + eps : ℝ) : EReal) = ((Real.sqrt (v + eps) : ℝ) : EReal) := by
  have h := add_pos_of_nonneg_of_pos hv eps_pos
  rw [Ideal.sqrt_coe, if_neg (not_lt.mpr h.le)]

/-- The sum over the batches before `n`. -/
def PS (n : ℕ) (f : Fin 8 → ℝ) : ℝ := ∑ b : Fin 8, if b.val < n then f b else 0
theorem PS_zero (f : Fin 8 → ℝ) : PS 0 f = 0 := by simp [PS]
theorem PS_succ (b : Fin 8) (f : Fin 8 → ℝ) : PS (b.val + 1) f = PS b.val f + f b := by
  have h : ∀ i : Fin 8, (if i.val < b.val + 1 then f i else 0) = (if i.val < b.val then f i else 0) + if i = b then f b else 0 := by
    intro i
    rcases lt_trichotomy i.val b.val with h | h | h
    · rw [if_pos (by omega), if_pos h, if_neg (by intro e; subst e; omega), add_zero]
    · obtain rfl : i = b := Fin.ext h
      simp
    · rw [if_neg (by omega), if_neg (by omega), if_neg (by intro e; subst e; omega), add_zero]
  unfold PS
  simp only [h, Finset.sum_add_distrib, Finset.sum_ite_eq', mem_univ, if_true]
theorem PS_all (f : Fin 8 → ℝ) : PS 8 f = ∑ b, f b := by simp [PS]

/-- A sum of one nonzero term. -/
theorem sum_mask {ι : Type} [Fintype ι] [DecidableEq ι] (i : ι) (f : ι → ℝ) (p : ι → Prop) [DecidablePred p] (h : ∀ j, p j ↔ j = i) :
    ∑ j, (if p j then 1 else 0 : ℝ) * f j = f i := by
  simp [h]

end Cert.Val
-- ==== Proof.V.HostA.lean ====
/-
  The operands the launch takes over from the arguments unchanged or transposed, at an index.
-/
module

public import proofs.«01_k».proof.Proof.KI.Launch
public import proofs.«01_k».proof.Proof.V.Coe
public import Idealize.ShloMosaic.Lib.StableHlo.RunRead
public import Idealize.ShloMosaic.Lib.StableHlo.ReadAt
public import Idealize.ShloMosaic.Lib.Pipeline.ValueKit

@[expose] public section

set_option maxHeartbeats 2000000

noncomputable section

namespace Cert.Val

open Finset Cert.KernelIdeal Cert.KernelIdeal.Gen Cert.KernelIdeal.Hand
open Idealize.ShloMosaic Idealize.ShloMosaic.TcCoe

variable (m : (ℓ : Loc nD τ sig) → Buf (Elt Ideal) ℓ) (c : Dev nD)

theorem v68_at (k : Fin 60) : (V m c main_v68 : FVec Ideal S1x60 .f32) (ix2 0 k) = (m ((c : Thread nD τ).loc main_arg2) : FVec Ideal S60 .f32) (ix1 k) := by
  unfold V
  after_reads_simp
  pointwise

theorem v69_at (k : Fin 60) : (V m c main_v69 : FVec Ideal S1x60 .f32) (ix2 0 k) = (m ((c : Thread nD τ).loc main_arg3) : FVec Ideal S60 .f32) (ix1 k) := by
  unfold V
  after_reads_simp
  pointwise

theorem v70_at (k : Fin 60) : (V m c main_v70 : FVec Ideal S1x60 .f32) (ix2 0 k) = (m ((c : Thread nD τ).loc main_arg4) : FVec Ideal S60 .f32) (ix1 k) := by
  unfold V
  after_reads_simp
  pointwise

theorem v71_at (k : Fin 30) : (V m c main_v71 : FVec Ideal S1x30 .f32) (ix2 0 k) = (m ((c : Thread nD τ).loc main_arg6) : FVec Ideal S30 .f32) (ix1 k) := by
  unfold V
  after_reads_simp
  pointwise

theorem v72_at (k : Fin 30) : (V m c main_v72 : FVec Ideal S1x30 .f32) (ix2 0 k) = (m ((c : Thread nD τ).loc main_arg7) : FVec Ideal S30 .f32) (ix1 k) := by
  unfold V
  after_reads_simp
  pointwise

theorem v73_at (k : Fin 30) : (V m c main_v73 : FVec Ideal S1x30 .f32) (ix2 0 k) = (m ((c : Thread nD τ).loc main_arg8) : FVec Ideal S30 .f32) (ix1 k) := by
  unfold V
  after_reads_simp
  pointwise

theorem v74_at (k : Fin 60) : (V m c main_v74 : FVec Ideal S1x60 .f32) (ix2 0 k) = (m ((c : Thread nD τ).loc main_arg11) : FVec Ideal S60 .f32) (ix1 k) := by
  unfold V
  after_reads_simp
  pointwise

theorem v75_at (k : Fin 60) : (V m c main_v75 : FVec Ideal S1x60 .f32) (ix2 0 k) = (m ((c : Thread nD τ).loc main_arg12) : FVec Ideal S60 .f32) (ix1 k) := by
  unfold V
  after_reads_simp
  pointwise

theorem v76_at (k : Fin 60) : (V m c main_v76 : FVec Ideal S1x60 .f32) (ix2 0 k) = (m ((c : Thread nD τ).loc main_arg13) : FVec Ideal S60 .f32) (ix1 k) := by
  unfold V
  after_reads_simp
  pointwise

theorem v77_at (k : Fin 60) : (V m c main_v77 : FVec Ideal S1x60 .f32) (ix2 0 k) = (m ((c : Thread nD τ).loc main_arg14) : FVec Ideal S60 .f32) (ix1 k) := by
  unfold V
  after_reads_simp
  pointwise

theorem v80_at (k : Fin 2) : (V m c main_v80 : FVec Ideal S1x2 .f32) (ix2 0 k) = (m ((c : Thread nD τ).loc main_arg16) : FVec Ideal S2 .f32) (ix1 k) := by
  unfold V
  after_reads_simp
  pointwise

theorem v39_at (j : Fin 122) (o : Fin 30) : (V m c main_v39 : FVec Ideal S122x30 .bf16) (ix2 j o) = (m ((c : Thread nD τ).loc main_arg5) : FVec Ideal S30x122 .f32) (ix2 o j) := by
  unfold V
  after_reads_simp
  pointwise

theorem v79_at (k : Fin 60) (d : Fin 2) : (V m c main_v79 : FVec Ideal S60x2 .bf16) (ix2 k d) = (m ((c : Thread nD τ).loc main_arg15) : FVec Ideal S2x60 .f32) (ix2 d k) := by
  unfold V
  after_reads_simp
  pointwise

theorem v0_at (r : Fin 16384) (d : Fin 2) : (V m c main_v0 : FVec Ideal S16384x2 .f32) (ix2 r d)
    = (m ((c : Thread nD τ).loc main_arg0) : FVec Ideal S8x2048x2 .f32) (ix3 ⟨r.val / 2048, by omega⟩ ⟨r.val % 2048, Nat.mod_lt _ (by decide)⟩ d) := by
  unfold V
  after_reads_simp
  pointwise

end Cert.Val
-- ==== Proof.V.RSum.lean ====
/-
  The plain program's sums over all axes but the channels'.
-/
module

public import proofs.«01_k».proof.Proof.V.Coe
public import proofs.«01_k».proof.Proof.Gen.ReferenceIdeal.Read

@[expose] public section

set_option maxHeartbeats 1000000

noncomputable section

namespace Cert.Val

open Finset Cert.ReferenceIdeal Cert.ReferenceIdeal.Gen Cert.ReferenceIdeal.Read
open Idealize.ShloMosaic

/-- A sum over the first and the last axis, -/
theorem rsum60 (v : S8x60x2048.Idx → EReal) (i : EReal) (k : Fin 60) :
    Ideal.hostReduceAdd reducesTo_S8x60x2048_S60_d0_2 v i (ix1 k) = i + ∑ p : Fin 8 × Fin 2048, v (ix3 p.1 k p.2) := by
  refine congrArg (i + ·) (Finset.sum_filter_eq_sum_of_fiber _ (fun p : Fin 8 × Fin 2048 => ix3 p.1 k p.2) ?_ ?_ v)
  · intro p q e
    exact Prod.ext (congrFun e 0) (congrFun e 2)
  · intro i
    constructor
    · intro e
      refine ⟨(i 0, i 2), ?_⟩
      funext x
      apply Fin.ext
      match x with
      | ⟨0, _⟩ => rfl
      | ⟨1, _⟩ => exact (congrArg Fin.val (congrFun e ⟨0, by decide⟩)).symm
      | ⟨2, _⟩ => rfl
    · rintro ⟨p, rfl⟩
      funext x
      apply Fin.ext
      match x with
      | ⟨0, _⟩ => rfl

/-- or over all but the second of four, 30 channels. -/
theorem rsum4_30 (v : S8x30x4x2048.Idx → EReal) (i : EReal) (k : Fin 30) :
    Ideal.hostReduceAdd reducesTo_S8x30x4x2048_S30_d0_2_3 v i (ix1 k) = i + ∑ p : Fin 8 × Fin 4 × Fin 2048, v (ix4 p.1 k p.2.1 p.2.2) := by
  refine congrArg (i + ·) (Finset.sum_filter_eq_sum_of_fiber _ (fun p : Fin 8 × Fin 4 × Fin 2048 => ix4 p.1 k p.2.1 p.2.2) ?_ ?_ v)
  · intro p q e
    exact Prod.ext (congrFun e 0) (Prod.ext (congrFun e 2) (congrFun e 3))
  · intro i
    constructor
    · intro e
      refine ⟨(i 0, i 2, i 3), ?_⟩
      funext x
      apply Fin.ext
      match x with
      | ⟨0, _⟩ => rfl
      | ⟨1, _⟩ => exact (congrArg Fin.val (congrFun e ⟨0, by decide⟩)).symm
      | ⟨2, _⟩ => rfl
      | ⟨3, _⟩ => rfl
    · rintro ⟨p, rfl⟩
      funext x
      apply Fin.ext
      match x with
      | ⟨0, _⟩ => rfl

/-- or over all but the second of four, 60 channels. -/
theorem rsum4_60 (v : S8x60x4x2048.Idx → EReal) (i : EReal) (k : Fin 60) :
    Ideal.hostReduceAdd reducesTo_S8x60x4x2048_S60_d0_2_3 v i (ix1 k) = i + ∑ p : Fin 8 × Fin 4 × Fin 2048, v (ix4 p.1 k p.2.1 p.2.2) := by
  refine congrArg (i + ·) (Finset.sum_filter_eq_sum_of_fiber _ (fun p : Fin 8 × Fin 4 × Fin 2048 => ix4 p.1 k p.2.1 p.2.2) ?_ ?_ v)
  · intro p q e
    exact Prod.ext (congrFun e 0) (Prod.ext (congrFun e 2) (congrFun e 3))
  · intro i
    constructor
    · intro e
      refine ⟨(i 0, i 2, i 3), ?_⟩
      funext x
      apply Fin.ext
      match x with
      | ⟨0, _⟩ => rfl
      | ⟨1, _⟩ => exact (congrArg Fin.val (congrFun e ⟨0, by decide⟩)).symm
      | ⟨2, _⟩ => rfl
      | ⟨3, _⟩ => rfl
    · rintro ⟨p, rfl⟩
      funext x
      apply Fin.ext
      match x with
      | ⟨0, _⟩ => rfl

/-- The quotient by a root, of reals. -/
theorem div_real (x y : ℝ) (hy : y ≠ 0) : Ideal.div ((x : ℝ) : EReal) ((y : ℝ) : EReal) = ((x / y : ℝ) : EReal) := by
  rw [Ideal.div_coe hy, ← EReal.coe_mul, mul_one_div]

theorem root_ne {v : ℝ} (hv : 0 ≤ v) : Real.sqrt (v + eps) ≠ 0 := (Real.sqrt_pos.mpr (add_pos_of_nonneg_of_pos hv eps_pos)).ne'

/-- The normalised value, as the plain program computes it. -/
theorem bn_div {ι : Type} [Fintype ι] {N : ℝ} (hN : 0 < N) (f : ι → ℝ) (g e : ℝ) (i : ι) :
    Ideal.div (((f i : ℝ) : EReal) - ((mean N f : ℝ) : EReal)) (Ideal.sqrt (((var N f : ℝ) : EReal) + ((eps : ℝ) : EReal))) * ((g : ℝ) : EReal) + ((e : ℝ) : EReal)
      = ((bn eps N f g e i : ℝ) : EReal) := by
  rw [← EReal.coe_add, sqrt_eps (var_nonneg hN f), ← EReal.coe_sub, div_real _ _ (root_ne (var_nonneg hN f)), ← EReal.coe_mul, ← EReal.coe_add]
  rfl

/-- The number of samples, less no correction. -/
theorem count_eq (N : ℝ) : ((N : ℝ) : EReal) - FloatOps.sitofp (F := Ideal) .f32 (0#32) = ((N : ℝ) : EReal) := by
  simp [FloatOps.sitofp]

end Cert.Val
-- ==== Proof.V.RStage.lean ====
/-
  The plain program's stages from the first layer on.
-/
module

public import proofs.«01_k».proof.Proof.V.RSum
public import proofs.«01_k».proof.Proof.Gen.ReferenceIdeal.Read

@[expose] public section

set_option maxHeartbeats 1000000

noncomputable section

namespace Cert.Val

open Finset Cert.ReferenceIdeal Cert.ReferenceIdeal.Gen Cert.ReferenceIdeal.Read
open Idealize.ShloMosaic

variable {x0 : FVec Ideal S8x2048x2 .f32} {x1 : FVec Ideal S60x42 .f32} {x2 x3 x4 : FVec Ideal S60 .f32} {x5 : FVec Ideal S30x122 .f32}
  {x6 x7 x8 : FVec Ideal S30 .f32} {x9 : FVec Ideal S60x30 .f32} {x10 x11 x12 x13 x14 : FVec Ideal S60 .f32} {x15 : FVec Ideal S2x60 .f32} {x16 : FVec Ideal S2 .f32}
  {a : Arg}

/-- The arguments hold these reals. -/
structure RefIs (a : Arg) (x0 : FVec Ideal S8x2048x2 .f32) (x1 : FVec Ideal S60x42 .f32) (x2 x3 x4 : FVec Ideal S60 .f32) (x5 : FVec Ideal S30x122 .f32)
    (x6 x7 x8 : FVec Ideal S30 .f32) (x9 : FVec Ideal S60x30 .f32) (x10 x11 x12 x13 x14 : FVec Ideal S60 .f32) (x15 : FVec Ideal S2x60 .f32) (x16 : FVec Ideal S2 .f32) : Prop where
  x : ∀ b n c, x0 (ix3 b n c) = ((a.x b n c : ℝ) : EReal)
  w1 : ∀ k j, x1 (ix2 k j) = ((a.w1 k j : ℝ) : EReal)
  b1 : ∀ k, x2 (ix1 k) = ((a.b1 k : ℝ) : EReal)
  g1 : ∀ k, x3 (ix1 k) = ((a.g1 k : ℝ) : EReal)
  e1 : ∀ k, x4 (ix1 k) = ((a.e1 k : ℝ) : EReal)
  cw : ∀ o j, x5 (ix2 o j) = ((a.cw o j : ℝ) : EReal)
  cb : ∀ o, x6 (ix1 o) = ((a.cb o : ℝ) : EReal)
  g2 : ∀ o, x7 (ix1 o) = ((a.g2 o : ℝ) : EReal)
  e2 : ∀ o, x8 (ix1 o) = ((a.e2 o : ℝ) : EReal)
  dw : ∀ k o, x9 (ix2 k o) = ((a.dw k o : ℝ) : EReal)
  db : ∀ k, x10 (ix1 k) = ((a.db k : ℝ) : EReal)
  g3 : ∀ k, x11 (ix1 k) = ((a.g3 k : ℝ) : EReal)
  e3 : ∀ k, x12 (ix1 k) = ((a.e3 k : ℝ) : EReal)
  g4 : ∀ k, x13 (ix1 k) = ((a.g4 k : ℝ) : EReal)
  e4 : ∀ k, x14 (ix1 k) = a.e4 k
  fw : ∀ c k, x15 (ix2 c k) = a.fw c k
  fb : ∀ c, x16 (ix1 c) = a.fb c

/-! ## Normalisations -/

theorem bn_a (hE : ∀ (b : Fin 8) (n : Fin 2048) (k : Fin 60), val_main_v111 (F := Ideal) x0 x1 x2 (ix3 b n k) = ((Tf a k (b, n) : ℝ) : EReal))
    (hM : ∀ k, val_main_v116 (F := Ideal) x0 x1 x2 (ix3 0 k 0) = ((mean 16384 (Tf a k) : ℝ) : EReal)) (hV : ∀ k, val_main_v117 (F := Ideal) x0 x1 x2 (ix3 0 k 0) = ((var 16384 (Tf a k) : ℝ) : EReal))
    {γ β : Fin 60 → ℝ} (hg : ∀ k, x3 (ix1 k) = ((γ k : ℝ) : EReal)) (he : ∀ k, x4 (ix1 k) = ((β k : ℝ) : EReal)) (b : Fin 8) (n : Fin 2048) (k : Fin 60) :
    val_main_v132 (F := Ideal) x0 x1 x2 x3 x4 (ix3 b n k) = ((max (bn eps 16384 (Tf a k) (γ k) (β k) (b, n)) 0 : ℝ) : EReal) := by
  unfold val_main_v132 val_main_v131 val_main_v130 val_main_v127 val_main_v124 val_main_v123 val_main_v122 val_main_v121 val_main_v119 val_main_v118 val_main_v112
  generalize val_main_v111 (F := Ideal) x0 x1 x2 = w at hE ⊢
  generalize val_main_v117 (F := Ideal) x0 x1 x2 = vv at hV ⊢
  generalize val_main_v116 (F := Ideal) x0 x1 x2 = mm at hM ⊢
  pointwise [val_main_cst_2, val_main_v120, val_main_v125, val_main_v126, val_main_v128, val_main_v129, val_main_call2_cst, val_main_call2_v0]
  rw [hE, hM, hV, hg, he, cEps, bn_div (by norm_num), ← EReal.coe_zero, ← coe_max]

theorem bn_b (hE : ∀ (b : Fin 8) (s : Fin 4) (n : Fin 2048) (k : Fin 30), val_main_v185 (F := Ideal) x0 x1 x2 x3 x4 x5 x6 (ix4 b k s n) = ((C1f eps a k (b, s, n) : ℝ) : EReal))
    (hM : ∀ k, val_main_v189 (F := Ideal) x0 x1 x2 x3 x4 x5 x6 (ix4 0 k 0 0) = ((mean 65536 (C1f eps a k) : ℝ) : EReal)) (hV : ∀ k, val_main_v190 (F := Ideal) x0 x1 x2 x3 x4 x5 x6 (ix4 0 k 0 0) = ((var 65536 (C1f eps a k) : ℝ) : EReal))
    {γ β : Fin 30 → ℝ} (hg : ∀ k, x7 (ix1 k) = ((γ k : ℝ) : EReal)) (he : ∀ k, x8 (ix1 k) = ((β k : ℝ) : EReal)) (b : Fin 8) (s : Fin 4) (n : Fin 2048) (k : Fin 30) :
    val_main_v204 (F := Ideal) x0 x1 x2 x3 x4 x5 x6 x7 x8 (ix4 b k s n) = ((max (bn eps 65536 (C1f eps a k) (γ k) (β k) (b, s, n)) 0 : ℝ) : EReal) := by
  unfold val_main_v204 val_main_v203 val_main_v200 val_main_v197 val_main_v196 val_main_v195 val_main_v194 val_main_v192 val_main_v191
  generalize val_main_v185 (F := Ideal) x0 x1 x2 x3 x4 x5 x6 = w at hE ⊢
  generalize val_main_v190 (F := Ideal) x0 x1 x2 x3 x4 x5 x6 = vv at hV ⊢
  generalize val_main_v189 (F := Ideal) x0 x1 x2 x3 x4 x5 x6 = mm at hM ⊢
  pointwise [val_main_cst_17, val_main_v193, val_main_v198, val_main_v199, val_main_v201, val_main_v202, val_main_call7_cst, val_main_call7_v0]
  rw [hE, hM, hV, hg, he, cEps, bn_div (by norm_num), ← EReal.coe_zero, ← coe_max]

theorem bn_c (hE : ∀ (b : Fin 8) (s : Fin 4) (n : Fin 2048) (k : Fin 60), val_main_v209 (F := Ideal) x0 x1 x2 x3 x4 x5 x6 x7 x8 x9 x10 (ix4 b k s n) = ((H2f eps a k (b, s, n) : ℝ) : EReal))
    (hM : ∀ k, val_main_v213 (F := Ideal) x0 x1 x2 x3 x4 x5 x6 x7 x8 x9 x10 (ix4 0 k 0 0) = ((mean 65536 (H2f eps a k) : ℝ) : EReal)) (hV : ∀ k, val_main_v214 (F := Ideal) x0 x1 x2 x3 x4 x5 x6 x7 x8 x9 x10 (ix4 0 k 0 0) = ((var 65536 (H2f eps a k) : ℝ) : EReal))
    {γ β : Fin 60 → ℝ} (hg : ∀ k, x11 (ix1 k) = ((γ k : ℝ) : EReal)) (he : ∀ k, x12 (ix1 k) = ((β k : ℝ) : EReal)) (b : Fin 8) (s : Fin 4) (n : Fin 2048) (k : Fin 60) :
    val_main_v228 (F := Ideal) x0 x1 x2 x3 x4 x5 x6 x7 x8 x9 x10 x11 x12 (ix4 b k s n) = ((max (bn eps 65536 (H2f eps a k) (γ k) (β k) (b, s, n)) 0 : ℝ) : EReal) := by
  unfold val_main_v228 val_main_v227 val_main_v224 val_main_v221 val_main_v220 val_main_v219 val_main_v218 val_main_v216 val_main_v215
  generalize val_main_v209 (F := Ideal) x0 x1 x2 x3 x4 x5 x6 x7 x8 x9 x10 = w at hE ⊢
  generalize val_main_v214 (F := Ideal) x0 x1 x2 x3 x4 x5 x6 x7 x8 x9 x10 = vv at hV ⊢
  generalize val_main_v213 (F := Ideal) x0 x1 x2 x3 x4 x5 x6 x7 x8 x9 x10 = mm at hM ⊢
  pointwise [val_main_cst_21, val_main_v217, val_main_v222, val_main_v223, val_main_v225, val_main_v226, val_main_call9_cst, val_main_call9_v0]
  rw [hE, hM, hV, hg, he, cEps, bn_div (by norm_num), ← EReal.coe_zero, ← coe_max]

/-- The last normalisation of any such array, as the program computes it. -/
theorem bn_core {f : Fin 60 → Fin 8 × Fin 2048 → ℝ} {w : FVec Ideal S8x60x2048 .f32} {vv mm : FVec Ideal S1x60x1 .f32}
    (hE : ∀ (b : Fin 8) (n : Fin 2048) (k : Fin 60), w (ix3 b k n) = ((f k (b, n) : ℝ) : EReal))
    (hM : ∀ k, mm (ix3 0 k 0) = ((mean 16384 (f k) : ℝ) : EReal)) (hV : ∀ k, vv (ix3 0 k 0) = ((var 16384 (f k) : ℝ) : EReal))
    {γ β : Fin 60 → ℝ} (hg : ∀ k, x13 (ix1 k) = ((γ k : ℝ) : EReal)) (he : ∀ k, x14 (ix1 k) = ((β k : ℝ) : EReal)) (b : Fin 8) (n : Fin 2048) (k : Fin 60) :
    maximumf (transpose S8x2048x60 [0, 2, 1] (addf (mulf (Host.divf (subf w (broadcastInDim S8x60x2048 ![0, 1, 2] bcast_S1x60x1_S8x60x2048_0_1_2 mm))
      (broadcastInDim S8x60x2048 ![0, 1, 2] bcast_S1x60x1_S8x60x2048_0_1_2 (Host.sqrt (addf vv (val_main_v237 (F := Ideal))))))
      (val_main_v243 (F := Ideal) x13)) (val_main_v246 (F := Ideal) x14)) transposes_S8x60x2048_S8x2048x60_0_2_1) (val_main_call11_v0 (F := Ideal)) (ix3 b n k)
      = ((max (bn eps 16384 (f k) (γ k) (β k) (b, n)) 0 : ℝ) : EReal) := by
  pointwise [val_main_cst_26, val_main_v237, val_main_v242, val_main_v243, val_main_v245, val_main_v246, val_main_call11_cst, val_main_call11_v0]
  rw [hE, hM, hV, hg, he, cEps, bn_div (by norm_num), ← EReal.coe_zero, ← coe_max]

/-- The same, the shift any extended real. -/
theorem bn_core_ext {f : Fin 60 → Fin 8 × Fin 2048 → ℝ} {w : FVec Ideal S8x60x2048 .f32} {vv mm : FVec Ideal S1x60x1 .f32}
    (hE : ∀ (b : Fin 8) (n : Fin 2048) (k : Fin 60), w (ix3 b k n) = ((f k (b, n) : ℝ) : EReal))
    (hM : ∀ k, mm (ix3 0 k 0) = ((mean 16384 (f k) : ℝ) : EReal)) (hV : ∀ k, vv (ix3 0 k 0) = ((var 16384 (f k) : ℝ) : EReal))
    {γ : Fin 60 → ℝ} {β : Fin 60 → EReal} (hg : ∀ k, x13 (ix1 k) = ((γ k : ℝ) : EReal)) (he : ∀ k, x14 (ix1 k) = β k) (b : Fin 8) (n : Fin 2048) (k : Fin 60) :
    maximumf (transpose S8x2048x60 [0, 2, 1] (addf (mulf (Host.divf (subf w (broadcastInDim S8x60x2048 ![0, 1, 2] bcast_S1x60x1_S8x60x2048_0_1_2 mm))
      (broadcastInDim S8x60x2048 ![0, 1, 2] bcast_S1x60x1_S8x60x2048_0_1_2 (Host.sqrt (addf vv (val_main_v237 (F := Ideal))))))
      (val_main_v243 (F := Ideal) x13)) (val_main_v246 (F := Ideal) x14)) transposes_S8x60x2048_S8x2048x60_0_2_1) (val_main_call11_v0 (F := Ideal)) (ix3 b n k)
      = max (((bn eps 16384 (f k) (γ k) 0 (b, n) : ℝ) : EReal) + β k) 0 := by
  pointwise [val_main_cst_26, val_main_v237, val_main_v242, val_main_v243, val_main_v245, val_main_v246, val_main_call11_cst, val_main_call11_v0]
  have e := bn_div (N := 16384) (by norm_num) (f k) (γ k) 0 (b, n)
  rw [EReal.coe_zero, add_zero] at e
  rw [hE, hM, hV, hg, he, cEps, e]

theorem bn_d (hE : ∀ (b : Fin 8) (n : Fin 2048) (k : Fin 60), val_main_v229 (F := Ideal) x0 x1 x2 x3 x4 x5 x6 x7 x8 x9 x10 x11 x12 (ix3 b k n) = ((NPf eps a k (b, n) : ℝ) : EReal))
    (hM : ∀ k, val_main_v233 (F := Ideal) x0 x1 x2 x3 x4 x5 x6 x7 x8 x9 x10 x11 x12 (ix3 0 k 0) = ((mean 16384 (NPf eps a k) : ℝ) : EReal)) (hV : ∀ k, val_main_v234 (F := Ideal) x0 x1 x2 x3 x4 x5 x6 x7 x8 x9 x10 x11 x12 (ix3 0 k 0) = ((var 16384 (NPf eps a k) : ℝ) : EReal))
    {γ : Fin 60 → ℝ} {β : Fin 60 → EReal} (hg : ∀ k, x13 (ix1 k) = ((γ k : ℝ) : EReal)) (he : ∀ k, x14 (ix1 k) = β k) (b : Fin 8) (n : Fin 2048) (k : Fin 60) :
    val_main_v249 (F := Ideal) x0 x1 x2 x3 x4 x5 x6 x7 x8 x9 x10 x11 x12 x13 x14 (ix3 b n k) = max (((bn eps 16384 (NPf eps a k) (γ k) 0 (b, n) : ℝ) : EReal) + β k) 0 := by
  unfold val_main_v249 val_main_v248 val_main_v247 val_main_v244 val_main_v241 val_main_v240 val_main_v239 val_main_v238 val_main_v236 val_main_v235
  exact bn_core_ext hE hM hV hg he b n k

/-! ## The layers -/

theorem t_is (h1 : ∀ k j, x1 (ix2 k j) = ((a.w1 k j : ℝ) : EReal)) (h2 : ∀ k, x2 (ix1 k) = ((a.b1 k : ℝ) : EReal))
    (h105 : ∀ b n j, val_main_v105 (F := Ideal) x0 (ix3 b n j) = ((emb a b n j : ℝ) : EReal)) (b : Fin 8) (n : Fin 2048) (k : Fin 60) :
    val_main_v111 (F := Ideal) x0 x1 x2 (ix3 b n k) = ((Tf a k (b, n) : ℝ) : EReal) := by
  unfold val_main_v111 val_main_v110 val_main_v107
  generalize val_main_v105 (F := Ideal) x0 = e at h105 ⊢
  pointwise [val_main_v106, val_main_v108, val_main_v109, val_main_call0_cst, val_main_call0_v0]
  simp only [h105, h1, h2, ← EReal.coe_mul, ← coe_sum, ← EReal.coe_add, ← EReal.coe_zero, ← coe_max]
  rfl

theorem t112 (b : Fin 8) (n : Fin 2048) (k : Fin 60) : val_main_v112 (F := Ideal) x0 x1 x2 (ix3 b k n) = val_main_v111 (F := Ideal) x0 x1 x2 (ix3 b n k) := by
  unfold val_main_v112
  generalize val_main_v111 (F := Ideal) x0 x1 x2 = e
  pointwise

theorem v136_is (h : ∀ b n k, val_main_v132 (F := Ideal) x0 x1 x2 x3 x4 (ix3 b n k) = ((A1 eps a b n k : ℝ) : EReal)) (b : Fin 8) (n : Fin 2048) (j : Fin 120) :
    val_main_v136 (F := Ideal) x0 x1 x2 x3 x4 (ix3 b n j) = ((if hj : j.val < 60 then A1 eps a b n ⟨j.val, hj⟩ else XG eps a b ⟨j.val - 60, by omega⟩ : ℝ) : EReal) := by
  unfold val_main_v136 val_main_v135 val_main_v134 val_main_v133
  generalize val_main_v132 (F := Ideal) x0 x1 x2 x3 x4 = e at h ⊢
  pointwise [val_main_cst_3]
  simp only [h, cBot, fold_max]
  split_ifs <;> rfl

theorem sum60 (g : Fin 120 → ℝ) : ∑ j, g j = ∑ k : Fin 60, g ⟨k.val, by omega⟩ + ∑ k : Fin 60, g ⟨60 + k.val, by omega⟩ :=
  Fin.sum_univ_add (a := 60) (b := 60) g

theorem c1_is (hx : ∀ b n c, x0 (ix3 b n c) = ((a.x b n c : ℝ) : EReal)) (h5 : ∀ o j, x5 (ix2 o j) = ((a.cw o j : ℝ) : EReal)) (h6 : ∀ o, x6 (ix1 o) = ((a.cb o : ℝ) : EReal))
    (h168 : ∀ b n s c, val_main_v168 (F := Ideal) x0 (ix4 b n s c) = x0 (ix3 b (pt s) c))
    (h178 : ∀ b n s j, val_main_v178 (F := Ideal) x0 x1 x2 x3 x4 (ix4 b n s j) = ((if hj : j.val < 60 then A1 eps a b (pt s) ⟨j.val, hj⟩ else XG eps a b ⟨j.val - 60, by omega⟩ : ℝ) : EReal))
    (b : Fin 8) (s : Fin 4) (n : Fin 2048) (o : Fin 30) :
    val_main_v185 (F := Ideal) x0 x1 x2 x3 x4 x5 x6 (ix4 b o s n) = ((C1f eps a o (b, s, n) : ℝ) : EReal) := by
  unfold val_main_v185 val_main_v182 val_main_v181 val_main_v180 val_main_v179 val_main_v171
  generalize val_main_v178 (F := Ideal) x0 x1 x2 x3 x4 = e at h178 ⊢
  generalize val_main_v168 (F := Ideal) x0 = f at h168 ⊢
  pointwise [val_main_v183, val_main_v184, val_main_v169, val_main_v170]
  simp only [h178, h168, hx, h5, h6, ← EReal.coe_sub, ← EReal.coe_mul, ← coe_sum, ← EReal.coe_add]
  rw [sum60]
  refine congrArg (fun r : ℝ => (r : EReal)) ?_
  unfold C1f C1
  refine congrArg₂ (· + ·) (congrArg₂ (· + ·) (congrArg₂ (· + ·) ?_ ?_) rfl) rfl
  · refine Finset.sum_congr rfl fun k _ => ?_
    rw [dif_pos k.isLt]
  · refine Finset.sum_congr rfl fun k _ => ?_
    rw [dif_neg (by show ¬(60 + k.val < 60); omega)]
    congr 2
    exact Fin.ext (by show 60 + k.val - 60 = k.val; omega)

theorem h2_is (h9 : ∀ k o, x9 (ix2 k o) = ((a.dw k o : ℝ) : EReal)) (h10 : ∀ k, x10 (ix1 k) = ((a.db k : ℝ) : EReal))
    (h204 : ∀ b s n o, val_main_v204 (F := Ideal) x0 x1 x2 x3 x4 x5 x6 x7 x8 (ix4 b o s n) = ((H1 eps a b s n o : ℝ) : EReal)) (b : Fin 8) (s : Fin 4) (n : Fin 2048) (k : Fin 60) :
    val_main_v209 (F := Ideal) x0 x1 x2 x3 x4 x5 x6 x7 x8 x9 x10 (ix4 b k s n) = ((H2f eps a k (b, s, n) : ℝ) : EReal) := by
  unfold val_main_v209 val_main_v206 val_main_v205
  generalize val_main_v204 (F := Ideal) x0 x1 x2 x3 x4 x5 x6 x7 x8 = e at h204 ⊢
  pointwise [val_main_v207, val_main_v208]
  simp only [h204, h9, h10, ← EReal.coe_mul, ← coe_sum, ← EReal.coe_add]
  rfl

theorem np_is (h228 : ∀ b s n k, val_main_v228 (F := Ideal) x0 x1 x2 x3 x4 x5 x6 x7 x8 x9 x10 x11 x12 (ix4 b k s n) = ((Y eps a b s n k : ℝ) : EReal)) (b : Fin 8) (n : Fin 2048) (k : Fin 60) :
    val_main_v229 (F := Ideal) x0 x1 x2 x3 x4 x5 x6 x7 x8 x9 x10 x11 x12 (ix3 b k n) = ((NPf eps a k (b, n) : ℝ) : EReal) := by
  unfold val_main_v229
  generalize val_main_v228 (F := Ideal) x0 x1 x2 x3 x4 x5 x6 x7 x8 x9 x10 x11 x12 = e at h228 ⊢
  pointwise [val_main_cst_22]
  simp only [h228, cBot, fold_max]
  rfl

theorem out_is (h15 : ∀ c k, x15 (ix2 c k) = a.fw c k) (h16 : ∀ c, x16 (ix1 c) = a.fb c)
    (h249 : ∀ b n k, val_main_v249 (F := Ideal) x0 x1 x2 x3 x4 x5 x6 x7 x8 x9 x10 x11 x12 x13 x14 (ix3 b n k) = Z eps a b n k) (r : Fin 16384) (c : Fin 2) :
    val_main_v255 (F := Ideal) x0 x1 x2 x3 x4 x5 x6 x7 x8 x9 x10 x11 x12 x13 x14 x15 x16 (ix2 r c) = Out eps a ⟨r.val / 2048, by omega⟩ ⟨r.val % 2048, Nat.mod_lt _ (by decide)⟩ c := by
  have h254 : ∀ b n c, val_main_v254 (F := Ideal) x0 x1 x2 x3 x4 x5 x6 x7 x8 x9 x10 x11 x12 x13 x14 x15 x16 (ix3 b n c) = Out eps a b n c := by
    intro b n c
    unfold val_main_v254 val_main_v251
    generalize val_main_v249 (F := Ideal) x0 x1 x2 x3 x4 x5 x6 x7 x8 x9 x10 x11 x12 x13 x14 = e at h249 ⊢
    pointwise [val_main_v250, val_main_v252, val_main_v253]
    simp only [h249, h15, h16]
    rfl
  unfold val_main_v255
  generalize val_main_v254 (F := Ideal) x0 x1 x2 x3 x4 x5 x6 x7 x8 x9 x10 x11 x12 x13 x14 x15 x16 = e at h254 ⊢
  pointwise
  rw [h254]

end Cert.Val
-- ==== Proof.V.RBall.lean ====
/-
  The neighbour search of the plain program: within the bound on the coordinates every point is in reach, so the four
  points are the first four of the batch.
-/
module

public import proofs.«01_k».proof.Proof.V.RStage
public import Idealize.ShloMosaic.Lib.SortPrefix

@[expose] public section

set_option maxHeartbeats 1000000

noncomputable section

namespace Cert.Val

open Finset Cert.ReferenceIdeal Cert.ReferenceIdeal.Gen Cert.ReferenceIdeal.Read
open Idealize.ShloMosaic

variable {x0 : FVec Ideal S8x2048x2 .f32} {x1 : FVec Ideal S60x42 .f32} {x2 x3 x4 : FVec Ideal S60 .f32} {a : Arg}

/-- No point is out of reach. -/
theorem v155_is (hx : ∀ b n c, x0 (ix3 b n c) = ((a.x b n c : ℝ) : EReal)) (hb : ∀ b n c, |a.x b n c| ≤ 3500) (b : Fin 8) (n n' : Fin 2048) :
    val_main_v155 (F := Ideal) x0 (ix3 b n n') = BitVec.ofNat 32 n'.val := by
  pointwise [val_main_v155, val_main_v154, val_main_v149, val_main_v145, val_main_v143, val_main_v144, val_main_v142, val_main_v141, val_main_v140, val_main_v139, val_main_v138, val_main_v137, val_main_v146, val_main_v147, val_main_v148, val_main_v150, val_main_v151, val_main_v152, val_main_v153, val_main_cst_4, val_main_cst_5, val_main_cst_6, val_main_cst_7, val_main_c_8, val_main_call3_v0, val_main_call3_v1]
  rw [if_neg]
  simp only [hx, c1e8, c2, ← EReal.coe_mul, ← coe_sum, ← EReal.coe_add, ← EReal.coe_sub, not_lt, EReal.coe_le_coe_iff, Fin.sum_univ_two]
  have h0 := abs_le.mp (hb b n 0)
  have h1 := abs_le.mp (hb b n 1)
  have h2 := abs_le.mp (hb b n' 0)
  have h3 := abs_le.mp (hb b n' 1)
  nlinarith [mul_self_nonneg (a.x b n 0 + a.x b n' 0), mul_self_nonneg (a.x b n 1 + a.x b n' 1), mul_nonneg (sub_nonneg.mpr h0.2) (sub_nonneg.mpr h0.1),
    mul_nonneg (sub_nonneg.mpr h1.2) (sub_nonneg.mpr h1.1), mul_nonneg (sub_nonneg.mpr h2.2) (sub_nonneg.mpr h2.1), mul_nonneg (sub_nonneg.mpr h3.2) (sub_nonneg.mpr h3.1)]

theorem lt_word (k k' : Fin 2048) : (comparator_i32_d2 (BitVec.ofNat 32 k.val) (BitVec.ofNat 32 k'.val) == 1#1) = decide (k < k') := by
  have e1 : (BitVec.ofNat 32 k.val).toInt = k.val := by
    rw [BitVec.toInt_eq_toNat_of_lt (by simp; omega)]; simp; omega
  have e2 : (BitVec.ofNat 32 k'.val).toInt = k'.val := by
    rw [BitVec.toInt_eq_toNat_of_lt (by simp; omega)]; simp; omega
  unfold comparator_i32_d2
  simp only [IntOp.cmpi, BitVec.slt, e1, e2]
  by_cases h : k < k'
  · have : (k.val : ℤ) < k'.val := by exact_mod_cast h
    simp [h, this]
  · have : ¬ (k.val : ℤ) < k'.val := by exact_mod_cast h
    simp [h, this]

/-- A sort by number leaves the numbers where they are. -/
theorem sorted_lt {N : ℕ} (k : Fin N) (B : Fin N → Fin N → Bool) (hB : ∀ i j, B i j = decide (i < j)) : sortedFrom B k = k := by
  have hT : StrictTotalBefore B :=
    { irrefl := fun x => by simp [hB]
      trans := fun x y z h1 h2 => by
        rw [hB, decide_eq_true_eq] at *
        exact lt_trans h1 h2
      total := fun x y h => by
        simp only [hB, decide_eq_true_eq]
        exact lt_or_gt_of_ne h }
  exact hT.sortedFrom_eq_of_prefix (le_refl N) id Function.injective_id (fun i j h => by simp [hB, h.le])
    (fun i p h => absurd rfl (h p)) k

theorem along_ix3 (b : Fin 8) (n n' : Fin 2048) (h2 : 2 < S8x2048x2048.rank) (k : Fin (S8x2048x2048.size ⟨2, h2⟩)) :
    Shape.Idx.along (s := S8x2048x2048) (ix3 b n n') ⟨2, h2⟩ k = ix3 b n (⟨k.val, k.isLt⟩ : Fin 2048) := by
  funext x
  match x with
  | ⟨0, _⟩ => rfl
  | ⟨1, _⟩ => rfl
  | ⟨2, _⟩ => rfl

theorem v156_is (h : ∀ b n n', val_main_v155 (F := Ideal) x0 (ix3 b n n') = BitVec.ofNat 32 n'.val) (b : Fin 8) (n n' : Fin 2048) :
    val_main_v156 (F := Ideal) x0 (ix3 b n n') = BitVec.ofNat 32 n'.val := by
  have h2 : 2 < S8x2048x2048.rank := by decide
  unfold val_main_v156
  generalize val_main_v155 (F := Ideal) x0 = e at h ⊢
  unfold Host.sort
  rw [dif_pos h2]
  simp only [along_ix3]
  rw [h]
  rw [sorted_lt]
  · rfl
  · intro i j
    rw [h, h]
    exact lt_word ⟨i.val, i.isLt⟩ ⟨j.val, j.isLt⟩

theorem v161_is (h : ∀ b n n', val_main_v156 (F := Ideal) x0 (ix3 b n n') = BitVec.ofNat 32 n'.val) (b : Fin 8) (n : Fin 2048) (s : Fin 4) :
    val_main_v161 (F := Ideal) x0 (ix3 b n s) = BitVec.ofNat 32 s.val := by
  unfold val_main_v161 val_main_v160 val_main_call5_v0 val_main_v158 val_main_v157
  generalize val_main_v156 (F := Ideal) x0 = e at h ⊢
  pointwise [val_main_v159, val_main_c_9]
  simp only [h]
  fin_cases s <;> rfl

theorem v166_is (h : ∀ b n s, val_main_v161 (F := Ideal) x0 (ix3 b n s) = BitVec.ofNat 32 s.val) (b : Fin 8) (n : Fin 2048) (s : Fin 4) :
    val_main_v166 (F := Ideal) x0 (ix3 b n s) = BitVec.ofNat 32 s.val ∧ val_main_v176 (F := Ideal) x0 (ix3 b n s) = BitVec.ofNat 32 s.val := by
  unfold val_main_v166 val_main_v165 val_main_v163 val_main_v176 val_main_v175 val_main_v173
  generalize val_main_v161 (F := Ideal) x0 = e at h ⊢
  pointwise [val_main_v162, val_main_v164, val_main_c_10, val_main_c_11, val_main_v172, val_main_v174, val_main_c_12, val_main_c_13]
  simp only [h]
  fin_cases s <;> exact ⟨rfl, rfl⟩

/-- Two columns gathered at the first four points are those points' columns; -/
theorem gather2 {V : FVec Ideal S8x2048x2 .f32} {e : IVec S8x2048x4x1 32} (hw : ∀ b n s, e (ix4 b n s 0) = BitVec.ofNat 32 s.val)
    (b : Fin 8) (n : Fin 2048) (s : Fin 4) (c : Fin 2) :
    Host.gather gather_S8x2048x2_S8x2048x4x1_S8x2048x4x2_3_1_0_0_1_3_112 V e (ix4 b n s c) = V (ix3 b (pt s) c) := by
  have e0 : (gather_S8x2048x2_S8x2048x4x1_S8x2048x4x2_3_1_0_0_1_3_112).start (ix4 b n s c) e (0 : Fin 3) + (gather_S8x2048x2_S8x2048x4x1_S8x2048x4x2_3_1_0_0_1_3_112).batchCoord (ix4 b n s c) (0 : Fin 3)
      + (gather_S8x2048x2_S8x2048x4x1_S8x2048x4x2_3_1_0_0_1_3_112).offCoord (ix4 b n s c) (0 : Fin 3) = b.val := by
    rw [GatherDims.start_batching _ _ _ _ (by decide), GatherDims.offCoord_eq_zero _ _ _ (by decide)]
    simp only [Nat.zero_add, Nat.add_zero]
    unfold GatherDims.batchCoord
    rw [dif_pos (by decide)]
    rfl
  have e1 : (gather_S8x2048x2_S8x2048x4x1_S8x2048x4x2_3_1_0_0_1_3_112).start (ix4 b n s c) e (1 : Fin 3) + (gather_S8x2048x2_S8x2048x4x1_S8x2048x4x2_3_1_0_0_1_3_112).batchCoord (ix4 b n s c) (1 : Fin 3)
      + (gather_S8x2048x2_S8x2048x4x1_S8x2048x4x2_3_1_0_0_1_3_112).offCoord (ix4 b n s c) (1 : Fin 3) = s.val := by
    rw [GatherDims.batchCoord_eq_zero _ _ _ (by decide), GatherDims.offCoord_eq_zero _ _ _ (by decide)]
    simp only [Nat.add_zero]
    unfold GatherDims.start
    rw [dif_pos (by decide)]
    have hsi : ∀ q, (gather_S8x2048x2_S8x2048x4x1_S8x2048x4x2_3_1_0_0_1_3_112).siIdx (ix4 b n s c) q = ix4 b n s 0 := by
      intro q
      funext y
      apply Fin.ext
      match y with
      | ⟨0, _⟩ => rfl
      | ⟨1, _⟩ => rfl
      | ⟨2, _⟩ => rfl
      | ⟨3, _⟩ => exact Nat.lt_one_iff.mp (Fin.isLt _)
    rw [hsi, hw]
    fin_cases s <;> rfl
  have e2 : (gather_S8x2048x2_S8x2048x4x1_S8x2048x4x2_3_1_0_0_1_3_112).start (ix4 b n s c) e (2 : Fin 3) + (gather_S8x2048x2_S8x2048x4x1_S8x2048x4x2_3_1_0_0_1_3_112).batchCoord (ix4 b n s c) (2 : Fin 3)
      + (gather_S8x2048x2_S8x2048x4x1_S8x2048x4x2_3_1_0_0_1_3_112).offCoord (ix4 b n s c) (2 : Fin 3) = c.val := by
    rw [GatherDims.batchCoord_eq_zero _ _ _ (by decide)]
    unfold GatherDims.start
    rw [dif_neg (by decide)]
    simp only [Nat.zero_add, Nat.add_zero]
    unfold GatherDims.offCoord
    rw [dif_pos (by decide)]
    rfl
  unfold Host.gather
  congr 1
  funext x
  refine Fin.ext ?_
  match x with
  | ⟨0, _⟩ => exact e0
  | ⟨1, _⟩ => exact e1
  | ⟨2, _⟩ => exact e2

/-- so are a hundred and twenty. -/
theorem gather120 {V : FVec Ideal S8x2048x120 .f32} {e : IVec S8x2048x4x1 32} (hw : ∀ b n s, e (ix4 b n s 0) = BitVec.ofNat 32 s.val)
    (b : Fin 8) (n : Fin 2048) (s : Fin 4) (c : Fin 120) :
    Host.gather gather_S8x2048x120_S8x2048x4x1_S8x2048x4x120_3_1_0_0_1_3_11120 V e (ix4 b n s c) = V (ix3 b (pt s) c) := by
  have e0 : (gather_S8x2048x120_S8x2048x4x1_S8x2048x4x120_3_1_0_0_1_3_11120).start (ix4 b n s c) e (0 : Fin 3) + (gather_S8x2048x120_S8x2048x4x1_S8x2048x4x120_3_1_0_0_1_3_11120).batchCoord (ix4 b n s c) (0 : Fin 3)
      + (gather_S8x2048x120_S8x2048x4x1_S8x2048x4x120_3_1_0_0_1_3_11120).offCoord (ix4 b n s c) (0 : Fin 3) = b.val := by
    rw [GatherDims.start_batching _ _ _ _ (by decide), GatherDims.offCoord_eq_zero _ _ _ (by decide)]
    simp only [Nat.zero_add, Nat.add_zero]
    unfold GatherDims.batchCoord
    rw [dif_pos (by decide)]
    rfl
  have e1 : (gather_S8x2048x120_S8x2048x4x1_S8x2048x4x120_3_1_0_0_1_3_11120).start (ix4 b n s c) e (1 : Fin 3) + (gather_S8x2048x120_S8x2048x4x1_S8x2048x4x120_3_1_0_0_1_3_11120).batchCoord (ix4 b n s c) (1 : Fin 3)
      + (gather_S8x2048x120_S8x2048x4x1_S8x2048x4x120_3_1_0_0_1_3_11120).offCoord (ix4 b n s c) (1 : Fin 3) = s.val := by
    rw [GatherDims.batchCoord_eq_zero _ _ _ (by decide), GatherDims.offCoord_eq_zero _ _ _ (by decide)]
    simp only [Nat.add_zero]
    unfold GatherDims.start
    rw [dif_pos (by decide)]
    have hsi : ∀ q, (gather_S8x2048x120_S8x2048x4x1_S8x2048x4x120_3_1_0_0_1_3_11120).siIdx (ix4 b n s c) q = ix4 b n s 0 := by
      intro q
      funext y
      apply Fin.ext
      match y with
      | ⟨0, _⟩ => rfl
      | ⟨1, _⟩ => rfl
      | ⟨2, _⟩ => rfl
      | ⟨3, _⟩ => exact Nat.lt_one_iff.mp (Fin.isLt _)
    rw [hsi, hw]
    fin_cases s <;> rfl
  have e2 : (gather_S8x2048x120_S8x2048x4x1_S8x2048x4x120_3_1_0_0_1_3_11120).start (ix4 b n s c) e (2 : Fin 3) + (gather_S8x2048x120_S8x2048x4x1_S8x2048x4x120_3_1_0_0_1_3_11120).batchCoord (ix4 b n s c) (2 : Fin 3)
      + (gather_S8x2048x120_S8x2048x4x1_S8x2048x4x120_3_1_0_0_1_3_11120).offCoord (ix4 b n s c) (2 : Fin 3) = c.val := by
    rw [GatherDims.batchCoord_eq_zero _ _ _ (by decide)]
    unfold GatherDims.start
    rw [dif_neg (by decide)]
    simp only [Nat.zero_add, Nat.add_zero]
    unfold GatherDims.offCoord
    rw [dif_pos (by decide)]
    rfl
  unfold Host.gather
  congr 1
  funext x
  refine Fin.ext ?_
  match x with
  | ⟨0, _⟩ => exact e0
  | ⟨1, _⟩ => exact e1
  | ⟨2, _⟩ => exact e2

theorem v168_is (h : ∀ b n s, val_main_v166 (F := Ideal) x0 (ix3 b n s) = BitVec.ofNat 32 s.val) (b : Fin 8) (n : Fin 2048) (s : Fin 4) (c : Fin 2) :
    val_main_v168 (F := Ideal) x0 (ix4 b n s c) = x0 (ix3 b (pt s) c) := by
  have hw : ∀ b n s, val_main_v167 (F := Ideal) x0 (ix4 b n s 0) = BitVec.ofNat 32 s.val := by
    intro b n s
    unfold val_main_v167
    generalize val_main_v166 (F := Ideal) x0 = e at h ⊢
    pointwise
    rw [h]
  unfold val_main_v168
  exact gather2 hw b n s c

theorem v178_is (h : ∀ b n s, val_main_v176 (F := Ideal) x0 (ix3 b n s) = BitVec.ofNat 32 s.val) (b : Fin 8) (n : Fin 2048) (s : Fin 4) (c : Fin 120) :
    val_main_v178 (F := Ideal) x0 x1 x2 x3 x4 (ix4 b n s c) = val_main_v136 (F := Ideal) x0 x1 x2 x3 x4 (ix3 b (pt s) c) := by
  have hw : ∀ b n s, val_main_v177 (F := Ideal) x0 (ix4 b n s 0) = BitVec.ofNat 32 s.val := by
    intro b n s
    unfold val_main_v177
    generalize val_main_v176 (F := Ideal) x0 = e at h ⊢
    pointwise
    rw [h]
  unfold val_main_v178
  exact gather120 hw b n s c

end Cert.Val
-- ==== Proof.V.REmb.lean ====
/-
  The features of the plain program: the coordinates, and their sines and cosines at ten frequencies.
-/
module

public import proofs.«01_k».proof.Proof.V.RBall
public import proofs.«01_k».proof.Proof.Gen.ReferenceIdeal.Read

@[expose] public section

set_option maxHeartbeats 1000000

noncomputable section

namespace Cert.Val

open Finset Cert.ReferenceIdeal Cert.ReferenceIdeal.Gen Cert.ReferenceIdeal.Read
open Idealize.ShloMosaic

variable {x0 : FVec Ideal S8x2048x2 .f32} {a : Arg}

theorem emb_lo (b : Fin 8) (n : Fin 2048) (j : Fin 42) (c : Fin 2) (h : j.val = c.val) : a.x b n c = emb a b n j := by
  have e : (⟨j.val % 2, Nat.mod_lt _ (by decide)⟩ : Fin 2) = c := Fin.ext (by show j.val % 2 = c.val; omega)
  simp only [emb, e]
  rw [if_pos (by omega)]

theorem emb_sin (b : Fin 8) (n : Fin 2048) (j : Fin 42) (p : ℕ) (c : Fin 2) (h : j.val = 2 + 4 * p + c.val) :
    Real.sin (2 ^ p * a.x b n c) = emb a b n j := by
  have e : (⟨j.val % 2, Nat.mod_lt _ (by decide)⟩ : Fin 2) = c := Fin.ext (by show j.val % 2 = c.val; omega)
  have ep : (j.val - 2) / 4 = p := by omega
  simp only [emb, e, ep]
  rw [if_neg (by omega), if_pos (by omega)]

theorem emb_cos (b : Fin 8) (n : Fin 2048) (j : Fin 42) (p : ℕ) (c : Fin 2) (h : j.val = 4 + 4 * p + c.val) :
    Real.cos (2 ^ p * a.x b n c) = emb a b n j := by
  have e : (⟨j.val % 2, Nat.mod_lt _ (by decide)⟩ : Fin 2) = c := Fin.ext (by show j.val % 2 = c.val; omega)
  have ep : (j.val - 2) / 4 = p := by omega
  simp only [emb, e, ep]
  rw [if_neg (by omega), if_neg (by omega)]

theorem pow_word (p : ℕ) (hp : p < 10) :
    Ideal.pow (Ideal.ofBits .f32 0x40000000#32) (FloatOps.sitofp (F := Ideal) .f32 (BitVec.ofNat 32 p)) = (((2 : ℝ) ^ p : ℝ) : EReal) := by
  have e : (FloatOps.sitofp (F := Ideal) .f32 (BitVec.ofNat 32 p) : EReal) = (((p : ℝ)) : EReal) := by
    interval_cases p <;> simp [FloatOps.sitofp]
  rw [c2, e, Ideal.pow_coe_coe]
  congr 1
  exact Real.rpow_natCast 2 p

theorem freq (p : Fin 10) : val_main_v2 (F := Ideal) (ix1 p) = (((2 : ℝ) ^ p.val : ℝ) : EReal) := by
  rw [← pow_word p.val p.isLt]
  pointwise [val_main_v2, val_main_v1, val_main_v0, val_main_cst]

/-- The sines at frequency 0. -/
theorem piece7 (hx : ∀ b n c, x0 (ix3 b n c) = ((a.x b n c : ℝ) : EReal)) (b : Fin 8) (n : Fin 2048) (c : Fin 2) :
    val_main_v7 (F := Ideal) x0 (ix3 b n c) = ((Real.sin (2 ^ 0 * a.x b n c) : ℝ) : EReal) := by
  have hf := freq 0
  unfold val_main_v7 val_main_v6 val_main_v5 val_main_v4 val_main_v3
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 0. -/
theorem piece12 (hx : ∀ b n c, x0 (ix3 b n c) = ((a.x b n c : ℝ) : EReal)) (b : Fin 8) (n : Fin 2048) (c : Fin 2) :
    val_main_v12 (F := Ideal) x0 (ix3 b n c) = ((Real.cos (2 ^ 0 * a.x b n c) : ℝ) : EReal) := by
  have hf := freq 0
  unfold val_main_v12 val_main_v11 val_main_v10 val_main_v9 val_main_v8
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 1. -/
theorem piece17 (hx : ∀ b n c, x0 (ix3 b n c) = ((a.x b n c : ℝ) : EReal)) (b : Fin 8) (n : Fin 2048) (c : Fin 2) :
    val_main_v17 (F := Ideal) x0 (ix3 b n c) = ((Real.sin (2 ^ 1 * a.x b n c) : ℝ) : EReal) := by
  have hf := freq 1
  unfold val_main_v17 val_main_v16 val_main_v15 val_main_v14 val_main_v13
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 1. -/
theorem piece22 (hx : ∀ b n c, x0 (ix3 b n c) = ((a.x b n c : ℝ) : EReal)) (b : Fin 8) (n : Fin 2048) (c : Fin 2) :
    val_main_v22 (F := Ideal) x0 (ix3 b n c) = ((Real.cos (2 ^ 1 * a.x b n c) : ℝ) : EReal) := by
  have hf := freq 1
  unfold val_main_v22 val_main_v21 val_main_v20 val_main_v19 val_main_v18
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 2. -/
theorem piece27 (hx : ∀ b n c, x0 (ix3 b n c) = ((a.x b n c : ℝ) : EReal)) (b : Fin 8) (n : Fin 2048) (c : Fin 2) :
    val_main_v27 (F := Ideal) x0 (ix3 b n c) = ((Real.sin (2 ^ 2 * a.x b n c) : ℝ) : EReal) := by
  have hf := freq 2
  unfold val_main_v27 val_main_v26 val_main_v25 val_main_v24 val_main_v23
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 2. -/
theorem piece32 (hx : ∀ b n c, x0 (ix3 b n c) = ((a.x b n c : ℝ) : EReal)) (b : Fin 8) (n : Fin 2048) (c : Fin 2) :
    val_main_v32 (F := Ideal) x0 (ix3 b n c) = ((Real.cos (2 ^ 2 * a.x b n c) : ℝ) : EReal) := by
  have hf := freq 2
  unfold val_main_v32 val_main_v31 val_main_v30 val_main_v29 val_main_v28
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 3. -/
theorem piece37 (hx : ∀ b n c, x0 (ix3 b n c) = ((a.x b n c : ℝ) : EReal)) (b : Fin 8) (n : Fin 2048) (c : Fin 2) :
    val_main_v37 (F := Ideal) x0 (ix3 b n c) = ((Real.sin (2 ^ 3 * a.x b n c) : ℝ) : EReal) := by
  have hf := freq 3
  unfold val_main_v37 val_main_v36 val_main_v35 val_main_v34 val_main_v33
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 3. -/
theorem piece42 (hx : ∀ b n c, x0 (ix3 b n c) = ((a.x b n c : ℝ) : EReal)) (b : Fin 8) (n : Fin 2048) (c : Fin 2) :
    val_main_v42 (F := Ideal) x0 (ix3 b n c) = ((Real.cos (2 ^ 3 * a.x b n c) : ℝ) : EReal) := by
  have hf := freq 3
  unfold val_main_v42 val_main_v41 val_main_v40 val_main_v39 val_main_v38
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 4. -/
theorem piece47 (hx : ∀ b n c, x0 (ix3 b n c) = ((a.x b n c : ℝ) : EReal)) (b : Fin 8) (n : Fin 2048) (c : Fin 2) :
    val_main_v47 (F := Ideal) x0 (ix3 b n c) = ((Real.sin (2 ^ 4 * a.x b n c) : ℝ) : EReal) := by
  have hf := freq 4
  unfold val_main_v47 val_main_v46 val_main_v45 val_main_v44 val_main_v43
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 4. -/
theorem piece52 (hx : ∀ b n c, x0 (ix3 b n c) = ((a.x b n c : ℝ) : EReal)) (b : Fin 8) (n : Fin 2048) (c : Fin 2) :
    val_main_v52 (F := Ideal) x0 (ix3 b n c) = ((Real.cos (2 ^ 4 * a.x b n c) : ℝ) : EReal) := by
  have hf := freq 4
  unfold val_main_v52 val_main_v51 val_main_v50 val_main_v49 val_main_v48
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 5. -/
theorem piece57 (hx : ∀ b n c, x0 (ix3 b n c) = ((a.x b n c : ℝ) : EReal)) (b : Fin 8) (n : Fin 2048) (c : Fin 2) :
    val_main_v57 (F := Ideal) x0 (ix3 b n c) = ((Real.sin (2 ^ 5 * a.x b n c) : ℝ) : EReal) := by
  have hf := freq 5
  unfold val_main_v57 val_main_v56 val_main_v55 val_main_v54 val_main_v53
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 5. -/
theorem piece62 (hx : ∀ b n c, x0 (ix3 b n c) = ((a.x b n c : ℝ) : EReal)) (b : Fin 8) (n : Fin 2048) (c : Fin 2) :
    val_main_v62 (F := Ideal) x0 (ix3 b n c) = ((Real.cos (2 ^ 5 * a.x b n c) : ℝ) : EReal) := by
  have hf := freq 5
  unfold val_main_v62 val_main_v61 val_main_v60 val_main_v59 val_main_v58
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 6. -/
theorem piece67 (hx : ∀ b n c, x0 (ix3 b n c) = ((a.x b n c : ℝ) : EReal)) (b : Fin 8) (n : Fin 2048) (c : Fin 2) :
    val_main_v67 (F := Ideal) x0 (ix3 b n c) = ((Real.sin (2 ^ 6 * a.x b n c) : ℝ) : EReal) := by
  have hf := freq 6
  unfold val_main_v67 val_main_v66 val_main_v65 val_main_v64 val_main_v63
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 6. -/
theorem piece72 (hx : ∀ b n c, x0 (ix3 b n c) = ((a.x b n c : ℝ) : EReal)) (b : Fin 8) (n : Fin 2048) (c : Fin 2) :
    val_main_v72 (F := Ideal) x0 (ix3 b n c) = ((Real.cos (2 ^ 6 * a.x b n c) : ℝ) : EReal) := by
  have hf := freq 6
  unfold val_main_v72 val_main_v71 val_main_v70 val_main_v69 val_main_v68
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 7. -/
theorem piece77 (hx : ∀ b n c, x0 (ix3 b n c) = ((a.x b n c : ℝ) : EReal)) (b : Fin 8) (n : Fin 2048) (c : Fin 2) :
    val_main_v77 (F := Ideal) x0 (ix3 b n c) = ((Real.sin (2 ^ 7 * a.x b n c) : ℝ) : EReal) := by
  have hf := freq 7
  unfold val_main_v77 val_main_v76 val_main_v75 val_main_v74 val_main_v73
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 7. -/
theorem piece82 (hx : ∀ b n c, x0 (ix3 b n c) = ((a.x b n c : ℝ) : EReal)) (b : Fin 8) (n : Fin 2048) (c : Fin 2) :
    val_main_v82 (F := Ideal) x0 (ix3 b n c) = ((Real.cos (2 ^ 7 * a.x b n c) : ℝ) : EReal) := by
  have hf := freq 7
  unfold val_main_v82 val_main_v81 val_main_v80 val_main_v79 val_main_v78
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 8. -/
theorem piece87 (hx : ∀ b n c, x0 (ix3 b n c) = ((a.x b n c : ℝ) : EReal)) (b : Fin 8) (n : Fin 2048) (c : Fin 2) :
    val_main_v87 (F := Ideal) x0 (ix3 b n c) = ((Real.sin (2 ^ 8 * a.x b n c) : ℝ) : EReal) := by
  have hf := freq 8
  unfold val_main_v87 val_main_v86 val_main_v85 val_main_v84 val_main_v83
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 8. -/
theorem piece92 (hx : ∀ b n c, x0 (ix3 b n c) = ((a.x b n c : ℝ) : EReal)) (b : Fin 8) (n : Fin 2048) (c : Fin 2) :
    val_main_v92 (F := Ideal) x0 (ix3 b n c) = ((Real.cos (2 ^ 8 * a.x b n c) : ℝ) : EReal) := by
  have hf := freq 8
  unfold val_main_v92 val_main_v91 val_main_v90 val_main_v89 val_main_v88
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

/-- The sines at frequency 9. -/
theorem piece97 (hx : ∀ b n c, x0 (ix3 b n c) = ((a.x b n c : ℝ) : EReal)) (b : Fin 8) (n : Fin 2048) (c : Fin 2) :
    val_main_v97 (F := Ideal) x0 (ix3 b n c) = ((Real.sin (2 ^ 9 * a.x b n c) : ℝ) : EReal) := by
  have hf := freq 9
  unfold val_main_v97 val_main_v96 val_main_v95 val_main_v94 val_main_v93
  generalize val_main_v2 (F := Ideal) = w at hf ⊢
  pointwise
  rw [hx]
  refine (congrArg (fun y => Ideal.sin (y * ((a.x b n c : ℝ) : EReal))) hf).trans ?_
  rw [← EReal.coe_mul, Ideal.sin_coe]
  rfl

/-- The cosines at frequency 9. -/
theorem piece102 (hx : ∀ b n c, x0 (ix3 b n c) = ((a.x b n c : ℝ) : EReal)) (b : Fin 8) (n : Fin 2048) (c : Fin 2) :
    val_main_v102 (F := Ideal) x0 (ix3 b n c) = ((Real.cos (2 ^ 9 * a.x b n c) : ℝ) : EReal) := by
  have hf := freq 9
  unfold val_main_v102 val_main_v101 val_main_v100 val_main_v99 val_main_v98
  generalize val_main_v2 (F := Ideal) = w at hf ⊢
  pointwise
  rw [hx]
  refine (congrArg (fun y => Ideal.cos (y * ((a.x b n c : ℝ) : EReal))) hf).trans ?_
  rw [← EReal.coe_mul, Ideal.cos_coe]
  rfl

end Cert.Val
-- ==== Proof.V.HostB.lean ====
/-
  The frequencies the launch sets up, at an index.
-/
module

public import proofs.«01_k».proof.Proof.KI.Launch
public import proofs.«01_k».proof.Proof.V.Coe
public import proofs.«01_k».proof.Proof.V.REmb
public import Idealize.ShloMosaic.Lib.StableHlo.RunRead
public import Idealize.ShloMosaic.Lib.StableHlo.ReadAt
public import Idealize.ShloMosaic.Lib.Pipeline.ValueKit

@[expose] public section

set_option maxHeartbeats 2000000

noncomputable section

namespace Cert.Val

open Finset Cert.KernelIdeal Cert.KernelIdeal.Gen Cert.KernelIdeal.Hand
open Idealize.ShloMosaic Idealize.ShloMosaic.TcCoe

/-- The signed division by two that rounds down, on the twenty words, -/
theorem floor2 : ∀ f : Fin 20, Scalar.select
            (IntOp.andi
              (IntOp.cmpi CmpIPredicate.ne
                (if BitVec.ofNat 32 f.val = 0 then 0 else if (BitVec.ofNat 32 f.val).msb = true then -1 else 1)
                (if 2#32 = 0 then (0 : BitVec 32)
                else if BitVec.msb 2#32 = true then -1 else 1))
              (IntOp.cmpi CmpIPredicate.ne
                (IntOp.remsi ArithUnit.host (BitVec.ofNat 32 f.val) 2#32) 0#32))
            (IntOp.subi (IntOp.divsi ArithUnit.host (BitVec.ofNat 32 f.val) 2#32) 1#32)
            (IntOp.divsi ArithUnit.host (BitVec.ofNat 32 f.val) 2#32) = BitVec.ofNat 32 (f.val / 2) := by
  decide +kernel

/-- and the remainder that goes with it. -/
theorem mod2 : ∀ f : Fin 20, Scalar.select
          (IntOp.andi
            (IntOp.cmpi CmpIPredicate.ne
              (IntOp.cmpi CmpIPredicate.slt
                (IntOp.remsi ArithUnit.host (BitVec.ofNat 32 f.val)
                  (Scalar.select (IntOp.cmpi CmpIPredicate.eq 2#32 0#32) (1#32)
                    2#32))
                0#32)
              (IntOp.cmpi CmpIPredicate.slt
                (Scalar.select (IntOp.cmpi CmpIPredicate.eq 2#32 0#32) (1#32)
                  2#32)
                0#32))
            (IntOp.cmpi CmpIPredicate.ne
              (IntOp.remsi ArithUnit.host (BitVec.ofNat 32 f.val)
                (Scalar.select (IntOp.cmpi CmpIPredicate.eq 2#32 0#32) (1#32)
                  2#32))
              0#32))
          (IntOp.addi
            (IntOp.remsi ArithUnit.host (BitVec.ofNat 32 f.val)
              (Scalar.select (IntOp.cmpi CmpIPredicate.eq 2#32 0#32) (1#32)
                2#32))
            (Scalar.select (IntOp.cmpi CmpIPredicate.eq 2#32 0#32) (1#32)
              2#32))
          (IntOp.remsi ArithUnit.host (BitVec.ofNat 32 f.val)
            (Scalar.select (IntOp.cmpi CmpIPredicate.eq 2#32 0#32) (1#32)
              2#32)) = BitVec.ofNat 32 (f.val % 2) := by
  decide +kernel

theorem bit2 : ∀ (f : Fin 20) (d : Fin 2), IntOp.cmpi CmpIPredicate.eq (BitVec.ofNat 32 (f.val % 2)) (BitVec.ofNat 32 d.val)
    = if f.val % 2 = d.val then 1#1 else 0#1 := by
  decide +kernel

variable (m : (ℓ : Loc nD τ sig) → Buf (Elt Ideal) ℓ) (c : Dev nD)

theorem v16_at (f : Fin 20) (d : Fin 2) : (V m c main_v16 : FVec Ideal S20x2 .f32) (ix2 f d)
    = ((if f.val % 2 = d.val then (2 : ℝ) ^ (f.val / 2) else 0 : ℝ) : EReal) := by
  have e2 : (constantI S_ 32 2#32 : IVec S_ 32) ix0 = 2#32 := rfl
  have e0 : (constant (F := Ideal) S_ FTy.f32 0#32 : FVec Ideal S_ .f32) ix0 = ((0 : ℝ) : EReal) := by
    pointwise
    rfl
  unfold V
  after_reads_at
  simp only [id_eq, e2, e0]
  refine (congrArg₂ (fun w v => Scalar.select w (Ideal.pow (Ideal.ofBits FTy.f32 1073741824#32) (FloatOps.sitofp (F := Ideal) FTy.f32 v)) ((0 : ℝ) : EReal)) ((congrArg (fun v => IntOp.cmpi CmpIPredicate.eq v (BitVec.ofNat 32 d.val)) (mod2 f)).trans (bit2 f d)) (floor2 f)).trans ?_
  rw [pow_word _ (by omega)]
  split_ifs <;> rfl

end Cert.Val
-- ==== Proof.V.KIns.lean ====
/-
  The blocks the launch hands the body as real arrays, and the first phase's rows and accumulators.
-/
module

public import proofs.«01_k».proof.Proof.V.Coe
public import proofs.«01_k».proof.Proof.KI.Steps

@[expose] public section

set_option maxHeartbeats 1000000

noncomputable section

namespace Cert.Val

open Finset Cert.KernelIdeal Cert.KernelIdeal.Gen Cert.KernelIdeal.Hand
open Idealize.ShloMosaic

/-- Where the kernel's feature `j` lies among the plain program's: the coordinates, the sines, the cosines. -/
def perm (j : Fin 42) : Fin 42 :=
  if j.val < 2 then j
  else if j.val < 22 then ⟨(2 + 4 * ((j.val - 2) / 2) + (j.val - 2) % 2) % 42, Nat.mod_lt _ (by decide)⟩
  else ⟨(4 + 4 * ((j.val - 22) / 2) + (j.val - 22) % 2) % 42, Nat.mod_lt _ (by decide)⟩

/-- The blocks hold these arguments. -/
structure InsIs (I : Ins Ideal) (a : Arg) : Prop where
  fr : ∀ (f : Fin 20) (c : Fin 2), I.fr (ix2 f c) = ((if f.val % 2 = c.val then (2 : ℝ) ^ (f.val / 2) else 0 : ℝ) : EReal)
  w1 : ∀ (j : Fin 42) (k : Fin 60), I.w1 (ix2 j k) = ((a.w1 k (perm j) : ℝ) : EReal)
  b1 : ∀ k : Fin 60, I.b1 (ix2 0 k) = ((a.b1 k : ℝ) : EReal)
  c1 : ∀ (j : Fin 122) (o : Fin 30), I.c1 (ix2 j o) = ((a.cw o j : ℝ) : EReal)
  bg : ∀ k : Fin 60, I.bg (ix2 0 k) = ((a.g1 k : ℝ) : EReal)
  bb : ∀ k : Fin 60, I.bb (ix2 0 k) = ((a.e1 k : ℝ) : EReal)
  c1b : ∀ o : Fin 30, I.c1b (ix2 0 o) = ((a.cb o : ℝ) : EReal)
  bg1 : ∀ o : Fin 30, I.bg1 (ix2 0 o) = ((a.g2 o : ℝ) : EReal)
  bb1 : ∀ o : Fin 30, I.bb1 (ix2 0 o) = ((a.e2 o : ℝ) : EReal)
  rep : ∀ (r : Fin 32) (b : Fin 8), I.rep (ix2 r b) = ((if r.val / 4 = b.val then 1 else 0 : ℝ) : EReal)
  w2 : ∀ (x : Fin 120) (k : Fin 240), I.w2 (ix2 x k)
    = ((if x.val / 30 = k.val / 60 then a.dw ⟨k.val % 60, Nat.mod_lt _ (by decide)⟩ ⟨x.val % 30, Nat.mod_lt _ (by decide)⟩ else 0 : ℝ) : EReal)
  axy : ∀ (c : Fin 2) (x : Fin 120), I.axy (ix2 c x) = ((a.cw ⟨x.val % 30, Nat.mod_lt _ (by decide)⟩ ⟨120 + c.val, by omega⟩ : ℝ) : EReal)
  c2b : ∀ k : Fin 240, I.c2b (ix2 0 k) = ((a.db ⟨k.val % 60, Nat.mod_lt _ (by decide)⟩ : ℝ) : EReal)
  bg2 : ∀ k : Fin 60, I.bg2 (ix2 0 k) = ((a.g3 k : ℝ) : EReal)
  bb2 : ∀ k : Fin 60, I.bb2 (ix2 0 k) = ((a.e3 k : ℝ) : EReal)
  bg3 : ∀ k : Fin 60, I.bg3 (ix2 0 k) = ((a.g4 k : ℝ) : EReal)
  bb3 : ∀ k : Fin 60, I.bb3 (ix2 0 k) = a.e4 k
  w4 : ∀ (k : Fin 60) (c : Fin 2), I.w4 (ix2 k c) = a.fw c k
  b4 : ∀ c : Fin 2, I.b4 (ix2 0 c) = a.fb c

/-- The rows loaded are the points of one batch. -/
def RowsIs (a : Arg) (b : Fin 8) (X : Vec Ideal S2048x2 .f32) : Prop := ∀ n c, X (ix2 n c) = ((a.x b n c : ℝ) : EReal)

/-- A sum over the features, the coordinates first, then the sines, then the cosines. -/
theorem sum_perm (g : Fin 42 → ℝ) :
    ∑ j, g j = ∑ c : Fin 2, g ⟨c.val, by omega⟩ + ∑ f : Fin 20, g (perm ⟨2 + f.val, by omega⟩) + ∑ f : Fin 20, g (perm ⟨22 + f.val, by omega⟩) := by
  simp only [Fin.sum_univ_succ, Fin.sum_univ_zero, perm]
  simp
  ring

variable {I : Ins Ideal} {a : Arg} {X : Vec Ideal S2048x2 .f32} {b : Fin 8}

theorem tRow_is (h : InsIs I a) (hX : RowsIs a b X) (n : Fin 2048) (k : Fin 60) : tRow I X (ix2 n k) = ((T a b n k : ℝ) : EReal) := by
  have hr : tRow I X (ix2 n k) = max (∑ x : Fin 2, X (ix2 n x) * I.w1 (ix2 ⟨x.val, by omega⟩ k)
      + ∑ x : Fin 20, Ideal.sin (∑ x1, I.fr (ix2 x x1) * X (ix2 n x1)) * I.w1 (ix2 ⟨2 + x.val, by omega⟩ k)
      + ∑ x : Fin 20, Ideal.cos (∑ x1, I.fr (ix2 x x1) * X (ix2 n x1)) * I.w1 (ix2 ⟨22 + x.val, by omega⟩ k) + I.b1 (ix2 0 k)) 0 := by
    unfold tRow
    unfold_payloads
    pointwise
  have hf : ∀ f : Fin 20, (∑ c : Fin 2, (if f.val % 2 = c.val then (2 : ℝ) ^ (f.val / 2) else 0) * a.x b n c)
      = 2 ^ (f.val / 2) * a.x b n ⟨f.val % 2, Nat.mod_lt _ (by decide)⟩ := by
    intro f
    simp only [ite_mul, zero_mul]
    rw [Finset.sum_eq_single ⟨f.val % 2, Nat.mod_lt _ (by decide)⟩]
    · rw [if_pos rfl]
    · intro c _ hc; rw [if_neg]; intro e; exact hc (Fin.ext e.symm)
    · intro hh; exact absurd (mem_univ _) hh
  rw [hr]
  simp only [h.fr, h.w1, h.b1, hX _ _, ← EReal.coe_mul, ← coe_sum, hf, Ideal.sin_coe, Ideal.cos_coe, ← EReal.coe_add, ← EReal.coe_zero, ← coe_max]
  congr 1
  unfold T
  rw [sum_perm]
  refine congrArg₂ max (congrArg₂ (· + ·) (congrArg₂ (· + ·) (congrArg₂ (· + ·) ?_ ?_) ?_) rfl) rfl
  · refine Finset.sum_congr rfl fun c _ => ?_
    have : perm ⟨c.val, by omega⟩ = ⟨c.val, by omega⟩ := if_pos c.isLt
    rw [this]
    congr 1
    have hc : c = ⟨c.val % 2, Nat.mod_lt _ (by decide)⟩ := Fin.ext (by simp; omega)
    simp only [emb, if_pos c.isLt]
    rw [← hc]
  · refine Finset.sum_congr rfl fun f _ => ?_
    congr 1
    have hp : (perm ⟨2 + f.val, by omega⟩).val = 2 + 4 * (f.val / 2) + f.val % 2 := by
      unfold perm
      rw [if_neg (show ¬(2 + f.val < 2) by omega), if_pos (show 2 + f.val < 22 by omega)]
      show (2 + 4 * ((2 + f.val - 2) / 2) + (2 + f.val - 2) % 2) % 42 = _
      omega
    simp only [emb, hp]
    rw [if_neg (by omega), if_pos (by omega)]
    have e1 : (2 + 4 * (f.val / 2) + f.val % 2 - 2) / 4 = f.val / 2 := by omega
    have e2 : (2 + 4 * (f.val / 2) + f.val % 2) % 2 = f.val % 2 := by omega
    simp only [e1, e2]
  · refine Finset.sum_congr rfl fun f _ => ?_
    congr 1
    have hp : (perm ⟨22 + f.val, by omega⟩).val = 4 + 4 * (f.val / 2) + f.val % 2 := by
      unfold perm
      rw [if_neg (show ¬(22 + f.val < 2) by omega), if_neg (show ¬(22 + f.val < 22) by omega)]
      show (4 + 4 * ((22 + f.val - 22) / 2) + (22 + f.val - 22) % 2) % 42 = _
      omega
    simp only [emb, hp]
    rw [if_neg (by omega), if_neg (by omega)]
    have e1 : (4 + 4 * (f.val / 2) + f.val % 2 - 2) / 4 = f.val / 2 := by omega
    have e2 : (4 + 4 * (f.val / 2) + f.val % 2) % 2 = f.val % 2 := by omega
    simp only [e1, e2]

theorem qRow_is (h : InsIs I a) (hX : RowsIs a b X) (n : Fin 2048) (o : Fin 30) : qRow I X (ix2 n o) = ((Q a b n o : ℝ) : EReal) := by
  have hr : qRow I X (ix2 n o) = ∑ x : Fin 2, X (ix2 n x) * I.c1 (ix2 ⟨120 + x.val, by omega⟩ o) := by
    unfold qRow c1tail
    unfold_payloads
    pointwise
  rw [hr]
  simp only [h.c1, hX _ _, ← EReal.coe_mul, ← coe_sum]
  rfl

/-! ## The accumulators of the first phase -/

theorem ofNat_eq_iff {x y : ℕ} (hx : x < 4294967296) (hy : y < 4294967296) : BitVec.ofNat 32 x = BitVec.ofNat 32 y ↔ x = y := by
  constructor
  · intro e
    have := congrArg BitVec.toNat e
    simp only [BitVec.toNat_ofNat] at this
    omega
  · rintro rfl; rfl

theorem mask_ofNat (r b : Fin 8) :
    (FloatOps.sitofp (F := Ideal) .f32 (BitVec.setWidth 32 (IntOp.cmpi .eq (BitVec.ofNat 32 r.val) (BitVec.ofNat 32 b.val))) : EReal)
      = ((if r = b then 1 else 0 : ℝ) : EReal) := by
  rw [mask_eq]
  simp only [ofNat_eq_iff (show r.val < 4294967296 by omega) (show b.val < 4294967296 by omega), Fin.ext_iff]

theorem word4 : ∀ (b : Fin 8) (r : Fin 32) (x : Fin 8),
    BitVec.setWidth 32 (IntOp.andi (IntOp.cmpi .eq (BitVec.ofNat 32 r.val) (IntOp.addi (Scalar.muli 4#32 (BitVec.ofNat 32 b.val)) (BitVec.ofNat 32 x.val)))
      (IntOp.cmpi .slt (BitVec.ofNat 32 x.val) 4#32)) = if r.val / 4 = b.val ∧ x.val = r.val % 4 then 1#32 else 0#32 := by
  decide +kernel

theorem mask4 (b : Fin 8) (r : Fin 32) (x : Fin 8) :
    (FloatOps.sitofp (F := Ideal) .f32 (BitVec.setWidth 32 (IntOp.andi (IntOp.cmpi .eq (BitVec.ofNat 32 r.val) (IntOp.addi (Scalar.muli 4#32 (BitVec.ofNat 32 b.val)) (BitVec.ofNat 32 x.val)))
      (IntOp.cmpi .slt (BitVec.ofNat 32 x.val) 4#32))) : EReal) = ((if r.val / 4 = b.val ∧ x.val = r.val % 4 then 1 else 0 : ℝ) : EReal) := by
  rw [word4]
  split_ifs <;> simp [FloatOps.sitofp]

def bat (r : Fin 32) : Fin 8 := ⟨r.val / 4, by omega⟩
def pnt (r : Fin 32) : Fin 4 := ⟨r.val % 4, by omega⟩

theorem sum_mask4 (b : Fin 8) (r : Fin 32) (f : Fin 2048 → ℝ) :
    ∑ x : Fin 8, (if r.val / 4 = b.val ∧ x.val = r.val % 4 then 1 else 0 : ℝ) * f ⟨x.val, by omega⟩ = if r.val / 4 = b.val then f (pt (pnt r)) else 0 := by
  by_cases hb : r.val / 4 = b.val
  · rw [if_pos hb, Finset.sum_eq_single ⟨r.val % 4, by omega⟩]
    · simp [hb, pt, pnt]
    · intro x _ hx
      rw [if_neg, zero_mul]
      rintro ⟨_, e⟩; exact hx (Fin.ext e)
    · intro hh; exact absurd (mem_univ _) hh
  · rw [if_neg hb]
    exact Finset.sum_eq_zero fun x _ => by rw [if_neg (fun e => hb e.1), zero_mul]

/-- The accumulators hold the sums over the batches before `n`. -/
structure AccIs (a : Arg) (n : ℕ) (A : Acc Ideal) : Prop where
  s1 : ∀ k : Fin 60, A.s1 (ix2 0 k) = ((PS n fun b => ∑ x, T a b x k : ℝ) : EReal)
  z1 : ∀ k : Fin 60, A.z1 (ix2 0 k) = ((PS n fun b => ∑ x, T a b x k * T a b x k : ℝ) : EReal)
  q1 : ∀ (r : Fin 8) (o : Fin 30), A.q1 (ix2 r o) = ((if r.val < n then ∑ x, Q a r x o else 0 : ℝ) : EReal)
  q2 : ∀ (r : Fin 8) (o : Fin 30), A.q2 (ix2 r o) = ((if r.val < n then ∑ x, Q a r x o * Q a r x o else 0 : ℝ) : EReal)
  q4 : ∀ (r : Fin 32) (o : Fin 30), A.q4 (ix2 r o) = ((if r.val / 4 < n then Q a (bat r) (pt (pnt r)) o else 0 : ℝ) : EReal)
  tm : ∀ (r : Fin 8) (k : Fin 60), A.tm (ix2 r k) = ((if r.val < n then univ.sup' univ_nonempty fun x => T a r x k else 0 : ℝ) : EReal)
  t4 : ∀ (r : Fin 32) (k : Fin 60), A.t4 (ix2 r k) = ((if r.val / 4 < n then T a (bat r) (pt (pnt r)) k else 0 : ℝ) : EReal)

theorem acc0_is : AccIs a 0 acc0 := by
  constructor <;> intros <;> unfold acc0 <;> unfold_payloads <;> pointwise <;> simp [PS_zero]

/-- A masked summand added to a prefix. -/
theorem add_mask (r b : ℕ) (v w : ℝ) (h : r = b → w = v) :
    (if r < b then v else 0) + (if r = b then 1 else 0) * w = if r < b + 1 then v else 0 := by
  rcases lt_trichotomy r b with e | e | e
  · rw [if_pos e, if_neg (by omega), if_pos (by omega)]; ring
  · rw [if_neg (by omega), if_pos e, if_pos (by omega), h e]; ring
  · rw [if_neg (by omega), if_neg (by omega), if_neg (by omega)]; ring

theorem add_mask' (r b : ℕ) (v w : ℝ) (h : r = b → w = v) :
    (if r < b then v else 0) + (if r = b then w else 0) = if r < b + 1 then v else 0 := by
  rw [← add_mask r b v w h]; split_ifs <;> ring

theorem accStep_is (h : InsIs I a) (hX : RowsIs a b X) {A : Acc Ideal} (hA : AccIs a b.val A) :
    AccIs a (b.val + 1) (accStep I (BitVec.ofNat 32 b.val) X A) := by
  have ht := tRow_is h hX
  have hq := qRow_is h hX
  constructor
  · intro k
    have hr : (accStep I (BitVec.ofNat 32 b.val) X A).s1 (ix2 0 k) = A.s1 (ix2 0 k) + ∑ x, tRow I X (ix2 x k) := by
      unfold accStep
      generalize tRow I X = t
      generalize qRow I X = q
      unfold_payloads
      pointwise
    rw [hr]
    simp only [ht, hA.s1, ← coe_sum, ← EReal.coe_add, PS_succ b]
  · intro k
    have hr : (accStep I (BitVec.ofNat 32 b.val) X A).z1 (ix2 0 k) = A.z1 (ix2 0 k) + ∑ x, tRow I X (ix2 x k) * tRow I X (ix2 x k) := by
      unfold accStep
      generalize tRow I X = t
      generalize qRow I X = q
      unfold_payloads
      pointwise
    rw [hr]
    simp only [ht, hA.z1, ← coe_sum, ← EReal.coe_mul, ← EReal.coe_add, PS_succ b]
  · intro r o
    have hr : (accStep I (BitVec.ofNat 32 b.val) X A).q1 (ix2 r o) = A.q1 (ix2 r o)
        + FloatOps.sitofp (F := Ideal) .f32 (BitVec.setWidth 32 (IntOp.cmpi .eq (BitVec.ofNat 32 r.val) (BitVec.ofNat 32 b.val))) * ∑ x, qRow I X (ix2 x o) := by
      unfold accStep
      generalize tRow I X = t
      generalize qRow I X = q
      unfold_payloads
      pointwise
    rw [hr, mask_ofNat]
    simp only [hq, hA.q1, ← coe_sum, ← EReal.coe_mul, ← EReal.coe_add, Fin.ext_iff]
    congr 1
    exact add_mask _ _ _ _ fun e => by rw [Fin.ext e]
  · intro r o
    have hr : (accStep I (BitVec.ofNat 32 b.val) X A).q2 (ix2 r o) = A.q2 (ix2 r o)
        + FloatOps.sitofp (F := Ideal) .f32 (BitVec.setWidth 32 (IntOp.cmpi .eq (BitVec.ofNat 32 r.val) (BitVec.ofNat 32 b.val))) * ∑ x, qRow I X (ix2 x o) * qRow I X (ix2 x o) := by
      unfold accStep
      generalize tRow I X = t
      generalize qRow I X = q
      unfold_payloads
      pointwise
    rw [hr, mask_ofNat]
    simp only [hq, hA.q2, ← coe_sum, ← EReal.coe_mul, ← EReal.coe_add, Fin.ext_iff]
    congr 1
    exact add_mask _ _ _ _ fun e => by rw [Fin.ext e]
  · intro r o
    have hr : (accStep I (BitVec.ofNat 32 b.val) X A).q4 (ix2 r o) = A.q4 (ix2 r o)
        + ∑ x : Fin 8, FloatOps.sitofp (F := Ideal) .f32 (BitVec.setWidth 32 (IntOp.andi (IntOp.cmpi .eq (BitVec.ofNat 32 r.val) (IntOp.addi (Scalar.muli 4#32 (BitVec.ofNat 32 b.val)) (BitVec.ofNat 32 x.val)))
      (IntOp.cmpi .slt (BitVec.ofNat 32 x.val) 4#32))) * qRow I X (ix2 ⟨x.val, by omega⟩ o) := by
      unfold accStep
      generalize tRow I X = t
      generalize qRow I X = q
      unfold_payloads
      pointwise
    rw [hr]
    simp only [mask4, hq, hA.q4, ← EReal.coe_mul, ← coe_sum, ← EReal.coe_add]
    rw [sum_mask4 b r (fun n => Q a b n o)]
    congr 1
    exact add_mask' _ _ _ _ fun e => by rw [show bat r = b from Fin.ext e]
  · intro r k
    have hr : (accStep I (BitVec.ofNat 32 b.val) X A).tm (ix2 r k) = A.tm (ix2 r k)
        + FloatOps.sitofp (F := Ideal) .f32 (BitVec.setWidth 32 (IntOp.cmpi .eq (BitVec.ofNat 32 r.val) (BitVec.ofNat 32 b.val)))
          * Finset.fold max (Ideal.ofBits .f32 0xFF800000#32) (fun x => tRow I X (ix2 x k)) univ := by
      unfold accStep
      generalize tRow I X = t
      generalize qRow I X = q
      unfold_payloads
      pointwise
    rw [hr, mask_ofNat, cBot]
    simp only [ht, hA.tm, fold_max, ← EReal.coe_mul, ← EReal.coe_add, Fin.ext_iff]
    congr 1
    exact add_mask _ _ _ _ fun e => by rw [Fin.ext e]
  · intro r k
    have hr : (accStep I (BitVec.ofNat 32 b.val) X A).t4 (ix2 r k) = A.t4 (ix2 r k)
        + ∑ x : Fin 8, FloatOps.sitofp (F := Ideal) .f32 (BitVec.setWidth 32 (IntOp.andi (IntOp.cmpi .eq (BitVec.ofNat 32 r.val) (IntOp.addi (Scalar.muli 4#32 (BitVec.ofNat 32 b.val)) (BitVec.ofNat 32 x.val)))
      (IntOp.cmpi .slt (BitVec.ofNat 32 x.val) 4#32))) * tRow I X (ix2 ⟨x.val, by omega⟩ k) := by
      unfold accStep
      generalize tRow I X = t
      generalize qRow I X = q
      unfold_payloads
      pointwise
    rw [hr]
    simp only [mask4, ht, hA.t4, ← EReal.coe_mul, ← coe_sum, ← EReal.coe_add]
    rw [sum_mask4 b r (fun n => T a b n k)]
    congr 1
    exact add_mask' _ _ _ _ fun e => by rw [show bat r = b from Fin.ext e]

end Cert.Val
-- ==== Proof.V.HostC.lean ====
/-
  The first layer's matrix as the launch reorders it, at an index.
-/
module

public import proofs.«01_k».proof.Proof.KI.Launch
public import proofs.«01_k».proof.Proof.V.KIns
public import proofs.«01_k».proof.Proof.V.HostB
public import Idealize.ShloMosaic.Lib.StableHlo.RunRead
public import Idealize.ShloMosaic.Lib.StableHlo.ReadAt
public import Idealize.ShloMosaic.Lib.Pipeline.ValueKit

@[expose] public section

set_option maxHeartbeats 2000000

noncomputable section

namespace Cert.Val

open Finset Cert.KernelIdeal Cert.KernelIdeal.Gen Cert.KernelIdeal.Hand
open Idealize.ShloMosaic Idealize.ShloMosaic.TcCoe

variable (m : (ℓ : Loc nD τ sig) → Buf (Elt Ideal) ℓ) (c : Dev nD)

/-- Rows gathered in an order are the rows in that order. -/
theorem gather42 {X : FVec Ideal S42x60 .f32} {e : IVec S42x1 32} {p : Fin 42 → Fin 42} (hw : ∀ j, e (ix2 j 0) = BitVec.ofNat 32 (p j).val)
    (j : Fin 42) (k : Fin 60) : Host.gather gather_S42x60_S42x1_S42x60_1_0_n_n_0_1_160 X e (ix2 j k) = X (ix2 (p j) k) := by
  have e0 : (gather_S42x60_S42x1_S42x60_1_0_n_n_0_1_160).start (ix2 j k) e (0 : Fin 2) + (gather_S42x60_S42x1_S42x60_1_0_n_n_0_1_160).batchCoord (ix2 j k) (0 : Fin 2)
      + (gather_S42x60_S42x1_S42x60_1_0_n_n_0_1_160).offCoord (ix2 j k) (0 : Fin 2) = (p j).val := by
    rw [GatherDims.batchCoord_eq_zero _ _ _ (by decide), GatherDims.offCoord_eq_zero _ _ _ (by decide)]
    simp only [Nat.add_zero]
    unfold GatherDims.start
    rw [dif_pos (by decide)]
    have hsi : ∀ q, (gather_S42x60_S42x1_S42x60_1_0_n_n_0_1_160).siIdx (ix2 j k) q = ix2 j 0 := by
      intro q
      funext y
      apply Fin.ext
      match y with
      | ⟨0, _⟩ => rfl
      | ⟨1, _⟩ => exact Nat.lt_one_iff.mp (Fin.isLt _)
    rw [hsi, hw]
    generalize p j = q
    revert q
    decide
  have e1 : (gather_S42x60_S42x1_S42x60_1_0_n_n_0_1_160).start (ix2 j k) e (1 : Fin 2) + (gather_S42x60_S42x1_S42x60_1_0_n_n_0_1_160).batchCoord (ix2 j k) (1 : Fin 2)
      + (gather_S42x60_S42x1_S42x60_1_0_n_n_0_1_160).offCoord (ix2 j k) (1 : Fin 2) = k.val := by
    rw [GatherDims.batchCoord_eq_zero _ _ _ (by decide)]
    unfold GatherDims.start
    rw [dif_neg (by decide)]
    simp only [Nat.zero_add, Nat.add_zero]
    unfold GatherDims.offCoord
    rw [dif_pos (by decide)]
    rfl
  unfold Host.gather
  congr 1
  funext x
  refine Fin.ext ?_
  match x with
  | ⟨0, _⟩ => exact e0
  | ⟨1, _⟩ => exact e1

/-- The words the order is read from, made non-negative, -/
theorem ordA : ∀ j : Fin 42, j.val < 2 → Scalar.select (IntOp.cmpi CmpIPredicate.slt (BitVec.ofNat 32 j.val) 0#32) (IntOp.addi (BitVec.ofNat 32 j.val) 42#32) (BitVec.ofNat 32 j.val)
    = BitVec.ofNat 32 (perm j).val := by
  decide +kernel
theorem ordB : ∀ j : Fin 42, ¬ j.val < 2 → j.val - 2 < 20 →
    Scalar.select (IntOp.cmpi CmpIPredicate.slt (IntOp.addi (IntOp.addi 2#32 (IntOp.muli 4#32 (BitVec.ofNat 32 ((j.val - 2) / 2)))) (BitVec.ofNat 32 ((j.val - 2) % 2))) 0#32)
      (IntOp.addi (IntOp.addi (IntOp.addi 2#32 (IntOp.muli 4#32 (BitVec.ofNat 32 ((j.val - 2) / 2)))) (BitVec.ofNat 32 ((j.val - 2) % 2))) 42#32)
      (IntOp.addi (IntOp.addi 2#32 (IntOp.muli 4#32 (BitVec.ofNat 32 ((j.val - 2) / 2)))) (BitVec.ofNat 32 ((j.val - 2) % 2)))
    = BitVec.ofNat 32 (perm j).val := by
  decide +kernel
theorem ordC : ∀ j : Fin 42, ¬ j.val < 2 → ¬ j.val - 2 < 20 →
    Scalar.select (IntOp.cmpi CmpIPredicate.slt (IntOp.addi (IntOp.addi 4#32 (IntOp.muli 4#32 (BitVec.ofNat 32 ((j.val - 2 - 20) / 2)))) (BitVec.ofNat 32 ((j.val - 2 - 20) % 2))) 0#32)
      (IntOp.addi (IntOp.addi (IntOp.addi 4#32 (IntOp.muli 4#32 (BitVec.ofNat 32 ((j.val - 2 - 20) / 2)))) (BitVec.ofNat 32 ((j.val - 2 - 20) % 2))) 42#32)
      (IntOp.addi (IntOp.addi 4#32 (IntOp.muli 4#32 (BitVec.ofNat 32 ((j.val - 2 - 20) / 2)))) (BitVec.ofNat 32 ((j.val - 2 - 20) % 2)))
    = BitVec.ofNat 32 (perm j).val := by
  decide +kernel

theorem v37_at (j : Fin 42) (k : Fin 60) : (V m c main_v37 : FVec Ideal S42x60 .bf16) (ix2 j k)
    = (m ((c : Thread nD τ).loc main_arg1) : FVec Ideal S60x42 .f32) (ix2 k (perm j)) := by
  have e2 : (constantI S_ 32 2#32 : IVec S_ 32) ix0 = 2#32 := rfl
  unfold V
  after_reads_simp
  pointwise
  refine (gather42 (p := perm) ?_ j k).trans ?_
  · intro j
    pointwise
    split_ifs
    all_goals try (rename_i hn; exact absurd rfl hn)
    all_goals try after_reads_at
    all_goals try simp only [id_eq, e2]
    · exact ordA j (by assumption)
    · have ef := floor2 ⟨j.val - 2, by assumption⟩
      have em := mod2 ⟨j.val - 2, by assumption⟩
      refine (congrArg₂ (fun v w => Scalar.select
          (IntOp.cmpi CmpIPredicate.slt (IntOp.addi (IntOp.addi 2#32 (IntOp.muli 4#32 v)) w) 0#32)
          (IntOp.addi (IntOp.addi (IntOp.addi 2#32 (IntOp.muli 4#32 v)) w) 42#32)
          (IntOp.addi (IntOp.addi 2#32 (IntOp.muli 4#32 v)) w)) ef em).trans ?_
      exact ordB j (by assumption) (by assumption)
    · have ef := floor2 ⟨j.val - 2 - 20, by omega⟩
      have em := mod2 ⟨j.val - 2 - 20, by omega⟩
      refine (congrArg₂ (fun v w => Scalar.select
          (IntOp.cmpi CmpIPredicate.slt (IntOp.addi (IntOp.addi 4#32 (IntOp.muli 4#32 v)) w) 0#32)
          (IntOp.addi (IntOp.addi (IntOp.addi 4#32 (IntOp.muli 4#32 v)) w) 42#32)
          (IntOp.addi (IntOp.addi 4#32 (IntOp.muli 4#32 v)) w)) ef em).trans ?_
      exact ordC j (by assumption) (by assumption)
  · pointwise

end Cert.Val
-- ==== Proof.V.HostD.lean ====
/-
  The launch's tables with an operand repeated per point, at an index.
-/
module

public import proofs.«01_k».proof.Proof.KI.Launch
public import proofs.«01_k».proof.Proof.V.Coe
public import proofs.«01_k».proof.Proof.V.REmb
public import Idealize.ShloMosaic.Lib.StableHlo.RunRead
public import Idealize.ShloMosaic.Lib.StableHlo.ReadAt
public import Idealize.ShloMosaic.Lib.Pipeline.ValueKit

@[expose] public section

set_option maxHeartbeats 2000000

noncomputable section

namespace Cert.Val

open Finset Cert.KernelIdeal Cert.KernelIdeal.Gen Cert.KernelIdeal.Hand
open Idealize.ShloMosaic Idealize.ShloMosaic.TcCoe

/-- The signed division by four that rounds down, on the thirty-two words. -/
theorem floor4 : ∀ (r : Fin 32) (b : Fin 8), IntOp.cmpi CmpIPredicate.eq
        (Scalar.select
          (IntOp.andi
            (IntOp.cmpi CmpIPredicate.ne
              (if BitVec.ofNat 32 r.val = 0 then 0 else if (BitVec.ofNat 32 r.val).msb = true then -1 else 1)
              (if 4#32 = 0 then (0 : BitVec 32)
              else if BitVec.msb 4#32 = true then -1 else 1))
            (IntOp.cmpi CmpIPredicate.ne
              (IntOp.remsi ArithUnit.host (BitVec.ofNat 32 r.val) 4#32) 0#32))
          (IntOp.subi (IntOp.divsi ArithUnit.host (BitVec.ofNat 32 r.val) 4#32) 1#32)
          (IntOp.divsi ArithUnit.host (BitVec.ofNat 32 r.val) 4#32))
        (BitVec.ofNat 32 b.val) = if r.val / 4 = b.val then 1#1 else 0#1 := by
  decide +kernel

theorem same4 : ∀ (s t : Fin 4), IntOp.cmpi .eq (IntOp.addi (BitVec.ofNat 32 s.val) 0#32) (BitVec.ofNat 32 t.val) = if s.val = t.val then 1#1 else 0#1 := by
  decide +kernel

theorem bit_at (p : Prop) [Decidable p] : (FloatOps.uitofp (F := Ideal) .f32 (if p then 1#1 else 0#1) : EReal) = ((if p then 1 else 0 : ℝ) : EReal) := by
  split_ifs <;> simp [FloatOps.uitofp]

variable (m : (ℓ : Loc nD τ sig) → Buf (Elt Ideal) ℓ) (c : Dev nD)

theorem v48_at (r : Fin 32) (b : Fin 8) : (V m c main_v48 : FVec Ideal S32x8 .f32) (ix2 r b)
    = ((if r.val / 4 = b.val then 1 else 0 : ℝ) : EReal) := by
  have e4 : (constantI S_ 32 4#32 : IVec S_ 32) ix0 = 4#32 := rfl
  unfold V
  after_reads_at
  simp only [id_eq, e4]
  exact (congrArg (fun w => FloatOps.uitofp (F := Ideal) .f32 w) (floor4 r b)).trans (bit_at _)

theorem v57_at (x : Fin 120) (k : Fin 240) : (V m c main_v57 : FVec Ideal S120x240 .bf16) (ix2 x k)
    = ((if x.val / 30 = k.val / 60 then 1 else 0 : ℝ) : EReal) * (m ((c : Thread nD τ).loc main_arg9) : FVec Ideal S60x30 .f32) (ix2 ⟨k.val % 60, Nat.mod_lt _ (by decide)⟩ ⟨x.val % 30, Nat.mod_lt _ (by decide)⟩) := by
  unfold V
  after_reads_at
  have e := same4 ⟨x.val / 30, by omega⟩ ⟨k.val / 60, by omega⟩
  simp only at e
  rw [e, bit_at]

theorem v63_at (d : Fin 2) (x : Fin 120) : (V m c main_v63 : FVec Ideal S2x120 .bf16) (ix2 d x)
    = (m ((c : Thread nD τ).loc main_arg5) : FVec Ideal S30x122 .f32) (ix2 ⟨x.val % 30, Nat.mod_lt _ (by decide)⟩ ⟨120 + d.val, by omega⟩) := by
  unfold V
  after_reads_at

theorem v67_at (k : Fin 240) : (V m c main_v67 : FVec Ideal S1x240 .f32) (ix2 0 k)
    = (m ((c : Thread nD τ).loc main_arg10) : FVec Ideal S60 .f32) (ix1 ⟨k.val % 60, Nat.mod_lt _ (by decide)⟩) := by
  unfold V
  after_reads_at

end Cert.Val
-- ==== Proof.V.KMid.lean ====
/-
  The second phase's set-up: the first layer normalised, the first convolution of the four points, its mean and scale.
-/
module

public import proofs.«01_k».proof.Proof.V.KIns

@[expose] public section

set_option maxHeartbeats 1000000

noncomputable section

namespace Cert.Val

open Finset Cert.KernelIdeal Cert.KernelIdeal.Gen Cert.KernelIdeal.Hand
open Idealize.ShloMosaic

/-! ## The model's identities the set-up uses -/

theorem card2 : (Fintype.card (Fin 8 × Fin 2048) : ℝ) = 16384 := by simp
theorem card3 : (Fintype.card (Fin 8 × Fin 4 × Fin 2048) : ℝ) = 65536 := by simp

/-- A sum over the rows of the four points of all batches. -/
theorem sum_rows (f : Fin 8 → Fin 4 → ℝ) : ∑ r : Fin 32, f (bat r) (pnt r) = ∑ b, ∑ s, f b s := by
  simp only [Fin.sum_univ_succ, Fin.sum_univ_zero, bat, pnt]
  simp
  ring

variable {I : Ins Ideal} {a : Arg} {A : Acc Ideal}

/-- The scale and the shift of the first layer. -/
def al1 (a : Arg) (k : Fin 60) : ℝ := al eps (var 16384 (Tf a k)) (a.g1 k)
def be1 (a : Arg) (k : Fin 60) : ℝ := be eps (mean 16384 (Tf a k)) (var 16384 (Tf a k)) (a.g1 k) (a.e1 k)

theorem A1_eq (b : Fin 8) (n : Fin 2048) (k : Fin 60) : A1 eps a b n k = max (al1 a k * T a b n k + be1 a k) 0 := by
  unfold A1; rw [bn_eq]; rfl

theorem al_nonneg {v g : ℝ} (hg : 0 ≤ g) : 0 ≤ al eps v g := mul_nonneg hg (inv_nonneg.mpr (Real.sqrt_nonneg _))

theorem XG_eq (hg : ∀ k, 0 ≤ a.g1 k) (b : Fin 8) (k : Fin 60) :
    XG eps a b k = max (al1 a k * (univ.sup' univ_nonempty fun n => T a b n k) + be1 a k) 0 := by
  unfold XG
  simp only [A1_eq]
  symm
  refine map_sup (fun n => T a b n k) (φ := fun t => max (al1 a k * t + be1 a k) 0) ?_
  intro x y hxy
  exact max_le_max (add_le_add (mul_le_mul_of_nonneg_left hxy (al_nonneg (hg k))) le_rfl) le_rfl

/-- The kernel's scale and shift, from the sums. -/
theorem al_of_sums {ι : Type} [Fintype ι] {N : ℝ} (hN : 0 < N) (hc : (Fintype.card ι : ℝ) = N) (f : ι → ℝ) (g : ℝ) (s q C : EReal)
    (hC : C = ((1 / N : ℝ) : EReal)) (hs : s = ((∑ i, f i : ℝ) : EReal)) (hq : q = ((∑ i, f i * f i : ℝ) : EReal)) :
    (g : EReal) * Ideal.rsqrt (q * C - s * C * (s * C) + Ideal.ofBits .f32 0x3727C5AC#32) = ((al eps (var N f) g : ℝ) : EReal) := by
  subst hC hs hq
  rw [cEps]
  simp only [← EReal.coe_mul, ← EReal.coe_sub, ← EReal.coe_add]
  rw [← var_eq hN hc f, rsqrt_eps (var_nonneg hN f), ← EReal.coe_mul]
  rfl

theorem be_of_sums {ι : Type} [Fintype ι] {N : ℝ} (f : ι → ℝ) (g e : ℝ) (s C l : EReal)
    (hC : C = ((1 / N : ℝ) : EReal)) (hs : s = ((∑ i, f i : ℝ) : EReal)) (hl : l = ((al eps (var N f) g : ℝ) : EReal)) :
    (e : EReal) - s * C * l = ((be eps (mean N f) (var N f) g e : ℝ) : EReal) := by
  subst hC hs hl
  simp only [← EReal.coe_mul, ← EReal.coe_sub]
  unfold be mean
  rw [mul_one_div]

theorem sumT (k : Fin 60) (f : ℝ → ℝ) : ∑ b, ∑ n, f (T a b n k) = ∑ p, f (Tf a k p) := by
  simp only [Fintype.sum_prod_type, Tf]

theorem al1_is (h : InsIs I a) (hA : AccIs a 8 A) (k : Fin 60) :
    I.bg (ix2 0 k) * Ideal.rsqrt (A.z1 (ix2 0 k) * Ideal.ofBits .f32 0x38800000#32
      - A.s1 (ix2 0 k) * Ideal.ofBits .f32 0x38800000#32 * (A.s1 (ix2 0 k) * Ideal.ofBits .f32 0x38800000#32) + Ideal.ofBits .f32 0x3727C5AC#32)
      = ((al1 a k : ℝ) : EReal) := by
  rw [h.bg]
  refine al_of_sums (by norm_num) card2 (Tf a k) _ _ _ _ c16384i ?_ ?_
  · rw [hA.s1, PS_all, sumT k (fun t => t)]
  · rw [hA.z1, PS_all, sumT k (fun t => t * t)]

theorem be1_is (h : InsIs I a) (hA : AccIs a 8 A) (k : Fin 60) :
    I.bb (ix2 0 k) - A.s1 (ix2 0 k) * Ideal.ofBits .f32 0x38800000#32 * ((al1 a k : ℝ) : EReal) = ((be1 a k : ℝ) : EReal) := by
  rw [h.bb]
  refine be_of_sums (N := 16384) (Tf a k) _ _ _ _ _ c16384i ?_ rfl
  rw [hA.s1, PS_all, sumT k (fun t => t)]

/-- The largest first-layer value of each batch, -/
theorem xg_is (h : InsIs I a) (hg : ∀ k, 0 ≤ a.g1 k) (hA : AccIs a 8 A) (r : Fin 8) (k : Fin 60) :
    k0_pay74 A.s1 A.z1 I.bg I.bb A.tm (ix2 r k) = ((XG eps a r k : ℝ) : EReal) := by
  have e1 := al1_is h hA k
  have e2 := be1_is h hA k
  unfold_payloads
  pointwise
  rw [e1, e2, hA.tm, if_pos r.isLt, XG_eq hg]
  simp only [← EReal.coe_mul, ← EReal.coe_add, ← EReal.coe_zero, ← coe_max]

/-- the four points' part of the first convolution, -/
theorem xa_is (h : InsIs I a) (hA : AccIs a 8 A) (r : Fin 32) (o : Fin 30) :
    k0_pay75 A.s1 A.z1 I.bg I.bb A.t4 (c1head I) (ix2 r o)
      = ((∑ k : Fin 60, A1 eps a (bat r) (pt (pnt r)) k * a.cw o ⟨k.val, by omega⟩ : ℝ) : EReal) := by
  have e1 := fun k => al1_is h hA k
  have e2 := fun k => be1_is h hA k
  have ec : ∀ k, c1head I (ix2 k o) = I.c1 (ix2 ⟨k.val, by omega⟩ o) := by
    intro k; unfold c1head; pointwise
  unfold_payloads
  pointwise
  simp only [e1, e2, hA.t4, if_pos (show r.val / 4 < 8 by omega), ec, h.c1, ← EReal.coe_mul, ← EReal.coe_add, ← EReal.coe_zero, ← coe_max,
    ← coe_sum, A1_eq]

theorem c1mid_is (h : InsIs I a) (k : Fin 60) (o : Fin 30) :
    k0_pay76 (c1mid I) (ix2 k o) = ((a.cw o ⟨60 + k.val, by omega⟩ : ℝ) : EReal) := by
  rw [← h.c1]
  unfold c1mid
  unfold_payloads
  pointwise

theorem rep_sum (h : InsIs I a) (r : Fin 32) (f : Fin 8 → ℝ) : ∑ b : Fin 8, I.rep (ix2 r b) * ((f b : ℝ) : EReal) = ((f (bat r) : ℝ) : EReal) := by
  simp only [h.rep, ← EReal.coe_mul, ← coe_sum]
  rw [sum_mask (bat r) f (fun b => r.val / 4 = b.val) (fun j => by simp [bat, Fin.ext_iff, eq_comm])]

theorem d3_is (h : InsIs I a) (hg : ∀ k, 0 ≤ a.g1 k) (hA : AccIs a 8 A) (r : Fin 32) (o : Fin 30) :
    d3Of I A (ix2 r o) = ((D eps a (bat r) (pnt r) o : ℝ) : EReal) := by
  have e1 := xg_is h hg hA
  have e2 := xa_is h hA
  have e3 := c1mid_is h
  have hr : d3Of I A (ix2 r o) = k0_pay75 A.s1 A.z1 I.bg I.bb A.t4 (c1head I) (ix2 r o) + A.q4 (ix2 r o) + I.c1b (ix2 0 o)
      + ∑ x, I.rep (ix2 r x) * ∑ x1, k0_pay74 A.s1 A.z1 I.bg I.bb A.tm (ix2 x x1) * k0_pay76 (c1mid I) (ix2 x1 o) := by
    unfold d3Of
    generalize k0_pay74 A.s1 A.z1 I.bg I.bb A.tm = xg
    generalize k0_pay75 A.s1 A.z1 I.bg I.bb A.t4 (c1head I) = xa
    generalize k0_pay76 (c1mid I) = cm
    unfold_payloads
    pointwise
  rw [hr, e2, hA.q4, if_pos (show r.val / 4 < 8 by omega), h.c1b]
  simp only [e1, e3, ← EReal.coe_mul, ← coe_sum]
  rw [rep_sum h r (fun b => ∑ x : Fin 60, XG eps a b x * a.cw o ⟨60 + x.val, by omega⟩)]
  simp only [← EReal.coe_add]
  rfl

/-- the mean of the first convolution, -/
theorem m2_is (h : InsIs I a) (hg : ∀ k, 0 ≤ a.g1 k) (hA : AccIs a 8 A) (o : Fin 30) :
    m2Of I A (ix2 0 o) = ((mean 65536 (C1f eps a o) : ℝ) : EReal) := by
  have e1 := d3_is h hg hA
  have hr : m2Of I A (ix2 0 o) = (Ideal.ofBits .f32 0x45000000#32 * ∑ x, d3Of I A (ix2 x o) - Ideal.ofBits .f32 0x40800000#32 * ∑ x, A.q1 (ix2 x o))
      * Ideal.ofBits .f32 0x37800000#32 := by
    unfold m2Of d3Of
    generalize k0_pay74 A.s1 A.z1 I.bg I.bb A.tm = xg
    generalize k0_pay75 A.s1 A.z1 I.bg I.bb A.t4 (c1head I) = xa
    generalize k0_pay76 (c1mid I) = cm
    unfold_payloads
    pointwise
  have hq : ∀ b : Fin 8, A.q1 (ix2 b o) = ((∑ n, Q a b n o : ℝ) : EReal) := fun b => by rw [hA.q1, if_pos b.isLt]
  rw [hr, c2048, c4, c65536i]
  simp only [e1, hq, ← coe_sum, ← EReal.coe_mul, ← EReal.coe_sub]
  rw [sum_rows (fun b s => D eps a b s o)]
  unfold mean
  rw [sumC1, mul_one_div]

/-- and its scale. -/
theorem al2r_is (h : InsIs I a) (hg : ∀ k, 0 ≤ a.g1 k) (hA : AccIs a 8 A) (o : Fin 30) :
    al2rOf I A (ix2 0 o) = ((al eps (var 65536 (C1f eps a o)) (a.g2 o) : ℝ) : EReal) := by
  have e1 := d3_is h hg hA
  have hm := m2_is h hg hA o
  have hr : al2rOf I A (ix2 0 o) = I.bg1 (ix2 0 o) * Ideal.rsqrt ((e2aOf I A (ix2 0 o) - Ideal.ofBits .f32 0x40000000#32 * e2bOf I A (ix2 0 o)
      + Ideal.ofBits .f32 0x40800000#32 * ∑ x, A.q2 (ix2 x o)) * Ideal.ofBits .f32 0x37800000#32
      - m2Of I A (ix2 0 o) * m2Of I A (ix2 0 o) + Ideal.ofBits .f32 0x3727C5AC#32) := by
    unfold al2rOf
    generalize m2Of I A = xg
    generalize e2aOf I A = xa
    generalize e2bOf I A = cm
    unfold_payloads
    pointwise
  have hra : e2aOf I A (ix2 0 o) = Ideal.ofBits .f32 0x45000000#32 * ∑ x, d3Of I A (ix2 x o) * d3Of I A (ix2 x o) := by
    unfold e2aOf d3Of
    generalize k0_pay74 A.s1 A.z1 I.bg I.bb A.tm = xg
    generalize k0_pay75 A.s1 A.z1 I.bg I.bb A.t4 (c1head I) = xa
    generalize k0_pay76 (c1mid I) = cm
    unfold_payloads
    pointwise
  have hrb : e2bOf I A (ix2 0 o) = ∑ x, d3Of I A (ix2 x o) * ∑ x1, I.rep (ix2 x x1) * A.q1 (ix2 x1 o) := by
    unfold e2bOf d3Of
    generalize k0_pay74 A.s1 A.z1 I.bg I.bb A.tm = xg
    generalize k0_pay75 A.s1 A.z1 I.bg I.bb A.t4 (c1head I) = xa
    generalize k0_pay76 (c1mid I) = cm
    unfold_payloads
    pointwise
  have hq : ∀ b : Fin 8, A.q1 (ix2 b o) = ((∑ n, Q a b n o : ℝ) : EReal) := fun b => by rw [hA.q1, if_pos b.isLt]
  have hq2 : ∀ b : Fin 8, A.q2 (ix2 b o) = ((∑ n, Q a b n o * Q a b n o : ℝ) : EReal) := fun b => by rw [hA.q2, if_pos b.isLt]
  have hrs : ∀ r : Fin 32, ∑ b : Fin 8, I.rep (ix2 r b) * ((∑ n, Q a b n o : ℝ) : EReal) = ((∑ n, Q a (bat r) n o : ℝ) : EReal) :=
    fun r => rep_sum h r (fun b => ∑ n, Q a b n o)
  rw [hr, hra, hrb, hm, c2048, c4, c2, c65536i, cEps, h.bg1]
  simp only [e1, hq, hq2, hrs, ← coe_sum, ← EReal.coe_mul, ← EReal.coe_sub, ← EReal.coe_add]
  rw [sum_rows (fun b s => D eps a b s o * D eps a b s o), sum_rows (fun b s => D eps a b s o * ∑ n, Q a b n o), ← sumC1sq]
  have hv := var_eq (by norm_num) card3 (C1f eps a o)
  have hme : mean 65536 (C1f eps a o) = (∑ i, C1f eps a o i) * (1 / 65536) := by unfold mean; rw [mul_one_div]
  rw [← hme] at hv
  rw [← hv, rsqrt_eps (var_nonneg (by norm_num) _), ← EReal.coe_mul]
  rfl

/-- The scale and the shift of the first convolution, -/
def al2 (a : Arg) (o : Fin 30) : ℝ := al eps (var 65536 (C1f eps a o)) (a.g2 o)
def be2 (a : Arg) (o : Fin 30) : ℝ := be eps (mean 65536 (C1f eps a o)) (var 65536 (C1f eps a o)) (a.g2 o) (a.e2 o)

/-- and its part constant in a batch, normalised. -/
theorem p_is (h : InsIs I a) (hg : ∀ k, 0 ≤ a.g1 k) (hA : AccIs a 8 A) (r : Fin 32) (o : Fin 30) :
    pOf I A (ix2 r o) = ((al2 a o * D eps a (bat r) (pnt r) o + be2 a o : ℝ) : EReal) := by
  have e1 := d3_is h hg hA r o
  have hm := m2_is h hg hA o
  have hl := al2r_is h hg hA o
  have hr : pOf I A (ix2 r o) = al2rOf I A (ix2 0 o) * d3Of I A (ix2 r o) + (I.bb1 (ix2 0 o) - m2Of I A (ix2 0 o) * al2rOf I A (ix2 0 o)) := by
    unfold pOf al2rOf
    generalize d3Of I A = d
    generalize m2Of I A = xg
    generalize e2aOf I A = xa
    generalize e2bOf I A = cm
    unfold_payloads
    pointwise
  rw [hr, hl, e1, hm, h.bb1]
  simp only [← EReal.coe_mul, ← EReal.coe_sub, ← EReal.coe_add]
  rfl

end Cert.Val
-- ==== Proof.V.KRow.lean ====
/-
  The second and third phases: the second convolution, its sums, the maximum over the four points, and the result's rows.
-/
module

public import proofs.«01_k».proof.Proof.V.KMid

@[expose] public section

set_option maxHeartbeats 1000000

noncomputable section

namespace Cert.Val

open Finset Cert.KernelIdeal Cert.KernelIdeal.Gen Cert.KernelIdeal.Hand
open Idealize.ShloMosaic

variable {I : Ins Ideal} {a : Arg} {A : Acc Ideal} {P : Vec Ideal S8x120 .f32} {L : Vec Ideal S1x120 .f32} {X : Vec Ideal S2048x2 .f32} {b : Fin 8}

def m30 (x : Fin 120) : Fin 30 := ⟨x.val % 30, Nat.mod_lt _ (by decide)⟩
def d30 (x : Fin 120) : Fin 4 := ⟨x.val / 30, by omega⟩
def m60 (k : Fin 240) : Fin 60 := ⟨k.val % 60, Nat.mod_lt _ (by decide)⟩
def d60 (k : Fin 240) : Fin 4 := ⟨k.val / 60, by omega⟩

/-- What the second phase's set-up leaves: the normalised part, and the scale, the four points side by side. -/
def PIs (a : Arg) (P : Vec Ideal S8x120 .f32) : Prop :=
  ∀ (r : Fin 8) (x : Fin 120), P (ix2 r x) = ((al2 a (m30 x) * D eps a r (d30 x) (m30 x) + be2 a (m30 x) : ℝ) : EReal)
def LIs (a : Arg) (L : Vec Ideal S1x120 .f32) : Prop := ∀ x : Fin 120, L (ix2 0 x) = ((al2 a (m30 x) : ℝ) : EReal)

theorem word32 : ∀ (r : Fin 8) (x : Fin 32) (s : Fin 4),
    IntOp.cmpi .eq (BitVec.ofNat 32 x.val) (IntOp.addi (IntOp.muli 4#32 (BitVec.ofNat 32 r.val)) (BitVec.ofNat 32 s.val)) = if x.val = 4 * r.val + s.val then 1#1 else 0#1 := by
  decide +kernel

theorem sum_mask32 (r : Fin 8) (s : ℕ) (hs : s < 4) (f : Fin 32 → EReal) (g : Fin 4 → ℝ) (hf : ∀ x, bat x = r → f x = ((g (pnt x) : ℝ) : EReal))
    (f' : Fin 32 → ℝ) (hf' : ∀ x, f x = ((f' x : ℝ) : EReal)) :
    ∑ x : Fin 32, FloatOps.sitofp (F := Ideal) .f32 (BitVec.setWidth 32
      (IntOp.cmpi .eq (BitVec.ofNat 32 x.val) (IntOp.addi (IntOp.muli 4#32 (BitVec.ofNat 32 r.val)) (BitVec.ofNat 32 s)))) * f x
      = ((g ⟨s, hs⟩ : ℝ) : EReal) := by
  have hm : ∀ x : Fin 32, (FloatOps.sitofp (F := Ideal) .f32 (BitVec.setWidth 32
      (IntOp.cmpi .eq (BitVec.ofNat 32 x.val) (IntOp.addi (IntOp.muli 4#32 (BitVec.ofNat 32 r.val)) (BitVec.ofNat 32 s)))) : EReal)
      = ((if x.val = 4 * r.val + s then 1 else 0 : ℝ) : EReal) := by
    intro x
    rw [word32 r x ⟨s, hs⟩]
    split_ifs <;> simp [FloatOps.sitofp]
  simp only [hm, hf', ← EReal.coe_mul, ← coe_sum]
  rw [sum_mask ⟨4 * r.val + s, by omega⟩ f' _ (fun j => by simp [Fin.ext_iff]), ← hf', hf]
  · congr 2
    apply Fin.ext
    simp only [pnt]; omega
  · apply Fin.ext
    simp only [bat]; omega

theorem p3_is (h : InsIs I a) (hg : ∀ k, 0 ≤ a.g1 k) (hA : AccIs a 8 A) : PIs a (p3Of I A) := by
  intro r x
  have hp := p_is h hg hA
  have key : ∀ (s : ℕ) (hs : s < 4) (o : Fin 30), x.val = 30 * s + o.val →
      ∑ y : Fin 32, FloatOps.sitofp (F := Ideal) .f32 (BitVec.setWidth 32
      (IntOp.cmpi .eq (BitVec.ofNat 32 y.val) (IntOp.addi (IntOp.muli 4#32 (BitVec.ofNat 32 r.val)) (BitVec.ofNat 32 s)))) * pOf I A (ix2 y o)
      = ((al2 a (m30 x) * D eps a r (d30 x) (m30 x) + be2 a (m30 x) : ℝ) : EReal) := by
    intro s hs o hx
    have e1 : m30 x = o := Fin.ext (by simp only [m30]; omega)
    have e2 : d30 x = ⟨s, hs⟩ := Fin.ext (by simp only [d30]; omega)
    rw [e1, e2]
    refine sum_mask32 r s hs (fun y => pOf I A (ix2 y o)) (fun s => al2 a o * D eps a r s o + be2 a o) (fun y hy => ?_) _ (fun y => hp y o)
    rw [hp, hy]
  unfold p3Of k0_pay83
  unfold pOf at key ⊢
  generalize k0_pay82 (d3Of I A) (m2Of I A) (e2aOf I A) (e2bOf I A) (Scalar.ofBits .f32 0x40000000#32) A.q2 I.bg1 I.bb1 = p at key ⊢
  unfold_payloads
  pointwise
  split_ifs
  · exact key 0 (by decide) ⟨x.val, by omega⟩ (by show x.val = 30 * 0 + (x.val); omega)
  · rename_i hn; exact absurd rfl hn
  · exact key 1 (by decide) ⟨x.val - 30, by omega⟩ (by show x.val = 30 * 1 + (x.val - 30); omega)
  · rename_i hn; exact absurd rfl hn
  · exact key 2 (by decide) ⟨x.val - 30 - 30, by omega⟩ (by show x.val = 30 * 2 + (x.val - 30 - 30); omega)
  · rename_i hn; exact absurd rfl hn
  · exact key 3 (by decide) ⟨x.val - 30 - 30 - 30, by omega⟩ (by show x.val = 30 * 3 + (x.val - 30 - 30 - 30); omega)
  · rename_i hn; exact absurd rfl hn

theorem al2_is (h : InsIs I a) (hg : ∀ k, 0 ≤ a.g1 k) (hA : AccIs a 8 A) : LIs a (al2Of I A) := by
  intro x
  have hl := al2r_is h hg hA
  unfold al2Of
  generalize al2rOf I A = l at hl ⊢
  unfold_payloads
  pointwise
  simp only [hl]
  split_ifs <;> exact congrArg (fun o => ((al2 a o : ℝ) : EReal)) (Fin.ext (by simp only [m30]; omega))

/-! ## The second convolution -/

theorem sum120 (s : Fin 4) (g : Fin 120 → ℝ) (d : Fin 30 → ℝ) :
    ∑ x : Fin 120, g x * (if x.val / 30 = s.val then d (m30 x) else 0) = ∑ o : Fin 30, g ⟨30 * s.val + o.val, by omega⟩ * d o := by
  rw [← Equiv.sum_comp (finProdFinEquiv : Fin 4 × Fin 30 ≃ Fin 120), Fintype.sum_prod_type, Finset.sum_eq_single s]
  · refine Finset.sum_congr rfl fun o _ => ?_
    have e : (finProdFinEquiv (s, o) : Fin 120) = ⟨30 * s.val + o.val, by omega⟩ := Fin.ext (by simp [finProdFinEquiv]; omega)
    rw [e, if_pos (by show (30 * s.val + o.val) / 30 = _; omega)]
    congr 2
    exact Fin.ext (by simp only [m30]; omega)
  · intro t _ ht
    refine Finset.sum_eq_zero fun o _ => ?_
    have e : (finProdFinEquiv (t, o) : Fin 120).val = 30 * t.val + o.val := by simp [finProdFinEquiv]; omega
    rw [e, if_neg, mul_zero]
    intro hh; exact ht (Fin.ext (by omega))
  · intro hh; exact absurd (mem_univ _) hh

theorem H1_eq (b : Fin 8) (s : Fin 4) (n : Fin 2048) (o : Fin 30) :
    H1 eps a b s n o = max (al2 a o * D eps a b s o + be2 a o - al2 a o * Q a b n o) 0 := by
  unfold H1
  rw [bn_eq]
  show max (al2 a o * C1 eps a b s n o + be2 a o) 0 = _
  rw [C1_eq]
  congr 1; ring

/-- The second convolution at a row and a column of the four points side by side. -/
theorem hExpr_is (h : InsIs I a) (hP : PIs a P) (hL : LIs a L) (hX : RowsIs a b X) (n : Fin 2048) (k : Fin 240) :
    ∑ x : Fin 120, max (∑ x1 : Fin 8, P (ix2 x1 x) * FloatOps.sitofp (F := Ideal) .f32 (BitVec.setWidth 32 (IntOp.cmpi .eq (BitVec.ofNat 32 x1.val) (BitVec.ofNat 32 b.val)))
      - L (ix2 0 x) * ∑ x1 : Fin 2, X (ix2 n x1) * I.axy (ix2 x1 x)) 0 * I.w2 (ix2 x k) + I.c2b (ix2 0 k)
      = ((H2 eps a b (d60 k) n (m60 k) : ℝ) : EReal) := by
  have hs : ∀ x, ∑ x1 : Fin 8, P (ix2 x1 x) * FloatOps.sitofp (F := Ideal) .f32 (BitVec.setWidth 32 (IntOp.cmpi .eq (BitVec.ofNat 32 x1.val) (BitVec.ofNat 32 b.val)))
      = ((al2 a (m30 x) * D eps a b (d30 x) (m30 x) + be2 a (m30 x) : ℝ) : EReal) := by
    intro x
    simp only [hP _ _, mask_ofNat, ← EReal.coe_mul, ← coe_sum]
    congr 1
    simp
  simp only [hs, hL _, hX _ _, h.axy, h.w2, h.c2b, ← EReal.coe_mul, ← coe_sum, ← EReal.coe_sub, ← EReal.coe_zero, ← coe_max, ← EReal.coe_add]
  congr 1
  unfold H2
  congr 1
  refine (sum120 (d60 k) (fun x => max (al2 a (m30 x) * D eps a b (d30 x) (m30 x) + be2 a (m30 x) - al2 a (m30 x) * Q a b n (m30 x)) 0) (fun o => a.dw (m60 k) o)).trans ?_
  refine Finset.sum_congr rfl fun o _ => ?_
  rw [H1_eq, mul_comm]
  have e1 : m30 ⟨30 * (d60 k).val + o.val, by omega⟩ = o := Fin.ext (by simp only [m30]; omega)
  have e2 : d30 ⟨30 * (d60 k).val + o.val, by omega⟩ = d60 k := Fin.ext (by simp only [d30]; omega)
  simp only [e1, e2]

theorem hRow_is (h : InsIs I a) (hP : PIs a P) (hL : LIs a L) (hX : RowsIs a b X) (n : Fin 2048) (k : Fin 240) :
    hRow I P L (BitVec.ofNat 32 b.val) X (ix2 n k) = ((H2 eps a b (d60 k) n (m60 k) : ℝ) : EReal) := by
  rw [← hExpr_is h hP hL hX]
  unfold hRow
  unfold_payloads
  pointwise

/-- The sums hold a quantity's total and its square's over the batches before `n`. -/
structure SumsIs (n : ℕ) (f : Fin 8 → Fin 60 → ℝ) (g : Fin 8 → Fin 60 → ℝ) (S : Sums Ideal) : Prop where
  s : ∀ k : Fin 60, S.s (ix2 0 k) = ((PS n (fun b => f b k) : ℝ) : EReal)
  q : ∀ k : Fin 60, S.q (ix2 0 k) = ((PS n (fun b => g b k) : ℝ) : EReal)

def h2s (a : Arg) (b : Fin 8) (k : Fin 60) : ℝ := ∑ s, ∑ n, H2 eps a b s n k
def h2q (a : Arg) (b : Fin 8) (k : Fin 60) : ℝ := ∑ s, ∑ n, H2 eps a b s n k * H2 eps a b s n k
def nps (a : Arg) (b : Fin 8) (k : Fin 60) : ℝ := ∑ n, NP eps a b n k
def npq (a : Arg) (b : Fin 8) (k : Fin 60) : ℝ := ∑ n, NP eps a b n k * NP eps a b n k

theorem sums3_is (f g : Fin 8 → Fin 60 → ℝ) : SumsIs 0 f g sums3 := by
  constructor <;> intros <;> unfold sums3 <;> unfold_payloads <;> pointwise <;> simp [PS_zero]
theorem sums4_is (f g : Fin 8 → Fin 60 → ℝ) : SumsIs 0 f g sums4 := by
  constructor <;> intros <;> unfold sums4 <;> unfold_payloads <;> pointwise <;> simp [PS_zero]

theorem at60 (k : Fin 60) :
    (d60 ⟨k.val, by omega⟩ = 0 ∧ m60 ⟨k.val, by omega⟩ = k) ∧ (d60 ⟨60 + k.val, by omega⟩ = 1 ∧ m60 ⟨60 + k.val, by omega⟩ = k)
    ∧ (d60 ⟨120 + k.val, by omega⟩ = 2 ∧ m60 ⟨120 + k.val, by omega⟩ = k) ∧ (d60 ⟨180 + k.val, by omega⟩ = 3 ∧ m60 ⟨180 + k.val, by omega⟩ = k) := by
  simp only [d60, m60, Fin.ext_iff]
  refine ⟨⟨?_, ?_⟩, ⟨?_, ?_⟩, ⟨?_, ?_⟩, ?_, ?_⟩ <;> first | omega | (show _ = _; simp; omega)

theorem sum3Step_is {H : FVec Ideal S2048x240 .f32} (hH : ∀ n k, H (ix2 n k) = ((H2 eps a b (d60 k) n (m60 k) : ℝ) : EReal)) {S : Sums Ideal}
    (hS : SumsIs b.val (h2s a) (h2q a) S) : SumsIs (b.val + 1) (h2s a) (h2q a) (sum3Step H S) := by
  constructor
  · intro k
    have hr : (sum3Step H S).s (ix2 0 k) = S.s (ix2 0 k) + (∑ x, H (ix2 x ⟨k.val, by omega⟩) + ∑ x, H (ix2 x ⟨60 + k.val, by omega⟩)
        + ∑ x, H (ix2 x ⟨120 + k.val, by omega⟩) + ∑ x, H (ix2 x ⟨180 + k.val, by omega⟩)) := by
      unfold sum3Step
      unfold_payloads
      pointwise
    obtain ⟨⟨e1, e2⟩, ⟨e3, e4⟩, ⟨e5, e6⟩, e7, e8⟩ := at60 k
    rw [hr]
    simp only [hH, e1, e2, e3, e4, e5, e6, e7, e8, hS.s, ← coe_sum, ← EReal.coe_add, PS_succ b]
    simp only [h2s, Fin.sum_univ_four]
  · intro k
    have hr : (sum3Step H S).q (ix2 0 k) = S.q (ix2 0 k) + (∑ x, H (ix2 x ⟨k.val, by omega⟩) * H (ix2 x ⟨k.val, by omega⟩)
        + ∑ x, H (ix2 x ⟨60 + k.val, by omega⟩) * H (ix2 x ⟨60 + k.val, by omega⟩)
        + ∑ x, H (ix2 x ⟨120 + k.val, by omega⟩) * H (ix2 x ⟨120 + k.val, by omega⟩) + ∑ x, H (ix2 x ⟨180 + k.val, by omega⟩) * H (ix2 x ⟨180 + k.val, by omega⟩)) := by
      unfold sum3Step
      unfold_payloads
      pointwise
    obtain ⟨⟨e1, e2⟩, ⟨e3, e4⟩, ⟨e5, e6⟩, e7, e8⟩ := at60 k
    rw [hr]
    simp only [hH, e1, e2, e3, e4, e5, e6, e7, e8, hS.q, ← EReal.coe_mul, ← coe_sum, ← EReal.coe_add, PS_succ b]
    simp only [h2q, Fin.sum_univ_four]

/-! ## The maximum over the four points -/

theorem sumH2 (k : Fin 60) : PS 8 (fun b => h2s a b k) = ∑ p, H2f eps a k p := by
  simp only [PS_all, h2s, Fintype.sum_prod_type, H2f]
theorem sumH2q (k : Fin 60) : PS 8 (fun b => h2q a b k) = ∑ p, H2f eps a k p * H2f eps a k p := by
  simp only [PS_all, h2q, Fintype.sum_prod_type, H2f]
theorem sumNP (k : Fin 60) : PS 8 (fun b => nps a b k) = ∑ p, NPf eps a k p := by
  simp only [PS_all, nps, Fintype.sum_prod_type, NPf]
theorem sumNPq (k : Fin 60) : PS 8 (fun b => npq a b k) = ∑ p, NPf eps a k p * NPf eps a k p := by
  simp only [PS_all, npq, Fintype.sum_prod_type, NPf]

def al3 (a : Arg) (k : Fin 60) : ℝ := al eps (var 65536 (H2f eps a k)) (a.g3 k)
def be3 (a : Arg) (k : Fin 60) : ℝ := be eps (mean 65536 (H2f eps a k)) (var 65536 (H2f eps a k)) (a.g3 k) (a.e3 k)
def al4 (a : Arg) (k : Fin 60) : ℝ := al eps (var 16384 (NPf eps a k)) (a.g4 k)
def be4 (a : Arg) (k : Fin 60) : ℝ := be eps (mean 16384 (NPf eps a k)) (var 16384 (NPf eps a k)) (a.g4 k) 0

theorem al3_is (h : InsIs I a) {S : Sums Ideal} (hS : SumsIs 8 (h2s a) (h2q a) S) (k : Fin 60) :
    I.bg2 (ix2 0 k) * Ideal.rsqrt (S.q (ix2 0 k) * Ideal.ofBits .f32 0x37800000#32
      - S.s (ix2 0 k) * Ideal.ofBits .f32 0x37800000#32 * (S.s (ix2 0 k) * Ideal.ofBits .f32 0x37800000#32) + Ideal.ofBits .f32 0x3727C5AC#32)
      = ((al3 a k : ℝ) : EReal) := by
  rw [h.bg2]
  exact al_of_sums (by norm_num) card3 (H2f eps a k) _ _ _ _ c65536i (by rw [hS.s, sumH2]) (by rw [hS.q, sumH2q])

theorem be3_is (h : InsIs I a) {S : Sums Ideal} (hS : SumsIs 8 (h2s a) (h2q a) S) (k : Fin 60) :
    I.bb2 (ix2 0 k) - S.s (ix2 0 k) * Ideal.ofBits .f32 0x37800000#32 * ((al3 a k : ℝ) : EReal) = ((be3 a k : ℝ) : EReal) := by
  rw [h.bb2]
  exact be_of_sums (N := 65536) (H2f eps a k) _ _ _ _ _ c65536i (by rw [hS.s, sumH2]) rfl

theorem al3r_is (h : InsIs I a) {S : Sums Ideal} (hS : SumsIs 8 (h2s a) (h2q a) S) (k : Fin 240) :
    k0_pay108 S.s S.q I.bg2 (ix2 0 k) = ((al3 a (m60 k) : ℝ) : EReal) := by
  have hl := al3_is h hS
  unfold_payloads
  pointwise
  simp only [hl]
  split_ifs <;> exact congrArg (fun o => ((al3 a o : ℝ) : EReal)) (Fin.ext (by simp only [m60]; omega))

theorem be3r_is (h : InsIs I a) {S : Sums Ideal} (hS : SumsIs 8 (h2s a) (h2q a) S) (k : Fin 240) :
    k0_pay109 S.s S.q I.bg2 I.bb2 (ix2 0 k) = ((be3 a (m60 k) : ℝ) : EReal) := by
  have hl := al3_is h hS
  have hb := be3_is h hS
  unfold_payloads
  pointwise
  simp only [hl, hb]
  split_ifs <;> exact congrArg (fun o => ((be3 a o : ℝ) : EReal)) (Fin.ext (by simp only [m60]; omega))

theorem Y_eq (b : Fin 8) (s : Fin 4) (n : Fin 2048) (k : Fin 60) : Y eps a b s n k = max (al3 a k * H2 eps a b s n k + be3 a k) 0 := by
  unfold Y; rw [bn_eq]; rfl

theorem npRow_is (h : InsIs I a) (hP : PIs a P) (hL : LIs a L) (hX : RowsIs a b X) {S : Sums Ideal} (hS : SumsIs 8 (h2s a) (h2q a) S)
    (n : Fin 2048) (k : Fin 60) :
    npRow I P L S (BitVec.ofNat 32 b.val) X (ix2 n k) = ((NP eps a b n k : ℝ) : EReal) := by
  have e1 := al3r_is h hS
  have e2 := be3r_is h hS
  have e3 := hExpr_is h hP hL hX n
  unfold npRow
  generalize k0_pay108 S.s S.q I.bg2 = l at e1 ⊢
  generalize k0_pay109 S.s S.q I.bg2 I.bb2 = m at e2 ⊢
  obtain ⟨⟨f1, f2⟩, ⟨f3, f4⟩, ⟨f5, f6⟩, f7, f8⟩ := at60 k
  unfold_payloads
  pointwise
  simp only [e1, e2, e3, f1, f2, f3, f4, f5, f6, f7, f8]
  simp only [← EReal.coe_mul, ← EReal.coe_add, ← EReal.coe_zero, ← coe_max]
  unfold NP
  rw [sup_four]
  simp only [Y_eq]

theorem sum4Step_is {H : FVec Ideal S2048x60 .f32} (hH : ∀ n k, H (ix2 n k) = ((NP eps a b n k : ℝ) : EReal)) {S : Sums Ideal}
    (hS : SumsIs b.val (nps a) (npq a) S) : SumsIs (b.val + 1) (nps a) (npq a) (sum4Step H S) := by
  constructor
  · intro k
    have hr : (sum4Step H S).s (ix2 0 k) = S.s (ix2 0 k) + ∑ x, H (ix2 x k) := by
      unfold sum4Step addRows
      pointwise
    rw [hr]
    simp only [hH, hS.s, ← coe_sum, ← EReal.coe_add, PS_succ b]
    rfl
  · intro k
    have hr : (sum4Step H S).q (ix2 0 k) = S.q (ix2 0 k) + ∑ x, H (ix2 x k) * H (ix2 x k) := by
      unfold sum4Step
      unfold_payloads
      pointwise
    rw [hr]
    simp only [hH, hS.q, ← EReal.coe_mul, ← coe_sum, ← EReal.coe_add, PS_succ b]
    rfl

/-! ## The result's rows -/

theorem Z_eq (b : Fin 8) (n : Fin 2048) (k : Fin 60) : Z eps a b n k = max (((al4 a k : ℝ) : EReal) * ((NP eps a b n k : ℝ) : EReal) + (a.e4 k + ((be4 a k : ℝ) : EReal))) 0 := by
  unfold Z; rw [bn_eq, add_comm (a.e4 k), ← add_assoc, ← EReal.coe_mul, ← EReal.coe_add]; rfl

theorem outRow_is (h : InsIs I a) {S : Sums Ideal} (hS : SumsIs 8 (nps a) (npq a) S) {H : Vec Ideal S2048x60 .f32}
    (hH : ∀ n k, H (ix2 n k) = ((NP eps a b n k : ℝ) : EReal)) (n : Fin 2048) (c : Fin 2) :
    outRow I S H (ix2 n c) = Out eps a b n c := by
  have e1 : ∀ k, I.bg3 (ix2 0 k) * Ideal.rsqrt (S.q (ix2 0 k) * Ideal.ofBits .f32 0x38800000#32
      - S.s (ix2 0 k) * Ideal.ofBits .f32 0x38800000#32 * (S.s (ix2 0 k) * Ideal.ofBits .f32 0x38800000#32) + Ideal.ofBits .f32 0x3727C5AC#32)
      = ((al4 a k : ℝ) : EReal) := by
    intro k
    rw [h.bg3]
    exact al_of_sums (by norm_num) card2 (NPf eps a k) _ _ _ _ c16384i (by rw [hS.s, sumNP]) (by rw [hS.q, sumNPq])
  have e2 : ∀ k, I.bb3 (ix2 0 k) - S.s (ix2 0 k) * Ideal.ofBits .f32 0x38800000#32 * ((al4 a k : ℝ) : EReal) = a.e4 k + ((be4 a k : ℝ) : EReal) := by
    intro k
    rw [h.bb3]
    have e := be_of_sums (N := 16384) (NPf eps a k) (a.g4 k) 0 (S.s (ix2 0 k)) _ _ c16384i (by rw [hS.s, sumNP]) rfl
    rw [EReal.coe_zero, sub_eq_add_neg, zero_add] at e
    rw [sub_eq_add_neg]
    exact congrArg (a.e4 k + ·) e
  unfold outRow
  unfold_payloads
  pointwise
  simp only [e1, e2, hH, h.w4, h.b4]
  unfold Out
  simp only [Z_eq]

end Cert.Val
-- ==== Proof.V.KFold.lean ====
/-
  The four phases over all batches: what the accumulators, the coefficients, the sums, the stored rows and the result's
  rows are after the points of each phase.
-/
module

public import proofs.«01_k».proof.Proof.V.KRow
public import proofs.«01_k».proof.Proof.KI.Launch
public import Idealize.ShloMosaic.Lib.Pipeline.ValueKit

@[expose] public section

set_option maxHeartbeats 1000000

noncomputable section

namespace Cert.Val

open Finset Cert.KernelIdeal Cert.KernelIdeal.Gen Cert.KernelIdeal.Hand
open Idealize.ShloMosaic Idealize.ShloMosaic.TcCoe

variable {I : Ins Ideal} {a : Arg} {A : Acc Ideal} {P : Vec Ideal S8x120 .f32} {L : Vec Ideal S1x120 .f32}

/-- The block of the rows holds the points of every batch, one batch after the other. -/
def XIs (I : Ins Ideal) (a : Arg) : Prop :=
  ∀ (r : Fin 16384) (c : Fin 2), I.x (ix2 r c) = ((a.x ⟨r.val / 2048, by omega⟩ ⟨r.val % 2048, Nat.mod_lt _ (by decide)⟩ c : ℝ) : EReal)

theorem rows_of (hx : XIs I a) {off : Fin 2 → ℕ} {inb} (b : Fin 8) (ho : off = ![2048 * b.val, 0]) :
    RowsIs a b (View.ld I.x (Rect.unit (s := S16384x2) off S2048x2.size inb)) := by
  intro n c
  subst ho
  have hr : 2048 * b.val + n.val < 16384 := by omega
  refine (View.ld_unit_apply_of I.x _ _ _ _ (ix2 ⟨2048 * b.val + n.val, hr⟩ c) ?_).trans ((hx _ _).trans ?_)
  · intro d
    fin_cases d
    · rfl
    · exact (Nat.zero_add _).symm
  · have e1 : (⟨(2048 * b.val + n.val) / 2048, by omega⟩ : Fin 8) = b := Fin.ext (by simp only; omega)
    have e2 : (⟨(2048 * b.val + n.val) % 2048, Nat.mod_lt _ (by decide)⟩ : Fin 2048) = n := Fin.ext (by simp only; omega)
    simp only [e1, e2]

theorem acc_one (h : InsIs I a) (hx : XIs I a) {w : BitVec 32} {off : Fin 2 → ℕ} {inb} (b : Fin 8) (hw : w = BitVec.ofNat 32 b.val)
    (ho : off = ![2048 * b.val, 0]) (hA : AccIs a b.val A) :
    AccIs a (b.val + 1) (accStep I w (View.ld I.x (Rect.unit (s := S16384x2) off S2048x2.size inb)) A) := by
  subst hw
  exact accStep_is h (rows_of hx b ho) hA

theorem sum3_one (h : InsIs I a) (hx : XIs I a) (hP : PIs a P) (hL : LIs a L) {w : BitVec 32} {off : Fin 2 → ℕ} {inb} (b : Fin 8)
    (hw : w = BitVec.ofNat 32 b.val) (ho : off = ![2048 * b.val, 0]) {S : Sums Ideal} (hS : SumsIs b.val (h2s a) (h2q a) S) :
    SumsIs (b.val + 1) (h2s a) (h2q a) (sum3Step (hRow I P L w (View.ld I.x (Rect.unit (s := S16384x2) off S2048x2.size inb))) S) := by
  subst hw
  exact sum3Step_is (hRow_is h hP hL (rows_of hx b ho)) hS

theorem np_one (h : InsIs I a) (hx : XIs I a) (hP : PIs a P) (hL : LIs a L) {S : Sums Ideal} (hS : SumsIs 8 (h2s a) (h2q a) S)
    {w : BitVec 32} {off : Fin 2 → ℕ} {inb} (b : Fin 8) (hw : w = BitVec.ofNat 32 b.val) (ho : off = ![2048 * b.val, 0]) (n : Fin 2048) (k : Fin 60) :
    npRow I P L S w (View.ld I.x (Rect.unit (s := S16384x2) off S2048x2.size inb)) (ix2 n k) = ((NP eps a b n k : ℝ) : EReal) := by
  subst hw
  exact npRow_is h hP hL (rows_of hx b ho) hS n k

theorem sum4_one (h : InsIs I a) (hx : XIs I a) (hP : PIs a P) (hL : LIs a L) {S : Sums Ideal} (hS : SumsIs 8 (h2s a) (h2q a) S)
    {w : BitVec 32} {off : Fin 2 → ℕ} {inb} (b : Fin 8) (hw : w = BitVec.ofNat 32 b.val) (ho : off = ![2048 * b.val, 0])
    {U : Sums Ideal} (hU : SumsIs b.val (nps a) (npq a) U) :
    SumsIs (b.val + 1) (nps a) (npq a) (sum4Step (npRow I P L S w (View.ld I.x (Rect.unit (s := S16384x2) off S2048x2.size inb))) U) :=
  sum4Step_is (np_one h hx hP hL hS b hw ho) hU

/-! ## Rows stored one batch after the other -/

/-- The first `n` batches' rows are these. -/
def To60 (f : Fin 8 → Fin 2048 → Fin 60 → ℝ) (n : ℕ) (g : Vec Ideal S16384x60 .f32) : Prop :=
  ∀ (r : Fin 16384) (k : Fin 60), r.val < 2048 * n → g (ix2 r k) = ((f ⟨r.val / 2048, by omega⟩ ⟨r.val % 2048, Nat.mod_lt _ (by decide)⟩ k : ℝ) : EReal)

theorem to60_step {f : Fin 8 → Fin 2048 → Fin 60 → ℝ} {g : Vec Ideal S16384x60 .f32} {G : Vec Ideal S2048x60 .f32} {off : Fin 2 → ℕ} {inb}
    (b : Fin 8) (ho : off = ![2048 * b.val, 0]) (hG : ∀ n k, G (ix2 n k) = ((f b n k : ℝ) : EReal)) (hg : To60 f b.val g) :
    To60 f (b.val + 1) ((Rect.unit (s := S16384x60) off S2048x60.size inb).overlay g G) := by
  intro r k hr
  subst ho
  by_cases hlt : r.val < 2048 * b.val
  · rw [Rect.overlay_of_not_mem]
    · exact hg r k hlt
    · intro hmem
      rw [← Rect.map_emb_univ, Finset.mem_map] at hmem
      obtain ⟨j, _, hj⟩ := hmem
      have e : 2048 * b.val + (j 0).val = r.val :=
        (ValueKit.rect_emb_unit_val (s := S16384x60) ![2048 * b.val, 0] S2048x60.size inb j 0).symm.trans (congrArg (fun i : S16384x60.Idx => (i 0 : ℕ)) hj)
      omega
  · have hn : r.val - 2048 * b.val < 2048 := by omega
    have e : (ix2 r k : S16384x60.Idx) = (Rect.unit (s := S16384x60) ![2048 * b.val, 0] S2048x60.size inb).emb (ix2 ⟨r.val - 2048 * b.val, hn⟩ k) := by
      funext d
      refine Fin.ext ?_
      rw [ValueKit.rect_emb_unit_val]
      fin_cases d
      · show r.val = 2048 * b.val + (r.val - 2048 * b.val)
        omega
      · exact (Nat.zero_add _).symm
    rw [e, Rect.overlay_emb, hG]
    have e1 : (⟨r.val / 2048, by omega⟩ : Fin 8) = b := Fin.ext (by simp only; omega)
    have e2 : (⟨r.val % 2048, Nat.mod_lt _ (by decide)⟩ : Fin 2048) = ⟨r.val - 2048 * b.val, hn⟩ := Fin.ext (by simp only; omega)
    rw [e1, e2]

/-- The first `n` batches' rows are these. -/
def To2 (f : Fin 8 → Fin 2048 → Fin 2 → EReal) (n : ℕ) (g : Vec Ideal S16384x2 .f32) : Prop :=
  ∀ (r : Fin 16384) (k : Fin 2), r.val < 2048 * n → g (ix2 r k) = f ⟨r.val / 2048, by omega⟩ ⟨r.val % 2048, Nat.mod_lt _ (by decide)⟩ k

theorem to2_step {f : Fin 8 → Fin 2048 → Fin 2 → EReal} {g : Vec Ideal S16384x2 .f32} {G : Vec Ideal S2048x2 .f32} {off : Fin 2 → ℕ} {inb}
    (b : Fin 8) (ho : off = ![2048 * b.val, 0]) (hG : ∀ n k, G (ix2 n k) = f b n k) (hg : To2 f b.val g) :
    To2 f (b.val + 1) ((Rect.unit (s := S16384x2) off S2048x2.size inb).overlay g G) := by
  intro r k hr
  subst ho
  by_cases hlt : r.val < 2048 * b.val
  · rw [Rect.overlay_of_not_mem]
    · exact hg r k hlt
    · intro hmem
      rw [← Rect.map_emb_univ, Finset.mem_map] at hmem
      obtain ⟨j, _, hj⟩ := hmem
      have e : 2048 * b.val + (j 0).val = r.val :=
        (ValueKit.rect_emb_unit_val (s := S16384x2) ![2048 * b.val, 0] S2048x2.size inb j 0).symm.trans (congrArg (fun i : S16384x2.Idx => (i 0 : ℕ)) hj)
      omega
  · have hn : r.val - 2048 * b.val < 2048 := by omega
    have e : (ix2 r k : S16384x2.Idx) = (Rect.unit (s := S16384x2) ![2048 * b.val, 0] S2048x2.size inb).emb (ix2 ⟨r.val - 2048 * b.val, hn⟩ k) := by
      funext d
      refine Fin.ext ?_
      rw [ValueKit.rect_emb_unit_val]
      fin_cases d
      · show r.val = 2048 * b.val + (r.val - 2048 * b.val)
        omega
      · exact (Nat.zero_add _).symm
    rw [e, Rect.overlay_emb, hG]
    have e1 : (⟨r.val / 2048, by omega⟩ : Fin 8) = b := Fin.ext (by simp only; omega)
    have e2 : (⟨r.val % 2048, Nat.mod_lt _ (by decide)⟩ : Fin 2048) = ⟨r.val - 2048 * b.val, hn⟩ := Fin.ext (by simp only; omega)
    rw [e1, e2]

theorem np_rows {g : Vec Ideal S16384x60 .f32} (hg : To60 (NP eps a) 8 g) {off : Fin 2 → ℕ} {inb} (b : Fin 8) (ho : off = ![2048 * b.val, 0]) (n : Fin 2048) (k : Fin 60) :
    View.ld g (Rect.unit (s := S16384x60) off S2048x60.size inb) (ix2 n k) = ((NP eps a b n k : ℝ) : EReal) := by
  subst ho
  have hr : 2048 * b.val + n.val < 16384 := by omega
  refine (View.ld_unit_apply_of g _ _ _ _ (ix2 ⟨2048 * b.val + n.val, hr⟩ k) ?_).trans ((hg _ _ (by simp only; omega)).trans ?_)
  · intro d
    fin_cases d
    · rfl
    · exact (Nat.zero_add _).symm
  · have e1 : (⟨(2048 * b.val + n.val) / 2048, by omega⟩ : Fin 8) = b := Fin.ext (by simp only; omega)
    have e2 : (⟨(2048 * b.val + n.val) % 2048, Nat.mod_lt _ (by decide)⟩ : Fin 2048) = n := Fin.ext (by simp only; omega)
    simp only [e1, e2]

/-! ## The eight points -/
theorem w0_0 : bWord (grid0.coords t0_0) 0#32 = BitVec.ofNat 32 (0 : Fin 8).val := by decide
theorem o1_0_0 : k0_off1 (grid0.coords t0_0) 0#32 = ![2048 * (0 : Fin 8).val, 0] := by decide
theorem w0_1 : bWord (grid0.coords t0_0) 1#32 = BitVec.ofNat 32 (1 : Fin 8).val := by decide
theorem o1_0_1 : k0_off1 (grid0.coords t0_0) 1#32 = ![2048 * (1 : Fin 8).val, 0] := by decide
theorem w0_2 : bWord (grid0.coords t0_0) 2#32 = BitVec.ofNat 32 (2 : Fin 8).val := by decide
theorem o1_0_2 : k0_off1 (grid0.coords t0_0) 2#32 = ![2048 * (2 : Fin 8).val, 0] := by decide
theorem w0_3 : bWord (grid0.coords t0_0) 3#32 = BitVec.ofNat 32 (3 : Fin 8).val := by decide
theorem o1_0_3 : k0_off1 (grid0.coords t0_0) 3#32 = ![2048 * (3 : Fin 8).val, 0] := by decide
theorem w1_0 : bWord (grid0.coords t0_1) 0#32 = BitVec.ofNat 32 (4 : Fin 8).val := by decide
theorem o1_1_0 : k0_off1 (grid0.coords t0_1) 0#32 = ![2048 * (4 : Fin 8).val, 0] := by decide
theorem w1_1 : bWord (grid0.coords t0_1) 1#32 = BitVec.ofNat 32 (5 : Fin 8).val := by decide
theorem o1_1_1 : k0_off1 (grid0.coords t0_1) 1#32 = ![2048 * (5 : Fin 8).val, 0] := by decide
theorem w1_2 : bWord (grid0.coords t0_1) 2#32 = BitVec.ofNat 32 (6 : Fin 8).val := by decide
theorem o1_1_2 : k0_off1 (grid0.coords t0_1) 2#32 = ![2048 * (6 : Fin 8).val, 0] := by decide
theorem w1_3 : bWord (grid0.coords t0_1) 3#32 = BitVec.ofNat 32 (7 : Fin 8).val := by decide
theorem o1_1_3 : k0_off1 (grid0.coords t0_1) 3#32 = ![2048 * (7 : Fin 8).val, 0] := by decide
theorem w2_0 : bWord (grid0.coords t0_2) 0#32 = BitVec.ofNat 32 (0 : Fin 8).val := by decide
theorem o2_2_0 : k0_off2 (grid0.coords t0_2) 0#32 = ![2048 * (0 : Fin 8).val, 0] := by decide
theorem w2_1 : bWord (grid0.coords t0_2) 1#32 = BitVec.ofNat 32 (1 : Fin 8).val := by decide
theorem o2_2_1 : k0_off2 (grid0.coords t0_2) 1#32 = ![2048 * (1 : Fin 8).val, 0] := by decide
theorem w2_2 : bWord (grid0.coords t0_2) 2#32 = BitVec.ofNat 32 (2 : Fin 8).val := by decide
theorem o2_2_2 : k0_off2 (grid0.coords t0_2) 2#32 = ![2048 * (2 : Fin 8).val, 0] := by decide
theorem w2_3 : bWord (grid0.coords t0_2) 3#32 = BitVec.ofNat 32 (3 : Fin 8).val := by decide
theorem o2_2_3 : k0_off2 (grid0.coords t0_2) 3#32 = ![2048 * (3 : Fin 8).val, 0] := by decide
theorem w3_0 : bWord (grid0.coords t0_3) 0#32 = BitVec.ofNat 32 (4 : Fin 8).val := by decide
theorem o2_3_0 : k0_off2 (grid0.coords t0_3) 0#32 = ![2048 * (4 : Fin 8).val, 0] := by decide
theorem w3_1 : bWord (grid0.coords t0_3) 1#32 = BitVec.ofNat 32 (5 : Fin 8).val := by decide
theorem o2_3_1 : k0_off2 (grid0.coords t0_3) 1#32 = ![2048 * (5 : Fin 8).val, 0] := by decide
theorem w3_2 : bWord (grid0.coords t0_3) 2#32 = BitVec.ofNat 32 (6 : Fin 8).val := by decide
theorem o2_3_2 : k0_off2 (grid0.coords t0_3) 2#32 = ![2048 * (6 : Fin 8).val, 0] := by decide
theorem w3_3 : bWord (grid0.coords t0_3) 3#32 = BitVec.ofNat 32 (7 : Fin 8).val := by decide
theorem o2_3_3 : k0_off2 (grid0.coords t0_3) 3#32 = ![2048 * (7 : Fin 8).val, 0] := by decide
theorem w4_0 : bWord (grid0.coords t0_4) 0#32 = BitVec.ofNat 32 (0 : Fin 8).val := by decide
theorem o3_4_0 : k0_off3 (grid0.coords t0_4) 0#32 = ![2048 * (0 : Fin 8).val, 0] := by decide
theorem o4_4_0 : k0_off4 (grid0.coords t0_4) 0#32 = ![2048 * (0 : Fin 8).val, 0] := by decide
theorem w4_1 : bWord (grid0.coords t0_4) 1#32 = BitVec.ofNat 32 (1 : Fin 8).val := by decide
theorem o3_4_1 : k0_off3 (grid0.coords t0_4) 1#32 = ![2048 * (1 : Fin 8).val, 0] := by decide
theorem o4_4_1 : k0_off4 (grid0.coords t0_4) 1#32 = ![2048 * (1 : Fin 8).val, 0] := by decide
theorem w4_2 : bWord (grid0.coords t0_4) 2#32 = BitVec.ofNat 32 (2 : Fin 8).val := by decide
theorem o3_4_2 : k0_off3 (grid0.coords t0_4) 2#32 = ![2048 * (2 : Fin 8).val, 0] := by decide
theorem o4_4_2 : k0_off4 (grid0.coords t0_4) 2#32 = ![2048 * (2 : Fin 8).val, 0] := by decide
theorem w4_3 : bWord (grid0.coords t0_4) 3#32 = BitVec.ofNat 32 (3 : Fin 8).val := by decide
theorem o3_4_3 : k0_off3 (grid0.coords t0_4) 3#32 = ![2048 * (3 : Fin 8).val, 0] := by decide
theorem o4_4_3 : k0_off4 (grid0.coords t0_4) 3#32 = ![2048 * (3 : Fin 8).val, 0] := by decide
theorem w5_0 : bWord (grid0.coords t0_5) 0#32 = BitVec.ofNat 32 (4 : Fin 8).val := by decide
theorem o3_5_0 : k0_off3 (grid0.coords t0_5) 0#32 = ![2048 * (4 : Fin 8).val, 0] := by decide
theorem o4_5_0 : k0_off4 (grid0.coords t0_5) 0#32 = ![2048 * (4 : Fin 8).val, 0] := by decide
theorem w5_1 : bWord (grid0.coords t0_5) 1#32 = BitVec.ofNat 32 (5 : Fin 8).val := by decide
theorem o3_5_1 : k0_off3 (grid0.coords t0_5) 1#32 = ![2048 * (5 : Fin 8).val, 0] := by decide
theorem o4_5_1 : k0_off4 (grid0.coords t0_5) 1#32 = ![2048 * (5 : Fin 8).val, 0] := by decide
theorem w5_2 : bWord (grid0.coords t0_5) 2#32 = BitVec.ofNat 32 (6 : Fin 8).val := by decide
theorem o3_5_2 : k0_off3 (grid0.coords t0_5) 2#32 = ![2048 * (6 : Fin 8).val, 0] := by decide
theorem o4_5_2 : k0_off4 (grid0.coords t0_5) 2#32 = ![2048 * (6 : Fin 8).val, 0] := by decide
theorem w5_3 : bWord (grid0.coords t0_5) 3#32 = BitVec.ofNat 32 (7 : Fin 8).val := by decide
theorem o3_5_3 : k0_off3 (grid0.coords t0_5) 3#32 = ![2048 * (7 : Fin 8).val, 0] := by decide
theorem o4_5_3 : k0_off4 (grid0.coords t0_5) 3#32 = ![2048 * (7 : Fin 8).val, 0] := by decide
theorem w6_0 : bWord (grid0.coords t0_6) 0#32 = BitVec.ofNat 32 (0 : Fin 8).val := by decide
theorem o5_6_0 : k0_off5 (grid0.coords t0_6) 0#32 = ![2048 * (0 : Fin 8).val, 0] := by decide
theorem o6_6_0 : k0_off6 (grid0.coords t0_6) 0#32 = ![2048 * (0 : Fin 8).val, 0] := by decide
theorem w6_1 : bWord (grid0.coords t0_6) 1#32 = BitVec.ofNat 32 (1 : Fin 8).val := by decide
theorem o5_6_1 : k0_off5 (grid0.coords t0_6) 1#32 = ![2048 * (1 : Fin 8).val, 0] := by decide
theorem o6_6_1 : k0_off6 (grid0.coords t0_6) 1#32 = ![2048 * (1 : Fin 8).val, 0] := by decide
theorem w6_2 : bWord (grid0.coords t0_6) 2#32 = BitVec.ofNat 32 (2 : Fin 8).val := by decide
theorem o5_6_2 : k0_off5 (grid0.coords t0_6) 2#32 = ![2048 * (2 : Fin 8).val, 0] := by decide
theorem o6_6_2 : k0_off6 (grid0.coords t0_6) 2#32 = ![2048 * (2 : Fin 8).val, 0] := by decide
theorem w6_3 : bWord (grid0.coords t0_6) 3#32 = BitVec.ofNat 32 (3 : Fin 8).val := by decide
theorem o5_6_3 : k0_off5 (grid0.coords t0_6) 3#32 = ![2048 * (3 : Fin 8).val, 0] := by decide
theorem o6_6_3 : k0_off6 (grid0.coords t0_6) 3#32 = ![2048 * (3 : Fin 8).val, 0] := by decide
theorem w7_0 : bWord (grid0.coords t0_7) 0#32 = BitVec.ofNat 32 (4 : Fin 8).val := by decide
theorem o5_7_0 : k0_off5 (grid0.coords t0_7) 0#32 = ![2048 * (4 : Fin 8).val, 0] := by decide
theorem o6_7_0 : k0_off6 (grid0.coords t0_7) 0#32 = ![2048 * (4 : Fin 8).val, 0] := by decide
theorem w7_1 : bWord (grid0.coords t0_7) 1#32 = BitVec.ofNat 32 (5 : Fin 8).val := by decide
theorem o5_7_1 : k0_off5 (grid0.coords t0_7) 1#32 = ![2048 * (5 : Fin 8).val, 0] := by decide
theorem o6_7_1 : k0_off6 (grid0.coords t0_7) 1#32 = ![2048 * (5 : Fin 8).val, 0] := by decide
theorem w7_2 : bWord (grid0.coords t0_7) 2#32 = BitVec.ofNat 32 (6 : Fin 8).val := by decide
theorem o5_7_2 : k0_off5 (grid0.coords t0_7) 2#32 = ![2048 * (6 : Fin 8).val, 0] := by decide
theorem o6_7_2 : k0_off6 (grid0.coords t0_7) 2#32 = ![2048 * (6 : Fin 8).val, 0] := by decide
theorem w7_3 : bWord (grid0.coords t0_7) 3#32 = BitVec.ofNat 32 (7 : Fin 8).val := by decide
theorem o5_7_3 : k0_off5 (grid0.coords t0_7) 3#32 = ![2048 * (7 : Fin 8).val, 0] := by decide
theorem o6_7_3 : k0_off6 (grid0.coords t0_7) 3#32 = ![2048 * (7 : Fin 8).val, 0] := by decide

variable (m : (ℓ : Loc nD τ sig) → Buf (Elt Ideal) ℓ) (c : Dev nD)

section
variable (h : InsIs (insOf m c) a) (hx : XIs (insOf m c) a)
include h hx
theorem acc1_is : AccIs a 4 (acc1 m c) :=
  (acc_one h hx 3 w0_3 o1_0_3 (acc_one h hx 2 w0_2 o1_0_2 (acc_one h hx 1 w0_1 o1_0_1 (acc_one h hx 0 w0_0 o1_0_0 acc0_is))))
theorem acc2_is : AccIs a 8 (acc2 m c) :=
  (acc_one h hx 7 w1_3 o1_1_3 (acc_one h hx 6 w1_2 o1_1_2 (acc_one h hx 5 w1_1 o1_1_1 (acc_one h hx 4 w1_0 o1_1_0 (acc1_is m c h hx)))))

variable (hg : ∀ k, 0 ≤ a.g1 k)
include hg
theorem pAt_is : PIs a (pAt m c) := p3_is h hg (acc2_is m c h hx)
theorem alAt_is : LIs a (alAt m c) := al2_is h hg (acc2_is m c h hx)
theorem sumA1_is : SumsIs 4 (h2s a) (h2q a) (sumA1 m c) :=
  (sum3_one h hx (pAt_is m c h hx hg) (alAt_is m c h hx hg) 3 w2_3 o2_2_3 (sum3_one h hx (pAt_is m c h hx hg) (alAt_is m c h hx hg) 2 w2_2 o2_2_2 (sum3_one h hx (pAt_is m c h hx hg) (alAt_is m c h hx hg) 1 w2_1 o2_2_1 (sum3_one h hx (pAt_is m c h hx hg) (alAt_is m c h hx hg) 0 w2_0 o2_2_0 (sums3_is _ _)))))
theorem sumA2_is : SumsIs 8 (h2s a) (h2q a) (sumA2 m c) :=
  (sum3_one h hx (pAt_is m c h hx hg) (alAt_is m c h hx hg) 7 w3_3 o2_3_3 (sum3_one h hx (pAt_is m c h hx hg) (alAt_is m c h hx hg) 6 w3_2 o2_3_2 (sum3_one h hx (pAt_is m c h hx hg) (alAt_is m c h hx hg) 5 w3_1 o2_3_1 (sum3_one h hx (pAt_is m c h hx hg) (alAt_is m c h hx hg) 4 w3_0 o2_3_0 (sumA1_is m c h hx hg)))))
theorem sumB1_is : SumsIs 4 (nps a) (npq a) (sumB1 m c) :=
  (sum4_one h hx (pAt_is m c h hx hg) (alAt_is m c h hx hg) (sumA2_is m c h hx hg) 3 w4_3 o3_4_3 (sum4_one h hx (pAt_is m c h hx hg) (alAt_is m c h hx hg) (sumA2_is m c h hx hg) 2 w4_2 o3_4_2 (sum4_one h hx (pAt_is m c h hx hg) (alAt_is m c h hx hg) (sumA2_is m c h hx hg) 1 w4_1 o3_4_1 (sum4_one h hx (pAt_is m c h hx hg) (alAt_is m c h hx hg) (sumA2_is m c h hx hg) 0 w4_0 o3_4_0 (sums4_is _ _)))))
theorem sumB2_is : SumsIs 8 (nps a) (npq a) (sumB2 m c) :=
  (sum4_one h hx (pAt_is m c h hx hg) (alAt_is m c h hx hg) (sumA2_is m c h hx hg) 7 w5_3 o3_5_3 (sum4_one h hx (pAt_is m c h hx hg) (alAt_is m c h hx hg) (sumA2_is m c h hx hg) 6 w5_2 o3_5_2 (sum4_one h hx (pAt_is m c h hx hg) (alAt_is m c h hx hg) (sumA2_is m c h hx hg) 5 w5_1 o3_5_1 (sum4_one h hx (pAt_is m c h hx hg) (alAt_is m c h hx hg) (sumA2_is m c h hx hg) 4 w5_0 o3_5_0 (sumB1_is m c h hx hg)))))
theorem np1_is (g) : To60 (NP eps a) 4 (np1 m c g) :=
  (to60_step 3 o4_4_3 (np_one h hx (pAt_is m c h hx hg) (alAt_is m c h hx hg) (sumA2_is m c h hx hg) 3 w4_3 o3_4_3) (to60_step 2 o4_4_2 (np_one h hx (pAt_is m c h hx hg) (alAt_is m c h hx hg) (sumA2_is m c h hx hg) 2 w4_2 o3_4_2) (to60_step 1 o4_4_1 (np_one h hx (pAt_is m c h hx hg) (alAt_is m c h hx hg) (sumA2_is m c h hx hg) 1 w4_1 o3_4_1) (to60_step 0 o4_4_0 (np_one h hx (pAt_is m c h hx hg) (alAt_is m c h hx hg) (sumA2_is m c h hx hg) 0 w4_0 o3_4_0) (fun r k hr => absurd hr (by omega))))))
theorem np2_is (g) : To60 (NP eps a) 8 (np2 m c g) :=
  (to60_step 7 o4_5_3 (np_one h hx (pAt_is m c h hx hg) (alAt_is m c h hx hg) (sumA2_is m c h hx hg) 7 w5_3 o3_5_3) (to60_step 6 o4_5_2 (np_one h hx (pAt_is m c h hx hg) (alAt_is m c h hx hg) (sumA2_is m c h hx hg) 6 w5_2 o3_5_2) (to60_step 5 o4_5_1 (np_one h hx (pAt_is m c h hx hg) (alAt_is m c h hx hg) (sumA2_is m c h hx hg) 5 w5_1 o3_5_1) (to60_step 4 o4_5_0 (np_one h hx (pAt_is m c h hx hg) (alAt_is m c h hx hg) (sumA2_is m c h hx hg) 4 w5_0 o3_5_0) (np1_is m c h hx hg g)))))
theorem out1_is (g o) : To2 (Out eps a) 4 (out1 m c g o) :=
  (to2_step 3 o6_6_3 (outRow_is h (sumB2_is m c h hx hg) (np_rows (np2_is m c h hx hg g) 3 o5_6_3)) (to2_step 2 o6_6_2 (outRow_is h (sumB2_is m c h hx hg) (np_rows (np2_is m c h hx hg g) 2 o5_6_2)) (to2_step 1 o6_6_1 (outRow_is h (sumB2_is m c h hx hg) (np_rows (np2_is m c h hx hg g) 1 o5_6_1)) (to2_step 0 o6_6_0 (outRow_is h (sumB2_is m c h hx hg) (np_rows (np2_is m c h hx hg g) 0 o5_6_0)) (fun r k hr => absurd hr (by omega))))))
theorem out2_is (g) {o} (ho : To2 (Out eps a) 4 o) : To2 (Out eps a) 8 (out2 m c g o) :=
  (to2_step 7 o6_7_3 (outRow_is h (sumB2_is m c h hx hg) (np_rows (np2_is m c h hx hg g) 7 o5_7_3)) (to2_step 6 o6_7_2 (outRow_is h (sumB2_is m c h hx hg) (np_rows (np2_is m c h hx hg g) 6 o5_7_2)) (to2_step 5 o6_7_1 (outRow_is h (sumB2_is m c h hx hg) (np_rows (np2_is m c h hx hg g) 5 o5_7_1)) (to2_step 4 o6_7_0 (outRow_is h (sumB2_is m c h hx hg) (np_rows (np2_is m c h hx hg g) 4 o5_7_0)) ho))))
end

end Cert.Val
-- ==== Proof.V.Ins.lean ====
/-
  The blocks the launch hands the body are the host's arrays whole, and hold the arguments.
-/
module

public import proofs.«01_k».proof.Proof.KI.Launch
public import proofs.«01_k».proof.Proof.V.HostA
public import proofs.«01_k».proof.Proof.V.HostB
public import proofs.«01_k».proof.Proof.V.HostC
public import proofs.«01_k».proof.Proof.V.HostD
public import proofs.«01_k».proof.Proof.V.KFold
public import proofs.«01_k».proof.Proof.V.RStage
public import Idealize.ShloMosaic.Lib.Pipeline.ValueKit

@[expose] public section

set_option maxHeartbeats 1000000

noncomputable section

namespace Cert.Val

open Finset Cert.KernelIdeal Cert.KernelIdeal.Gen Cert.KernelIdeal.Hand
open Idealize.ShloMosaic Idealize.ShloMosaic.TcCoe

variable (m : (ℓ : Loc nD τ sig) → Buf (Elt Ideal) ℓ) (c : Dev nD)

theorem ix_0 : ∀ t : Fin cfg0.N, win0_0.index t = ![0, 0] := by decide
theorem blk_0 : (insOf m c).x = V m c main_v0 := by
  change iblk m c 0 t0_0 = V m c main_v0
  unfold iblk
  change ((cfg0.win 0).blk t0_0).view.read (Elt Ideal) (V m c main_v0) = V m c main_v0
  generalize V m c main_v0 = X
  funext y
  blk_ext [ix_0]
theorem ix_1 : ∀ t : Fin cfg0.N, win0_1.index t = ![0, 0] := by decide
theorem blk_1 : (insOf m c).fr = V m c main_v16 := by
  change iblk m c 1 t0_0 = V m c main_v16
  unfold iblk
  change ((cfg0.win 1).blk t0_0).view.read (Elt Ideal) (V m c main_v16) = V m c main_v16
  generalize V m c main_v16 = X
  funext y
  blk_ext [ix_1]
theorem ix_2 : ∀ t : Fin cfg0.N, win0_2.index t = ![0, 0] := by decide
theorem blk_2 : (insOf m c).w1 = V m c main_v37 := by
  change iblk m c 2 t0_0 = V m c main_v37
  unfold iblk
  change ((cfg0.win 2).blk t0_0).view.read (Elt Ideal) (V m c main_v37) = V m c main_v37
  generalize V m c main_v37 = X
  funext y
  blk_ext [ix_2]
theorem ix_3 : ∀ t : Fin cfg0.N, win0_3.index t = ![0, 0] := by decide
theorem blk_3 : (insOf m c).b1 = V m c main_v68 := by
  change iblk m c 3 t0_0 = V m c main_v68
  unfold iblk
  change ((cfg0.win 3).blk t0_0).view.read (Elt Ideal) (V m c main_v68) = V m c main_v68
  generalize V m c main_v68 = X
  funext y
  blk_ext [ix_3]
theorem ix_4 : ∀ t : Fin cfg0.N, win0_4.index t = ![0, 0] := by decide
theorem blk_4 : (insOf m c).c1 = V m c main_v39 := by
  change iblk m c 4 t0_0 = V m c main_v39
  unfold iblk
  change ((cfg0.win 4).blk t0_0).view.read (Elt Ideal) (V m c main_v39) = V m c main_v39
  generalize V m c main_v39 = X
  funext y
  blk_ext [ix_4]
theorem ix_5 : ∀ t : Fin cfg0.N, win0_5.index t = ![0, 0] := by decide
theorem blk_5 : (insOf m c).bg = V m c main_v69 := by
  change iblk m c 5 t0_0 = V m c main_v69
  unfold iblk
  change ((cfg0.win 5).blk t0_0).view.read (Elt Ideal) (V m c main_v69) = V m c main_v69
  generalize V m c main_v69 = X
  funext y
  blk_ext [ix_5]
theorem ix_6 : ∀ t : Fin cfg0.N, win0_6.index t = ![0, 0] := by decide
theorem blk_6 : (insOf m c).bb = V m c main_v70 := by
  change iblk m c 6 t0_0 = V m c main_v70
  unfold iblk
  change ((cfg0.win 6).blk t0_0).view.read (Elt Ideal) (V m c main_v70) = V m c main_v70
  generalize V m c main_v70 = X
  funext y
  blk_ext [ix_6]
theorem ix_7 : ∀ t : Fin cfg0.N, win0_7.index t = ![0, 0] := by decide
theorem blk_7 : (insOf m c).c1b = V m c main_v71 := by
  change iblk m c 7 t0_0 = V m c main_v71
  unfold iblk
  change ((cfg0.win 7).blk t0_0).view.read (Elt Ideal) (V m c main_v71) = V m c main_v71
  generalize V m c main_v71 = X
  funext y
  blk_ext [ix_7]
theorem ix_8 : ∀ t : Fin cfg0.N, win0_8.index t = ![0, 0] := by decide
theorem blk_8 : (insOf m c).bg1 = V m c main_v72 := by
  change iblk m c 8 t0_0 = V m c main_v72
  unfold iblk
  change ((cfg0.win 8).blk t0_0).view.read (Elt Ideal) (V m c main_v72) = V m c main_v72
  generalize V m c main_v72 = X
  funext y
  blk_ext [ix_8]
theorem ix_9 : ∀ t : Fin cfg0.N, win0_9.index t = ![0, 0] := by decide
theorem blk_9 : (insOf m c).bb1 = V m c main_v73 := by
  change iblk m c 9 t0_0 = V m c main_v73
  unfold iblk
  change ((cfg0.win 9).blk t0_0).view.read (Elt Ideal) (V m c main_v73) = V m c main_v73
  generalize V m c main_v73 = X
  funext y
  blk_ext [ix_9]
theorem ix_10 : ∀ t : Fin cfg0.N, win0_10.index t = ![0, 0] := by decide
theorem blk_10 : (insOf m c).rep = V m c main_v48 := by
  change iblk m c 10 t0_0 = V m c main_v48
  unfold iblk
  change ((cfg0.win 10).blk t0_0).view.read (Elt Ideal) (V m c main_v48) = V m c main_v48
  generalize V m c main_v48 = X
  funext y
  blk_ext [ix_10]
theorem ix_11 : ∀ t : Fin cfg0.N, win0_11.index t = ![0, 0] := by decide
theorem blk_11 : (insOf m c).w2 = V m c main_v57 := by
  change iblk m c 11 t0_0 = V m c main_v57
  unfold iblk
  change ((cfg0.win 11).blk t0_0).view.read (Elt Ideal) (V m c main_v57) = V m c main_v57
  generalize V m c main_v57 = X
  funext y
  blk_ext [ix_11]
theorem ix_12 : ∀ t : Fin cfg0.N, win0_12.index t = ![0, 0] := by decide
theorem blk_12 : (insOf m c).axy = V m c main_v63 := by
  change iblk m c 12 t0_0 = V m c main_v63
  unfold iblk
  change ((cfg0.win 12).blk t0_0).view.read (Elt Ideal) (V m c main_v63) = V m c main_v63
  generalize V m c main_v63 = X
  funext y
  blk_ext [ix_12]
theorem ix_13 : ∀ t : Fin cfg0.N, win0_13.index t = ![0, 0] := by decide
theorem blk_13 : (insOf m c).c2b = V m c main_v67 := by
  change iblk m c 13 t0_0 = V m c main_v67
  unfold iblk
  change ((cfg0.win 13).blk t0_0).view.read (Elt Ideal) (V m c main_v67) = V m c main_v67
  generalize V m c main_v67 = X
  funext y
  blk_ext [ix_13]
theorem ix_14 : ∀ t : Fin cfg0.N, win0_14.index t = ![0, 0] := by decide
theorem blk_14 : (insOf m c).bg2 = V m c main_v74 := by
  change iblk m c 14 t0_0 = V m c main_v74
  unfold iblk
  change ((cfg0.win 14).blk t0_0).view.read (Elt Ideal) (V m c main_v74) = V m c main_v74
  generalize V m c main_v74 = X
  funext y
  blk_ext [ix_14]
theorem ix_15 : ∀ t : Fin cfg0.N, win0_15.index t = ![0, 0] := by decide
theorem blk_15 : (insOf m c).bb2 = V m c main_v75 := by
  change iblk m c 15 t0_0 = V m c main_v75
  unfold iblk
  change ((cfg0.win 15).blk t0_0).view.read (Elt Ideal) (V m c main_v75) = V m c main_v75
  generalize V m c main_v75 = X
  funext y
  blk_ext [ix_15]
theorem ix_16 : ∀ t : Fin cfg0.N, win0_16.index t = ![0, 0] := by decide
theorem blk_16 : (insOf m c).bg3 = V m c main_v76 := by
  change iblk m c 16 t0_0 = V m c main_v76
  unfold iblk
  change ((cfg0.win 16).blk t0_0).view.read (Elt Ideal) (V m c main_v76) = V m c main_v76
  generalize V m c main_v76 = X
  funext y
  blk_ext [ix_16]
theorem ix_17 : ∀ t : Fin cfg0.N, win0_17.index t = ![0, 0] := by decide
theorem blk_17 : (insOf m c).bb3 = V m c main_v77 := by
  change iblk m c 17 t0_0 = V m c main_v77
  unfold iblk
  change ((cfg0.win 17).blk t0_0).view.read (Elt Ideal) (V m c main_v77) = V m c main_v77
  generalize V m c main_v77 = X
  funext y
  blk_ext [ix_17]
theorem ix_18 : ∀ t : Fin cfg0.N, win0_18.index t = ![0, 0] := by decide
theorem blk_18 : (insOf m c).w4 = V m c main_v79 := by
  change iblk m c 18 t0_0 = V m c main_v79
  unfold iblk
  change ((cfg0.win 18).blk t0_0).view.read (Elt Ideal) (V m c main_v79) = V m c main_v79
  generalize V m c main_v79 = X
  funext y
  blk_ext [ix_18]
theorem ix_19 : ∀ t : Fin cfg0.N, win0_19.index t = ![0, 0] := by decide
theorem blk_19 : (insOf m c).b4 = V m c main_v80 := by
  change iblk m c 19 t0_0 = V m c main_v80
  unfold iblk
  change ((cfg0.win 19).blk t0_0).view.read (Elt Ideal) (V m c main_v80) = V m c main_v80
  generalize V m c main_v80 = X
  funext y
  blk_ext [ix_19]

/-- The arguments' values on a core, as reals, those that may be infinite as they are. -/
def argOf : Arg where
  x b n c' := EReal.toReal ((m ((c : Thread nD τ).loc main_arg0)) (ix3 b n c') : EReal)
  w1 k j := EReal.toReal ((m ((c : Thread nD τ).loc main_arg1)) (ix2 k j) : EReal)
  b1 k := EReal.toReal ((m ((c : Thread nD τ).loc main_arg2)) (ix1 k) : EReal)
  g1 k := EReal.toReal ((m ((c : Thread nD τ).loc main_arg3)) (ix1 k) : EReal)
  e1 k := EReal.toReal ((m ((c : Thread nD τ).loc main_arg4)) (ix1 k) : EReal)
  cw o j := EReal.toReal ((m ((c : Thread nD τ).loc main_arg5)) (ix2 o j) : EReal)
  cb o := EReal.toReal ((m ((c : Thread nD τ).loc main_arg6)) (ix1 o) : EReal)
  g2 o := EReal.toReal ((m ((c : Thread nD τ).loc main_arg7)) (ix1 o) : EReal)
  e2 o := EReal.toReal ((m ((c : Thread nD τ).loc main_arg8)) (ix1 o) : EReal)
  dw k o := EReal.toReal ((m ((c : Thread nD τ).loc main_arg9)) (ix2 k o) : EReal)
  db k := EReal.toReal ((m ((c : Thread nD τ).loc main_arg10)) (ix1 k) : EReal)
  g3 k := EReal.toReal ((m ((c : Thread nD τ).loc main_arg11)) (ix1 k) : EReal)
  e3 k := EReal.toReal ((m ((c : Thread nD τ).loc main_arg12)) (ix1 k) : EReal)
  g4 k := EReal.toReal ((m ((c : Thread nD τ).loc main_arg13)) (ix1 k) : EReal)
  e4 k := (m ((c : Thread nD τ).loc main_arg14)) (ix1 k)
  fw d k := (m ((c : Thread nD τ).loc main_arg15)) (ix2 d k)
  fb d := (m ((c : Thread nD τ).loc main_arg16)) (ix1 d)

/-- The arguments on a core are `a`. -/
def ArgsAre (a : Arg) : Prop := RefIs a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

variable {a : Arg}

theorem x_is (h : ArgsAre m c a) : XIs (insOf m c) a := fun r d => by
  rw [blk_0]; exact (v0_at m c r d).trans (h.x _ _ _)

theorem coe_one_zero_mul (p : Prop) [Decidable p] (y : ℝ) :
    ((if p then 1 else 0 : ℝ) : EReal) * ((y : ℝ) : EReal) = ((if p then y else 0 : ℝ) : EReal) := by
  by_cases hp : p
  · rw [if_pos hp, if_pos hp, ← EReal.coe_mul, one_mul]
  · rw [if_neg hp, if_neg hp, ← EReal.coe_mul, zero_mul]

theorem ins_is (h : ArgsAre m c a) : InsIs (insOf m c) a where
  fr f d := by rw [blk_1]; exact v16_at m c f d
  w1 j k := by rw [blk_2]; exact (v37_at m c j k).trans (h.w1 _ _)
  c1 j o := by rw [blk_4]; exact (v39_at m c j o).trans (h.cw _ _)
  rep r b := by rw [blk_10]; exact v48_at m c r b
  w2 x k := by rw [blk_11]; exact (v57_at m c x k).trans ((congrArg _ (h.dw _ _)).trans (coe_one_zero_mul _ _))
  axy d x := by rw [blk_12]; exact (v63_at m c d x).trans (h.cw _ _)
  c2b k := by rw [blk_13]; exact (v67_at m c k).trans (h.db _)
  w4 k d := by rw [blk_18]; exact (v79_at m c k d).trans (h.fw _ _)
  b1 k := by rw [blk_3]; exact (v68_at m c k).trans (h.b1 _)
  bg k := by rw [blk_5]; exact (v69_at m c k).trans (h.g1 _)
  bb k := by rw [blk_6]; exact (v70_at m c k).trans (h.e1 _)
  c1b k := by rw [blk_7]; exact (v71_at m c k).trans (h.cb _)
  bg1 k := by rw [blk_8]; exact (v72_at m c k).trans (h.g2 _)
  bb1 k := by rw [blk_9]; exact (v73_at m c k).trans (h.e2 _)
  bg2 k := by rw [blk_14]; exact (v74_at m c k).trans (h.g3 _)
  bb2 k := by rw [blk_15]; exact (v75_at m c k).trans (h.e3 _)
  bg3 k := by rw [blk_16]; exact (v76_at m c k).trans (h.g4 _)
  bb3 k := by rw [blk_17]; exact (v77_at m c k).trans (h.e4 _)
  b4 k := by rw [blk_19]; exact (v80_at m c k).trans (h.fb _)

end Cert.Val
-- ==== Proof.V.Pre.lean ====
/-
  The precondition at an index: what it says of each argument.
-/
module

public import proofs.«01_k».proof.Pre_tame
public import proofs.«01_k».proof.Proof.V.Coe
public import proofs.«01_k».proof.Proof.V.RStage
public import Idealize.ShloMosaic.Lib.ReduceAll
public import Idealize.ShloMosaic.Lib.Pointwise

@[expose] public section

set_option maxHeartbeats 1000000

noncomputable section

namespace Cert.Val

open Cert.Pre_tame
open Idealize.ShloMosaic

theorem tameFacts : Cert.Pre_tame.Facts := by
  constructor <;> decide

theorem andi_split {x y : IVec Cert.Pre_tame.S_ 1} {i : Cert.Pre_tame.S_.Idx} (h : andi x y i = 1#1) : x i = 1#1 ∧ y i = 1#1 := by
  have e : ∀ a b : BitVec 1, IntOp.andi a b = 1#1 → a = 1#1 ∧ b = 1#1 := by decide
  exact e _ _ h

theorem abs_lt_top {x : EReal} (h : max x (-x) < ⊤) : x = ((x.toReal : ℝ) : EReal) := by
  have h1 : x < ⊤ := lt_of_le_of_lt (le_max_left _ _) h
  have h2 : -x < ⊤ := lt_of_le_of_lt (le_max_right _ _) h
  refine (EReal.coe_toReal h1.ne ?_).symm
  rintro rfl
  exact absurd h2 (by simp)

/-- A word whose size compares below infinity is a real. -/
theorem lt_top_of {x : EReal} (h : Ideal.cmp .olt (max x (-x)) (Ideal.ofBits .f32 0x7F800000#32) = 1#1) :
    x = ((x.toReal : ℝ) : EReal) := by
  have h1 := (Ideal.cmp_olt_eq_one _ _).1 h
  rw [cTop] at h1
  exact abs_lt_top h1

/-- A word whose size compares at most 3500 is a real of at most that size. -/
theorem le_of {x : EReal} (h : Ideal.cmp .ole (max x (-x)) (Ideal.ofBits .f32 0x455AC000#32) = 1#1) :
    x = ((x.toReal : ℝ) : EReal) ∧ |x.toReal| ≤ 3500 := by
  have h1 := (Ideal.cmp_ole_eq_one _ _).1 h
  rw [c3500] at h1
  have h2 := abs_lt_top (lt_of_le_of_lt h1 (EReal.coe_lt_top _))
  refine ⟨h2, ?_⟩
  rw [h2, ← EReal.coe_neg, ← coe_max, EReal.coe_le_coe_iff] at h1
  exact h1

/-- A word that compares at least zero is at least zero. -/
theorem ge_of {x : EReal} (h : Ideal.cmp .oge x (Ideal.ofBits .f32 0x00000000#32) = 1#1) : 0 ≤ x.toReal := by
  have h1 := (Ideal.cmp_oge_eq_one _ _).1 h
  have h0 : Ideal.ofBits .f32 0x00000000#32 = 0 := by simp [Ideal.ofBits, Ideal.ieee]
  rw [h0] at h1
  exact EReal.toReal_nonneg h1

attribute [local instance] tameFacts

instance : Subsingleton Cert.Pre_tame.S_.Idx := ⟨fun a b => funext fun i => i.elim0⟩

section
variable {s : Shape} (x : FVec Ideal s .f32) {axes : List (Fin s.rank)} (hb : Cert.Pre_tame.S_.BroadcastsInDim s (![] : Fin 0 → Fin s.rank))
  (hr : s.ReducesTo axes Cert.Pre_tame.S_) (hs : 0 < Cert.Pre_tame.S_.numel) (init : IVec Cert.Pre_tame.S_ 1)

/-- All of an array below infinity in size: its elements are reals. -/
theorem all_lt (h : Host.reduce IntOp.andi (cmpf .olt (Host.absf x) (broadcastInDim s ![] hb (constant (F := Ideal) Cert.Pre_tame.S_ .f32 0x7F800000#32))) init hr hs ix0 = 1#1)
    (i : s.Idx) : x i = (((x i : EReal).toReal : ℝ) : EReal) :=
  lt_top_of (Host.reduce_andi_all _ _ hr hs ix0 h i)

/-- All of an array at most 3500 in size. -/
theorem all_le (h : Host.reduce IntOp.andi (cmpf .ole (Host.absf x) (broadcastInDim s ![] hb (constant (F := Ideal) Cert.Pre_tame.S_ .f32 0x455AC000#32))) init hr hs ix0 = 1#1)
    (i : s.Idx) : x i = (((x i : EReal).toReal : ℝ) : EReal) ∧ |(x i : EReal).toReal| ≤ 3500 :=
  le_of (Host.reduce_andi_all _ _ hr hs ix0 h i)

/-- All of an array at least zero. -/
theorem all_ge (h : Host.reduce IntOp.andi (cmpf .oge x (broadcastInDim s ![] hb (constant (F := Ideal) Cert.Pre_tame.S_ .f32 0x00000000#32))) init hr hs ix0 = 1#1)
    (i : s.Idx) : 0 ≤ (x i : EReal).toReal :=
  ge_of (Host.reduce_andi_all _ _ hr hs ix0 h i)
end

/-- What the precondition says. -/
structure Tame (x0 : FVec Ideal S8x2048x2 .f32) (x1 : FVec Ideal S60x42 .f32) (x2 x3 x4 : FVec Ideal S60 .f32) (x5 : FVec Ideal S30x122 .f32)
    (x6 x7 x8 : FVec Ideal S30 .f32) (x9 : FVec Ideal S60x30 .f32) (x10 x11 x12 x13 x14 : FVec Ideal S60 .f32) (x15 : FVec Ideal S2x60 .f32) (x16 : FVec Ideal S2 .f32) : Prop where
  r0 : ∀ i, x0 i = (((x0 i : EReal).toReal : ℝ) : EReal) ∧ |(x0 i : EReal).toReal| ≤ 3500
  n3 : ∀ i, 0 ≤ (x3 i : EReal).toReal
  r1 : ∀ i, x1 i = (((x1 i : EReal).toReal : ℝ) : EReal)
  r2 : ∀ i, x2 i = (((x2 i : EReal).toReal : ℝ) : EReal)
  r3 : ∀ i, x3 i = (((x3 i : EReal).toReal : ℝ) : EReal)
  r4 : ∀ i, x4 i = (((x4 i : EReal).toReal : ℝ) : EReal)
  r5 : ∀ i, x5 i = (((x5 i : EReal).toReal : ℝ) : EReal)
  r6 : ∀ i, x6 i = (((x6 i : EReal).toReal : ℝ) : EReal)
  r7 : ∀ i, x7 i = (((x7 i : EReal).toReal : ℝ) : EReal)
  r8 : ∀ i, x8 i = (((x8 i : EReal).toReal : ℝ) : EReal)
  r9 : ∀ i, x9 i = (((x9 i : EReal).toReal : ℝ) : EReal)
  r10 : ∀ i, x10 i = (((x10 i : EReal).toReal : ℝ) : EReal)
  r11 : ∀ i, x11 i = (((x11 i : EReal).toReal : ℝ) : EReal)
  r12 : ∀ i, x12 i = (((x12 i : EReal).toReal : ℝ) : EReal)
  r13 : ∀ i, x13 i = (((x13 i : EReal).toReal : ℝ) : EReal)

theorem tame_of {x0 : FVec Ideal S8x2048x2 .f32} {x1 : FVec Ideal S60x42 .f32} {x2 x3 x4 : FVec Ideal S60 .f32} {x5 : FVec Ideal S30x122 .f32}
    {x6 x7 x8 : FVec Ideal S30 .f32} {x9 : FVec Ideal S60x30 .f32} {x10 x11 x12 x13 x14 : FVec Ideal S60 .f32} {x15 : FVec Ideal S2x60 .f32} {x16 : FVec Ideal S2 .f32}
    (h : Cert.Pre_tame.fn (F := Ideal) x0 x1 x2 x3 x4 x5 x6 x7 x8 x9 x10 x11 x12 x13 x14 x15 x16 = fun _ => 1#1) : Tame x0 x1 x2 x3 x4 x5 x6 x7 x8 x9 x10 x11 x12 x13 x14 x15 x16 := by
  have h := congrFun h ix0
  dsimp only [Cert.Pre_tame.fn, Cert.Pre_tame.fn_part1, Cert.Pre_tame.fn_part2, Cert.Pre_tame.fn_part3, Cert.Pre_tame.fn_part4] at h
  obtain ⟨h, h13⟩ := andi_split h
  obtain ⟨h, h12⟩ := andi_split h
  obtain ⟨h, h11⟩ := andi_split h
  obtain ⟨h, h10⟩ := andi_split h
  obtain ⟨h, h9⟩ := andi_split h
  obtain ⟨h, h8⟩ := andi_split h
  obtain ⟨h, h7⟩ := andi_split h
  obtain ⟨h, h6⟩ := andi_split h
  obtain ⟨h, h5⟩ := andi_split h
  obtain ⟨h, h4⟩ := andi_split h
  obtain ⟨h, h3⟩ := andi_split h
  obtain ⟨h, h2⟩ := andi_split h
  obtain ⟨h, h1⟩ := andi_split h
  obtain ⟨h0, hn⟩ := andi_split h
  exact ⟨all_le x0 _ _ _ _ h0, all_ge x3 _ _ _ _ hn, all_lt x1 _ _ _ _ h1, all_lt x2 _ _ _ _ h2, all_lt x3 _ _ _ _ h3, all_lt x4 _ _ _ _ h4, all_lt x5 _ _ _ _ h5, all_lt x6 _ _ _ _ h6, all_lt x7 _ _ _ _ h7, all_lt x8 _ _ _ _ h8, all_lt x9 _ _ _ _ h9, all_lt x10 _ _ _ _ h10, all_lt x11 _ _ _ _ h11, all_lt x12 _ _ _ _ h12, all_lt x13 _ _ _ _ h13⟩

end Cert.Val
-- ==== Proof.V.Res.lean ====
/-
  The kernel's result: what the last two points leave in the result's buffer, written back whole.
-/
module

public import proofs.«01_k».proof.Proof.KI.Main
public import proofs.«01_k».proof.Proof.V.KFold
public import Idealize.ShloMosaic.Lib.Pipeline.ArrRel
public import Idealize.ShloMosaic.Lib.Pipeline.ValueKit

@[expose] public section

set_option maxHeartbeats 1000000

noncomputable section

namespace Cert.Val

open Finset Cert.KernelIdeal Cert.KernelIdeal.Gen Cert.KernelIdeal.Hand
open Idealize.ShloMosaic Idealize.ShloMosaic.TcCoe
open Idealize.ShloMosaic.Pipeline (RDat)

variable (m : (ℓ : Loc nD τ sig) → Buf (Elt Ideal) ℓ) (c : Dev nD) {a : Arg}

theorem fetch_20_7 : (cfg0.win 20).fetch t0_7 = false := by decide +kernel
theorem flush_20_6 : ¬ (cfg0.win 20).flush ⟨t0_7.val - 1, Nat.lt_of_le_of_lt (Nat.sub_le _ _) t0_7.isLt⟩ = true := by decide +kernel
theorem whole_20 : (cfg0.win 20).WholeAt t0_7 := by decide +kernel

/-- What the last point may leave in the result's buffer: the model's result. -/
theorem leaves_20 (h : InsIs (insOf m c) a) (hx : XIs (insOf m c) a) (hg : ∀ k, 0 ≤ a.g1 k)
    (X : Vec Ideal S16384x2 .f32) (hX : (rdat m 0 c).Leaves 20 t0_7 X) : To2 (Out eps a) 8 X := by
  obtain ⟨Y, hY, hXY⟩ := hX
  have h7 : OutStep m c 7 Y X := hXY
  obtain ⟨g, rfl⟩ := h7
  have hY' := ((RDat.finds_of_pos (rdat m 0 c) fetch_20_7 (by decide) Y).1 hY).resolve_left flush_20_6
  obtain ⟨Z, _, hZ⟩ := hY'
  have h6 : OutStep m c 6 Z Y := hZ
  obtain ⟨g', rfl⟩ := h6
  exact out2_is m c h hx hg g (out1_is m c h hx hg g' Z)

/-- The result's array at the end of the run. -/
theorem result_at (h : InsIs (insOf m c) a) (hx : XIs (insOf m c) a) (hg : ∀ k, 0 ≤ a.g1 k)
    (r : PUnit × MemSt nD τ sig (Elt Ideal)) (hr : RDat.FramePost (cfgs 0) (fun c => rdat m 0 c) (V m) r)
    (i : Fin 16384) (d : Fin 2) :
    (r.2.mem ((c : Thread nD τ).loc main_v81) : Vec Ideal S16384x2 .f32) (ix2 i d)
      = Out eps a ⟨i.val / 2048, by omega⟩ ⟨i.val % 2048, Nat.mod_lt _ (by decide)⟩ d := by
  have hA := (hr c).1 20
  obtain ⟨X, hX, e⟩ := RDat.ArrAt.emb_eq_of_wholeAt hA whole_20
  have e1 := e (ix2 i d)
  have e2 := leaves_20 m c h hx hg X hX i d (by omega)
  refine Eq.trans ?_ (Eq.trans e1 (Eq.trans ?_ e2))
  · blk_simp
    rfl
  · blk_simp
    rfl

end Cert.Val
-- ==== Proof.V.REmb2.lean ====
/-
  The features of the plain program, joined.
-/
module

public import proofs.«01_k».proof.Proof.V.REmb

@[expose] public section

set_option maxHeartbeats 1000000

noncomputable section

namespace Cert.Val

open Finset Cert.ReferenceIdeal Cert.ReferenceIdeal.Gen Cert.ReferenceIdeal.Read
open Idealize.ShloMosaic

variable {x0 : FVec Ideal S8x2048x2 .f32} {a : Arg}

/-- Pairs of columns joined: column `j` is column `j % 2` of piece `j / 2`. -/
theorem cat_pairs {W : ℕ} (fs : List (S8x2048x2.Idx → EReal))
    (xs : List ((s : Shape) × (s.Idx → EReal))) (hxs : xs = fs.map fun f => ⟨S8x2048x2, f⟩)
    (h : Shape.Concatenates (xs.map (·.1)) (⟨3, ![8, 2048, W]⟩) 2) (b : Fin 8) (n : Fin 2048) (j : Fin W)
    (hW : W = 2 * fs.length) (v : EReal)
    (hv : ∀ k (hk : k < fs.length) (c : Fin 2), j.val = 2 * k + c.val → fs[k] (ix3 b n c) = v) :
    concatenate (⟨3, ![8, 2048, W]⟩) 2 xs h (ix3 b n j) = v := by
  subst hxs
  have hj := j.isLt
  have hk : j.val / 2 < fs.length := by omega
  have hpre : ((((fs.map fun f => (⟨S8x2048x2, f⟩ : (s : Shape) × (s.Idx → EReal))).take (j.val / 2)).map (·.1)).map fun s =>
      if h : s.rank = (⟨3, ![8, 2048, W]⟩ : Shape).rank then s.size ((2 : Fin (⟨3, ![8, 2048, W]⟩ : Shape).rank).cast h.symm) else 0).sum = 2 * (j.val / 2) := by
    rw [← List.map_take, List.map_map, List.map_map]
    have : ∀ l : List (S8x2048x2.Idx → EReal), (l.map (((fun s : Shape =>
      if h : s.rank = (⟨3, ![8, 2048, W]⟩ : Shape).rank then s.size ((2 : Fin (⟨3, ![8, 2048, W]⟩ : Shape).rank).cast h.symm) else 0) ∘ (·.1)) ∘
        fun f => (⟨S8x2048x2, f⟩ : (s : Shape) × (s.Idx → EReal)))).sum = 2 * l.length := by
      intro l
      induction l with
      | nil => rfl
      | cons f l ih =>
        rw [List.map_cons, List.sum_cons, ih, List.length_cons]
        show 2 + _ = _
        omega
    rw [this, List.length_take]
    omega
  rw [concatenate_apply_piece (t := ⟨3, ![8, 2048, W]⟩) 2 _ h (ix3 b n j) (j.val / 2) (by simpa using hk) S8x2048x2 fs[j.val / 2] (by simp) rfl
    (2 * (j.val / 2)) hpre (ix3 b n ⟨j.val % 2, Nat.mod_lt _ (by decide)⟩) ?_ ?_]
  · exact hv _ hk _ (by dsimp only; omega)
  · intro i hi
    match i, hi with
    | 0, _ => rfl
    | 1, _ => rfl
    | 2, hi => exact absurd rfl hi
  · show 2 * (j.val / 2) + j.val % 2 = j.val
    omega

theorem v103_is (hx : ∀ b n c, x0 (ix3 b n c) = ((a.x b n c : ℝ) : EReal)) (b : Fin 8) (n : Fin 2048) (j : Fin 32) :
    val_main_v103 (F := Ideal) x0 (ix3 b n j) = ((emb a b n ⟨0 + j.val, by omega⟩ : ℝ) : EReal) := by
  have h7 := piece7 hx
  have h12 := piece12 hx
  have h17 := piece17 hx
  have h22 := piece22 hx
  have h27 := piece27 hx
  have h32 := piece32 hx
  have h37 := piece37 hx
  have h42 := piece42 hx
  have h47 := piece47 hx
  have h52 := piece52 hx
  have h57 := piece57 hx
  have h62 := piece62 hx
  have h67 := piece67 hx
  have h72 := piece72 hx
  have h77 := piece77 hx
  unfold val_main_v103
  refine cat_pairs (W := 32) [x0, val_main_v7 (F := Ideal) x0, val_main_v12 (F := Ideal) x0, val_main_v17 (F := Ideal) x0, val_main_v22 (F := Ideal) x0, val_main_v27 (F := Ideal) x0, val_main_v32 (F := Ideal) x0, val_main_v37 (F := Ideal) x0, val_main_v42 (F := Ideal) x0, val_main_v47 (F := Ideal) x0, val_main_v52 (F := Ideal) x0, val_main_v57 (F := Ideal) x0, val_main_v62 (F := Ideal) x0, val_main_v67 (F := Ideal) x0, val_main_v72 (F := Ideal) x0, val_main_v77 (F := Ideal) x0] _ rfl _ b n j rfl _ ?_
  generalize val_main_v7 (F := Ideal) x0 = w7 at h7 ⊢
  generalize val_main_v12 (F := Ideal) x0 = w12 at h12 ⊢
  generalize val_main_v17 (F := Ideal) x0 = w17 at h17 ⊢
  generalize val_main_v22 (F := Ideal) x0 = w22 at h22 ⊢
  generalize val_main_v27 (F := Ideal) x0 = w27 at h27 ⊢
  generalize val_main_v32 (F := Ideal) x0 = w32 at h32 ⊢
  generalize val_main_v37 (F := Ideal) x0 = w37 at h37 ⊢
  generalize val_main_v42 (F := Ideal) x0 = w42 at h42 ⊢
  generalize val_main_v47 (F := Ideal) x0 = w47 at h47 ⊢
  generalize val_main_v52 (F := Ideal) x0 = w52 at h52 ⊢
  generalize val_main_v57 (F := Ideal) x0 = w57 at h57 ⊢
  generalize val_main_v62 (F := Ideal) x0 = w62 at h62 ⊢
  generalize val_main_v67 (F := Ideal) x0 = w67 at h67 ⊢
  generalize val_main_v72 (F := Ideal) x0 = w72 at h72 ⊢
  generalize val_main_v77 (F := Ideal) x0 = w77 at h77 ⊢
  intro k hk c hj
  change k < 16 at hk
  interval_cases k
  · exact (hx _ _ _).trans (congrArg (fun r : ℝ => (r : EReal)) (emb_lo b n _ _ (by dsimp only; omega)))
  · exact (h7 _ _ _).trans (congrArg (fun r : ℝ => (r : EReal)) (emb_sin b n _ 0 _ (by dsimp only; omega)))
  · exact (h12 _ _ _).trans (congrArg (fun r : ℝ => (r : EReal)) (emb_cos b n _ 0 _ (by dsimp only; omega)))
  · exact (h17 _ _ _).trans (congrArg (fun r : ℝ => (r : EReal)) (emb_sin b n _ 1 _ (by dsimp only; omega)))
  · exact (h22 _ _ _).trans (congrArg (fun r : ℝ => (r : EReal)) (emb_cos b n _ 1 _ (by dsimp only; omega)))
  · exact (h27 _ _ _).trans (congrArg (fun r : ℝ => (r : EReal)) (emb_sin b n _ 2 _ (by dsimp only; omega)))
  · exact (h32 _ _ _).trans (congrArg (fun r : ℝ => (r : EReal)) (emb_cos b n _ 2 _ (by dsimp only; omega)))
  · exact (h37 _ _ _).trans (congrArg (fun r : ℝ => (r : EReal)) (emb_sin b n _ 3 _ (by dsimp only; omega)))
  · exact (h42 _ _ _).trans (congrArg (fun r : ℝ => (r : EReal)) (emb_cos b n _ 3 _ (by dsimp only; omega)))
  · exact (h47 _ _ _).trans (congrArg (fun r : ℝ => (r : EReal)) (emb_sin b n _ 4 _ (by dsimp only; omega)))
  · exact (h52 _ _ _).trans (congrArg (fun r : ℝ => (r : EReal)) (emb_cos b n _ 4 _ (by dsimp only; omega)))
  · exact (h57 _ _ _).trans (congrArg (fun r : ℝ => (r : EReal)) (emb_sin b n _ 5 _ (by dsimp only; omega)))
  · exact (h62 _ _ _).trans (congrArg (fun r : ℝ => (r : EReal)) (emb_cos b n _ 5 _ (by dsimp only; omega)))
  · exact (h67 _ _ _).trans (congrArg (fun r : ℝ => (r : EReal)) (emb_sin b n _ 6 _ (by dsimp only; omega)))
  · exact (h72 _ _ _).trans (congrArg (fun r : ℝ => (r : EReal)) (emb_cos b n _ 6 _ (by dsimp only; omega)))
  · exact (h77 _ _ _).trans (congrArg (fun r : ℝ => (r : EReal)) (emb_sin b n _ 7 _ (by dsimp only; omega)))

theorem v104_is (hx : ∀ b n c, x0 (ix3 b n c) = ((a.x b n c : ℝ) : EReal)) (b : Fin 8) (n : Fin 2048) (j : Fin 10) :
    val_main_v104 (F := Ideal) x0 (ix3 b n j) = ((emb a b n ⟨32 + j.val, by omega⟩ : ℝ) : EReal) := by
  have h82 := piece82 hx
  have h87 := piece87 hx
  have h92 := piece92 hx
  have h97 := piece97 hx
  have h102 := piece102 hx
  unfold val_main_v104
  refine cat_pairs (W := 10) [val_main_v82 (F := Ideal) x0, val_main_v87 (F := Ideal) x0, val_main_v92 (F := Ideal) x0, val_main_v97 (F := Ideal) x0, val_main_v102 (F := Ideal) x0] _ rfl _ b n j rfl _ ?_
  generalize val_main_v82 (F := Ideal) x0 = w82 at h82 ⊢
  generalize val_main_v87 (F := Ideal) x0 = w87 at h87 ⊢
  generalize val_main_v92 (F := Ideal) x0 = w92 at h92 ⊢
  generalize val_main_v97 (F := Ideal) x0 = w97 at h97 ⊢
  generalize val_main_v102 (F := Ideal) x0 = w102 at h102 ⊢
  intro k hk c hj
  change k < 5 at hk
  interval_cases k
  · exact (h82 _ _ _).trans (congrArg (fun r : ℝ => (r : EReal)) (emb_cos b n _ 7 _ (by dsimp only; omega)))
  · exact (h87 _ _ _).trans (congrArg (fun r : ℝ => (r : EReal)) (emb_sin b n _ 8 _ (by dsimp only; omega)))
  · exact (h92 _ _ _).trans (congrArg (fun r : ℝ => (r : EReal)) (emb_cos b n _ 8 _ (by dsimp only; omega)))
  · exact (h97 _ _ _).trans (congrArg (fun r : ℝ => (r : EReal)) (emb_sin b n _ 9 _ (by dsimp only; omega)))
  · exact (h102 _ _ _).trans (congrArg (fun r : ℝ => (r : EReal)) (emb_cos b n _ 9 _ (by dsimp only; omega)))

/-- The features. -/
theorem v105_is (hx : ∀ b n c, x0 (ix3 b n c) = ((a.x b n c : ℝ) : EReal)) (b : Fin 8) (n : Fin 2048) (j : Fin 42) :
    val_main_v105 (F := Ideal) x0 (ix3 b n j) = ((emb a b n j : ℝ) : EReal) := by
  have h1 := v103_is hx b n
  have h2 := v104_is hx b n
  unfold val_main_v105
  generalize val_main_v103 (F := Ideal) x0 = w1 at h1 ⊢
  generalize val_main_v104 (F := Ideal) x0 = w2 at h2 ⊢
  pointwise
  split_ifs
  · rw [h1]
    exact congrArg (fun i : Fin 42 => ((emb a b n i : ℝ) : EReal)) (Fin.ext (by dsimp only; omega))
  · rw [h2]
    exact congrArg (fun i : Fin 42 => ((emb a b n i : ℝ) : EReal)) (Fin.ext (by dsimp only; omega))
  · rename_i hn; exact absurd rfl hn

end Cert.Val
-- ==== Proof.V.RStat.lean ====
/-
  The plain program's means and variances.
-/
module

public import proofs.«01_k».proof.Proof.V.RSum
public import proofs.«01_k».proof.Proof.Gen.ReferenceIdeal.Read

@[expose] public section

set_option maxHeartbeats 1000000

noncomputable section

namespace Cert.Val

open Finset Cert.ReferenceIdeal Cert.ReferenceIdeal.Gen Cert.ReferenceIdeal.Read
open Idealize.ShloMosaic

variable (x0 : FVec Ideal S8x2048x2 .f32) (x1 : FVec Ideal S60x42 .f32) (x2 x3 x4 : FVec Ideal S60 .f32) (x5 : FVec Ideal S30x122 .f32)
  (x6 x7 x8 : FVec Ideal S30 .f32) (x9 : FVec Ideal S60x30 .f32) (x10 x11 x12 x13 x14 : FVec Ideal S60 .f32) (x15 : FVec Ideal S2x60 .f32) (x16 : FVec Ideal S2 .f32)

/-- The mean, -/
theorem mean_a (f : Fin 60 → Fin 8 × Fin 2048 → ℝ) (hE : ∀ (b : Fin 8) (n : Fin 2048) (k : Fin 60), val_main_v112 (F := Ideal) x0 x1 x2 (ix3 b k n) = ((f k (b, n) : ℝ) : EReal)) (k : Fin 60) :
    val_main_v116 (F := Ideal) x0 x1 x2 (ix3 0 k 0) = ((mean 16384 (f k) : ℝ) : EReal) := by
  have hE' : ∀ p : Fin 8 × Fin 2048, val_main_v112 (F := Ideal) x0 x1 x2 (ix3 p.1 k p.2) = ((f k p : ℝ) : EReal) := fun p => hE p.1 p.2 k
  unfold val_main_v116 val_main_v114 val_main_v113
  generalize val_main_v112 (F := Ideal) x0 x1 x2 = w at hE'
  pointwise [val_main_v115, val_main_cst_0, val_main_cst_1]
  rw [rsum60, c16384]
  simp only [hE', ← coe_sum, zero_add]
  rw [div_real _ _ (by norm_num)]
  rfl

/-- the variance, -/
theorem var_a (f : Fin 60 → Fin 8 × Fin 2048 → ℝ) (hE : ∀ (b : Fin 8) (n : Fin 2048) (k : Fin 60), val_main_v112 (F := Ideal) x0 x1 x2 (ix3 b k n) = ((f k (b, n) : ℝ) : EReal)) (k : Fin 60) :
    val_main_v117 (F := Ideal) x0 x1 x2 (ix3 0 k 0) = ((var 16384 (f k) : ℝ) : EReal) := by
  have hE' : ∀ p : Fin 8 × Fin 2048, val_main_v112 (F := Ideal) x0 x1 x2 (ix3 p.1 k p.2) = ((f k p : ℝ) : EReal) := fun p => hE p.1 p.2 k
  unfold val_main_v117 val_main_call1_v12 val_main_call1_v10 val_main_call1_v9 val_main_call1_v6 val_main_call1_v5 val_main_call1_v4 val_main_call1_v3 val_main_call1_v1 val_main_call1_v0
  generalize val_main_v112 (F := Ideal) x0 x1 x2 = w at hE'
  pointwise [val_main_call1_cst, val_main_call1_cst_0, val_main_call1_v2, val_main_call1_v7, val_main_call1_cst_1, val_main_call1_v8, val_main_call1_cst_2, val_main_call1_v11, val_main_call1_v13, val_main_call1_cst_3, val_main_call1_cst_4, val_main_call1_call0_v0, val_main_call1_call0_v1, val_main_c]
  rw [rsum60, c16384, count_eq, if_pos (by exact_mod_cast (by norm_num : (0 : ℝ) < 16384))]
  pointwise
  simp only [rsum60, c16384, hE', ← coe_sum, zero_add, div_real _ _ (show (16384 : ℝ) ≠ 0 by norm_num), ← EReal.coe_sub, ← EReal.coe_mul]
  rfl

/-- The mean, -/
theorem mean_b (f : Fin 30 → Fin 8 × Fin 4 × Fin 2048 → ℝ) (hE : ∀ (b : Fin 8) (s : Fin 4) (n : Fin 2048) (k : Fin 30), val_main_v185 (F := Ideal) x0 x1 x2 x3 x4 x5 x6 (ix4 b k s n) = ((f k (b, s, n) : ℝ) : EReal)) (k : Fin 30) :
    val_main_v189 (F := Ideal) x0 x1 x2 x3 x4 x5 x6 (ix4 0 k 0 0) = ((mean 65536 (f k) : ℝ) : EReal) := by
  have hE' : ∀ p : Fin 8 × Fin 4 × Fin 2048, val_main_v185 (F := Ideal) x0 x1 x2 x3 x4 x5 x6 (ix4 p.1 k p.2.1 p.2.2) = ((f k p : ℝ) : EReal) := fun p => hE p.1 p.2.1 p.2.2 k
  unfold val_main_v189 val_main_v187 val_main_v186
  generalize val_main_v185 (F := Ideal) x0 x1 x2 x3 x4 x5 x6 = w at hE'
  pointwise [val_main_v188, val_main_cst_14, val_main_cst_15]
  rw [rsum4_30, c65536]
  simp only [hE', ← coe_sum, zero_add]
  rw [div_real _ _ (by norm_num)]
  rfl

/-- the variance, -/
theorem var_b (f : Fin 30 → Fin 8 × Fin 4 × Fin 2048 → ℝ) (hE : ∀ (b : Fin 8) (s : Fin 4) (n : Fin 2048) (k : Fin 30), val_main_v185 (F := Ideal) x0 x1 x2 x3 x4 x5 x6 (ix4 b k s n) = ((f k (b, s, n) : ℝ) : EReal)) (k : Fin 30) :
    val_main_v190 (F := Ideal) x0 x1 x2 x3 x4 x5 x6 (ix4 0 k 0 0) = ((var 65536 (f k) : ℝ) : EReal) := by
  have hE' : ∀ p : Fin 8 × Fin 4 × Fin 2048, val_main_v185 (F := Ideal) x0 x1 x2 x3 x4 x5 x6 (ix4 p.1 k p.2.1 p.2.2) = ((f k p : ℝ) : EReal) := fun p => hE p.1 p.2.1 p.2.2 k
  unfold val_main_v190 val_main_call6_v12 val_main_call6_v10 val_main_call6_v9 val_main_call6_v6 val_main_call6_v5 val_main_call6_v4 val_main_call6_v3 val_main_call6_v1 val_main_call6_v0
  generalize val_main_v185 (F := Ideal) x0 x1 x2 x3 x4 x5 x6 = w at hE'
  pointwise [val_main_call6_cst, val_main_call6_cst_0, val_main_call6_v2, val_main_call6_v7, val_main_call6_cst_1, val_main_call6_v8, val_main_call6_cst_2, val_main_call6_v11, val_main_call6_v13, val_main_call6_cst_3, val_main_call6_cst_4, val_main_call6_call0_v0, val_main_call6_call0_v1, val_main_c_16]
  rw [rsum4_30, c65536, count_eq, if_pos (by exact_mod_cast (by norm_num : (0 : ℝ) < 65536))]
  pointwise
  simp only [rsum4_30, c65536, hE', ← coe_sum, zero_add, div_real _ _ (show (65536 : ℝ) ≠ 0 by norm_num), ← EReal.coe_sub, ← EReal.coe_mul]
  rfl

/-- The mean, -/
theorem mean_c (f : Fin 60 → Fin 8 × Fin 4 × Fin 2048 → ℝ) (hE : ∀ (b : Fin 8) (s : Fin 4) (n : Fin 2048) (k : Fin 60), val_main_v209 (F := Ideal) x0 x1 x2 x3 x4 x5 x6 x7 x8 x9 x10 (ix4 b k s n) = ((f k (b, s, n) : ℝ) : EReal)) (k : Fin 60) :
    val_main_v213 (F := Ideal) x0 x1 x2 x3 x4 x5 x6 x7 x8 x9 x10 (ix4 0 k 0 0) = ((mean 65536 (f k) : ℝ) : EReal) := by
  have hE' : ∀ p : Fin 8 × Fin 4 × Fin 2048, val_main_v209 (F := Ideal) x0 x1 x2 x3 x4 x5 x6 x7 x8 x9 x10 (ix4 p.1 k p.2.1 p.2.2) = ((f k p : ℝ) : EReal) := fun p => hE p.1 p.2.1 p.2.2 k
  unfold val_main_v213 val_main_v211 val_main_v210
  generalize val_main_v209 (F := Ideal) x0 x1 x2 x3 x4 x5 x6 x7 x8 x9 x10 = w at hE'
  pointwise [val_main_v212, val_main_cst_18, val_main_cst_19]
  rw [rsum4_60, c65536]
  simp only [hE', ← coe_sum, zero_add]
  rw [div_real _ _ (by norm_num)]
  rfl

/-- the variance, -/
theorem var_c (f : Fin 60 → Fin 8 × Fin 4 × Fin 2048 → ℝ) (hE : ∀ (b : Fin 8) (s : Fin 4) (n : Fin 2048) (k : Fin 60), val_main_v209 (F := Ideal) x0 x1 x2 x3 x4 x5 x6 x7 x8 x9 x10 (ix4 b k s n) = ((f k (b, s, n) : ℝ) : EReal)) (k : Fin 60) :
    val_main_v214 (F := Ideal) x0 x1 x2 x3 x4 x5 x6 x7 x8 x9 x10 (ix4 0 k 0 0) = ((var 65536 (f k) : ℝ) : EReal) := by
  have hE' : ∀ p : Fin 8 × Fin 4 × Fin 2048, val_main_v209 (F := Ideal) x0 x1 x2 x3 x4 x5 x6 x7 x8 x9 x10 (ix4 p.1 k p.2.1 p.2.2) = ((f k p : ℝ) : EReal) := fun p => hE p.1 p.2.1 p.2.2 k
  unfold val_main_v214 val_main_call8_v12 val_main_call8_v10 val_main_call8_v9 val_main_call8_v6 val_main_call8_v5 val_main_call8_v4 val_main_call8_v3 val_main_call8_v1 val_main_call8_v0
  generalize val_main_v209 (F := Ideal) x0 x1 x2 x3 x4 x5 x6 x7 x8 x9 x10 = w at hE'
  pointwise [val_main_call8_cst, val_main_call8_cst_0, val_main_call8_v2, val_main_call8_v7, val_main_call8_cst_1, val_main_call8_v8, val_main_call8_cst_2, val_main_call8_v11, val_main_call8_v13, val_main_call8_cst_3, val_main_call8_cst_4, val_main_call8_call0_v0, val_main_call8_call0_v1, val_main_c_20]
  rw [rsum4_60, c65536, count_eq, if_pos (by exact_mod_cast (by norm_num : (0 : ℝ) < 65536))]
  pointwise
  simp only [rsum4_60, c65536, hE', ← coe_sum, zero_add, div_real _ _ (show (65536 : ℝ) ≠ 0 by norm_num), ← EReal.coe_sub, ← EReal.coe_mul]
  rfl

/-- The mean, -/
theorem mean_d (f : Fin 60 → Fin 8 × Fin 2048 → ℝ) (hE : ∀ (b : Fin 8) (n : Fin 2048) (k : Fin 60), val_main_v229 (F := Ideal) x0 x1 x2 x3 x4 x5 x6 x7 x8 x9 x10 x11 x12 (ix3 b k n) = ((f k (b, n) : ℝ) : EReal)) (k : Fin 60) :
    val_main_v233 (F := Ideal) x0 x1 x2 x3 x4 x5 x6 x7 x8 x9 x10 x11 x12 (ix3 0 k 0) = ((mean 16384 (f k) : ℝ) : EReal) := by
  have hE' : ∀ p : Fin 8 × Fin 2048, val_main_v229 (F := Ideal) x0 x1 x2 x3 x4 x5 x6 x7 x8 x9 x10 x11 x12 (ix3 p.1 k p.2) = ((f k p : ℝ) : EReal) := fun p => hE p.1 p.2 k
  unfold val_main_v233 val_main_v231 val_main_v230
  generalize val_main_v229 (F := Ideal) x0 x1 x2 x3 x4 x5 x6 x7 x8 x9 x10 x11 x12 = w at hE'
  pointwise [val_main_v232, val_main_cst_23, val_main_cst_24]
  rw [rsum60, c16384]
  simp only [hE', ← coe_sum, zero_add]
  rw [div_real _ _ (by norm_num)]
  rfl

end Cert.Val
-- ==== Proof.V.RStat2.lean ====
/-
  The plain program's last variance.
-/
module

public import proofs.«01_k».proof.Proof.V.RStat
public import proofs.«01_k».proof.Proof.Gen.ReferenceIdeal.Read

@[expose] public section

set_option maxHeartbeats 1000000

noncomputable section

namespace Cert.Val

open Finset Cert.ReferenceIdeal Cert.ReferenceIdeal.Gen Cert.ReferenceIdeal.Read
open Idealize.ShloMosaic

/-- The variance of any such array, as the program computes it. -/
theorem var_d_core (f : Fin 60 → Fin 8 × Fin 2048 → ℝ) (w : FVec Ideal S8x60x2048 .f32)
    (hE' : ∀ p : Fin 8 × Fin 2048, ∀ k, w (ix3 p.1 k p.2) = ((f k p : ℝ) : EReal)) (k : Fin 60) :
    select (broadcastInDim S1x60x1 ![] bcast_S_S1x60x1 (val_main_call10_v13 (F := Ideal)))
      (Host.divf (broadcastInDim S1x60x1 ![1] bcast_S60_S1x60x1_1 (Host.reduceAdd (mulf
          (subf w (broadcastInDim S8x60x2048 ![0, 1, 2] bcast_S1x60x1_S8x60x2048_0_1_2 (Host.divf (broadcastInDim S1x60x1 ![1] bcast_S60_S1x60x1_1
            (Host.reduceAdd w (val_main_call10_cst (F := Ideal)) reducesTo_S8x60x2048_S60_d0_2 h_S_)) (val_main_call10_v2 (F := Ideal)))))
          (subf w (broadcastInDim S8x60x2048 ![0, 1, 2] bcast_S1x60x1_S8x60x2048_0_1_2 (Host.divf (broadcastInDim S1x60x1 ![1] bcast_S60_S1x60x1_1
            (Host.reduceAdd w (val_main_call10_cst (F := Ideal)) reducesTo_S8x60x2048_S60_d0_2 h_S_)) (val_main_call10_v2 (F := Ideal))))))
          (val_main_call10_cst_2 (F := Ideal)) reducesTo_S8x60x2048_S60_d0_2 h_S_)) (val_main_call10_v11 (F := Ideal))) (val_main_call10_call0_v1 (F := Ideal)) (ix3 0 k 0)
      = ((var 16384 (f k) : ℝ) : EReal) := by
  pointwise [val_main_call10_cst, val_main_call10_cst_0, val_main_call10_v2, val_main_call10_v7, val_main_call10_cst_1, val_main_call10_v8, val_main_call10_cst_2, val_main_call10_v11, val_main_call10_v13, val_main_call10_cst_3, val_main_call10_cst_4, val_main_call10_call0_v0, val_main_call10_call0_v1, val_main_c_25]
  rw [rsum60, c16384, count_eq, if_pos (by exact_mod_cast (by norm_num : (0 : ℝ) < 16384))]
  pointwise
  simp only [rsum60, c16384, hE', ← coe_sum, zero_add, div_real _ _ (show (16384 : ℝ) ≠ 0 by norm_num), ← EReal.coe_sub, ← EReal.coe_mul]
  rfl

variable (x0 : FVec Ideal S8x2048x2 .f32) (x1 : FVec Ideal S60x42 .f32) (x2 x3 x4 : FVec Ideal S60 .f32) (x5 : FVec Ideal S30x122 .f32)
  (x6 x7 x8 : FVec Ideal S30 .f32) (x9 : FVec Ideal S60x30 .f32) (x10 x11 x12 x13 x14 : FVec Ideal S60 .f32) (x15 : FVec Ideal S2x60 .f32) (x16 : FVec Ideal S2 .f32)

/-- the variance, -/
theorem var_d (f : Fin 60 → Fin 8 × Fin 2048 → ℝ) (hE : ∀ (b : Fin 8) (n : Fin 2048) (k : Fin 60), val_main_v229 (F := Ideal) x0 x1 x2 x3 x4 x5 x6 x7 x8 x9 x10 x11 x12 (ix3 b k n) = ((f k (b, n) : ℝ) : EReal)) (k : Fin 60) :
    val_main_v234 (F := Ideal) x0 x1 x2 x3 x4 x5 x6 x7 x8 x9 x10 x11 x12 (ix3 0 k 0) = ((var 16384 (f k) : ℝ) : EReal) := by
  unfold val_main_v234 val_main_call10_v12 val_main_call10_v10 val_main_call10_v9 val_main_call10_v6 val_main_call10_v5 val_main_call10_v4 val_main_call10_v3 val_main_call10_v1 val_main_call10_v0
  exact var_d_core f _ (fun p k => hE p.1 p.2 k) k

end Cert.Val
-- ==== Proof.V.RAll.lean ====
/-
  The plain program's result, stage by stage.
-/
module

public import proofs.«01_k».proof.Proof.V.REmb2
public import proofs.«01_k».proof.Proof.V.RStat
public import proofs.«01_k».proof.Proof.V.RStat2

@[expose] public section

set_option maxHeartbeats 1000000

noncomputable section

namespace Cert.Val

open Finset Cert.ReferenceIdeal Cert.ReferenceIdeal.Gen Cert.ReferenceIdeal.Read
open Idealize.ShloMosaic

variable {x0 : FVec Ideal S8x2048x2 .f32} {x1 : FVec Ideal S60x42 .f32} {x2 x3 x4 : FVec Ideal S60 .f32} {x5 : FVec Ideal S30x122 .f32}
  {x6 x7 x8 : FVec Ideal S30 .f32} {x9 : FVec Ideal S60x30 .f32} {x10 x11 x12 x13 x14 : FVec Ideal S60 .f32} {x15 : FVec Ideal S2x60 .f32} {x16 : FVec Ideal S2 .f32} {a : Arg}

/-- The first layer, normalised. -/
theorem v132_is (h : RefIs a x0 x1 x2 x3 x4 x5 x6 x7 x8 x9 x10 x11 x12 x13 x14 x15 x16) (b : Fin 8) (n : Fin 2048) (k : Fin 60) :
    val_main_v132 (F := Ideal) x0 x1 x2 x3 x4 (ix3 b n k) = ((A1 eps a b n k : ℝ) : EReal) := by
  have hE := t_is h.w1 h.b1 (v105_is h.x)
  have hT : ∀ b n k, val_main_v112 (F := Ideal) x0 x1 x2 (ix3 b k n) = ((Tf a k (b, n) : ℝ) : EReal) := fun b n k => (t112 b n k).trans (hE b n k)
  exact bn_a hE (mean_a x0 x1 x2 (Tf a) hT) (var_a x0 x1 x2 (Tf a) hT) h.g1 h.e1 b n k

/-- The first convolution. -/
theorem v185_is (h : RefIs a x0 x1 x2 x3 x4 x5 x6 x7 x8 x9 x10 x11 x12 x13 x14 x15 x16) (hb : ∀ b n c, |a.x b n c| ≤ 3500)
    (b : Fin 8) (s : Fin 4) (n : Fin 2048) (o : Fin 30) :
    val_main_v185 (F := Ideal) x0 x1 x2 x3 x4 x5 x6 (ix4 b o s n) = ((C1f eps a o (b, s, n) : ℝ) : EReal) := by
  have h136 := v136_is (v132_is h)
  have h161 := v161_is (v156_is (v155_is h.x hb))
  have h168 : ∀ b n s c, val_main_v168 (F := Ideal) x0 (ix4 b n s c) = x0 (ix3 b (pt s) c) := v168_is fun b n s => (v166_is h161 b n s).1
  have h178 := v178_is (x1 := x1) (x2 := x2) (x3 := x3) (x4 := x4) fun b n s => (v166_is h161 b n s).2
  exact c1_is h.x h.cw h.cb h168 (fun b n s j => (h178 b n s j).trans (h136 b (pt s) j)) b s n o

/-- The first convolution normalised, and the second. -/
theorem v209_is (h : RefIs a x0 x1 x2 x3 x4 x5 x6 x7 x8 x9 x10 x11 x12 x13 x14 x15 x16) (hb : ∀ b n c, |a.x b n c| ≤ 3500)
    (b : Fin 8) (s : Fin 4) (n : Fin 2048) (k : Fin 60) :
    val_main_v209 (F := Ideal) x0 x1 x2 x3 x4 x5 x6 x7 x8 x9 x10 (ix4 b k s n) = ((H2f eps a k (b, s, n) : ℝ) : EReal) := by
  have hE := v185_is h hb
  have h204 := bn_b hE (mean_b x0 x1 x2 x3 x4 x5 x6 (C1f eps a) hE) (var_b x0 x1 x2 x3 x4 x5 x6 (C1f eps a) hE) h.g2 h.e2
  exact h2_is h.dw h.db h204 b s n k

/-- The largest value over the four points. -/
theorem v229_is (h : RefIs a x0 x1 x2 x3 x4 x5 x6 x7 x8 x9 x10 x11 x12 x13 x14 x15 x16) (hb : ∀ b n c, |a.x b n c| ≤ 3500)
    (b : Fin 8) (n : Fin 2048) (k : Fin 60) :
    val_main_v229 (F := Ideal) x0 x1 x2 x3 x4 x5 x6 x7 x8 x9 x10 x11 x12 (ix3 b k n) = ((NPf eps a k (b, n) : ℝ) : EReal) := by
  have hE := v209_is h hb
  have h228 := bn_c hE (mean_c x0 x1 x2 x3 x4 x5 x6 x7 x8 x9 x10 (H2f eps a) hE) (var_c x0 x1 x2 x3 x4 x5 x6 x7 x8 x9 x10 (H2f eps a) hE) h.g3 h.e3
  exact np_is h228 b n k

/-- The result. -/
theorem ref_is (h : RefIs a x0 x1 x2 x3 x4 x5 x6 x7 x8 x9 x10 x11 x12 x13 x14 x15 x16) (hb : ∀ b n c, |a.x b n c| ≤ 3500) (r : Fin 16384) (c : Fin 2) :
    val_main_v255 (F := Ideal) x0 x1 x2 x3 x4 x5 x6 x7 x8 x9 x10 x11 x12 x13 x14 x15 x16 (ix2 r c)
      = Out eps a ⟨r.val / 2048, by omega⟩ ⟨r.val % 2048, Nat.mod_lt _ (by decide)⟩ c := by
  have hE := v229_is h hb
  have h249 := bn_d hE (mean_d x0 x1 x2 x3 x4 x5 x6 x7 x8 x9 x10 x11 x12 (NPf eps a) hE) (var_d x0 x1 x2 x3 x4 x5 x6 x7 x8 x9 x10 x11 x12 (NPf eps a) hE) h.g4 h.e4
  exact out_is h.fw h.fb h249 r c

end Cert.Val
-- ==== Proof.V.Alg.lean ====
/-
  The two results at the model: the kernel's and the plain program's arrays are the same array.
-/
module

public import proofs.«01_k».proof.Defs
public import proofs.«01_k».proof.Proof.V.Ins
public import proofs.«01_k».proof.Proof.V.Pre
public import proofs.«01_k».proof.Proof.V.Res
public import proofs.«01_k».proof.Proof.V.RAll
public import proofs.«01_k».proof.Proof.Gen.ReferenceIdeal.Run
public import proofs.«01_k».proof.Proof.Gen.ReferenceIdeal.Read

@[expose] public section

set_option maxHeartbeats 1000000

noncomputable section

namespace Cert.Val

open Idealize.ShloMosaic Idealize.ShloMosaic.TcCoe Idealize.SL.Sem Idealize.ShloMosaic.StableHlo

/-- The model's result as an array. -/
def outArr (a : Arg) : Vec Ideal Cert.KernelIdeal.S16384x2 .f32 := fun i =>
  Out eps a ⟨(i 0).val / 2048, by have := (i 0).isLt; change (i 0).val < 16384 at this; omega⟩ ⟨(i 0).val % 2048, Nat.mod_lt _ (by decide)⟩ (i 1)

theorem outArr_ext {a : Arg} {f : Vec Ideal Cert.KernelIdeal.S16384x2 .f32}
    (h : ∀ (r : Fin 16384) (d : Fin 2), f (ix2 r d) = Out eps a ⟨r.val / 2048, by omega⟩ ⟨r.val % 2048, Nat.mod_lt _ (by decide)⟩ d) :
    f = outArr a := by
  funext i
  exact (congrArg f (eq_ix2 (n0 := 16384) (n1 := 2) i)).trans (h (i 0) (i 1))

section Kernel
variable (m : (ℓ : Loc Cert.KernelIdeal.nD Cert.KernelIdeal.τ Cert.KernelIdeal.sig) → Buf (Elt Ideal) ℓ) (c : Dev Cert.KernelIdeal.nD)

/-- Under the precondition the arguments are the reals they convert to. -/
theorem args_of (h : Tame (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) : ArgsAre m c (argOf m c) where
  x b n d := (h.r0 _).1
  w1 _ _ := h.r1 _
  b1 _ := h.r2 _
  g1 _ := h.r3 _
  e1 _ := h.r4 _
  cw _ _ := h.r5 _
  cb _ := h.r6 _
  g2 _ := h.r7 _
  e2 _ := h.r8 _
  dw _ _ := h.r9 _
  db _ := h.r10 _
  g3 _ := h.r11 _
  e3 _ := h.r12 _
  g4 _ := h.r13 _
  e4 _ := rfl
  fw _ _ := rfl
  fb _ := rfl

theorem bound_of (h : Tame (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (b : Fin 8) (n : Fin 2048) (d : Fin 2) : |(argOf m c).x b n d| ≤ 3500 := (h.r0 _).2
theorem scale_of (h : Tame (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (k : Fin 60) : 0 ≤ (argOf m c).g1 k := h.n3 _

/-- The kernel's run: its result is the model's, and its arguments are unchanged. -/
theorem kernel_run (g : Dev Cert.KernelIdeal.nD → PrngReg) (h : ∀ c : Dev Cert.KernelIdeal.nD, Tame (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v81) = outArr (argOf m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run Cert.KernelIdeal.defs _ _).mono
    (fun r hr c => ⟨outArr_ext fun i d => result_at m c (ins_is m c (args_of m c (h c))) (x_is m c (args_of m c (h c))) (scale_of m c (h c)) r hr.1 i d,
      ((hr.1 c).2 Cert.KernelIdeal.main_arg0 (Pipeline.mem_restRefs_of Cert.KernelIdeal.main_arg0 (by decide) (by decide))).trans (Cert.KernelIdeal.Gen.V_main_arg0 m c),
      ((hr.1 c).2 Cert.KernelIdeal.main_arg1 (Pipeline.mem_restRefs_of Cert.KernelIdeal.main_arg1 (by decide) (by decide))).trans (Cert.KernelIdeal.Gen.V_main_arg1 m c),
      ((hr.1 c).2 Cert.KernelIdeal.main_arg2 (Pipeline.mem_restRefs_of Cert.KernelIdeal.main_arg2 (by decide) (by decide))).trans (Cert.KernelIdeal.Gen.V_main_arg2 m c),
      ((hr.1 c).2 Cert.KernelIdeal.main_arg3 (Pipeline.mem_restRefs_of Cert.KernelIdeal.main_arg3 (by decide) (by decide))).trans (Cert.KernelIdeal.Gen.V_main_arg3 m c),
      ((hr.1 c).2 Cert.KernelIdeal.main_arg4 (Pipeline.mem_restRefs_of Cert.KernelIdeal.main_arg4 (by decide) (by decide))).trans (Cert.KernelIdeal.Gen.V_main_arg4 m c),
      ((hr.1 c).2 Cert.KernelIdeal.main_arg5 (Pipeline.mem_restRefs_of Cert.KernelIdeal.main_arg5 (by decide) (by decide))).trans (Cert.KernelIdeal.Gen.V_main_arg5 m c),
      ((hr.1 c).2 Cert.KernelIdeal.main_arg6 (Pipeline.mem_restRefs_of Cert.KernelIdeal.main_arg6 (by decide) (by decide))).trans (Cert.KernelIdeal.Gen.V_main_arg6 m c),
      ((hr.1 c).2 Cert.KernelIdeal.main_arg7 (Pipeline.mem_restRefs_of Cert.KernelIdeal.main_arg7 (by decide) (by decide))).trans (Cert.KernelIdeal.Gen.V_main_arg7 m c),
      ((hr.1 c).2 Cert.KernelIdeal.main_arg8 (Pipeline.mem_restRefs_of Cert.KernelIdeal.main_arg8 (by decide) (by decide))).trans (Cert.KernelIdeal.Gen.V_main_arg8 m c),
      ((hr.1 c).2 Cert.KernelIdeal.main_arg9 (Pipeline.mem_restRefs_of Cert.KernelIdeal.main_arg9 (by decide) (by decide))).trans (Cert.KernelIdeal.Gen.V_main_arg9 m c),
      ((hr.1 c).2 Cert.KernelIdeal.main_arg10 (Pipeline.mem_restRefs_of Cert.KernelIdeal.main_arg10 (by decide) (by decide))).trans (Cert.KernelIdeal.Gen.V_main_arg10 m c),
      ((hr.1 c).2 Cert.KernelIdeal.main_arg11 (Pipeline.mem_restRefs_of Cert.KernelIdeal.main_arg11 (by decide) (by decide))).trans (Cert.KernelIdeal.Gen.V_main_arg11 m c),
      ((hr.1 c).2 Cert.KernelIdeal.main_arg12 (Pipeline.mem_restRefs_of Cert.KernelIdeal.main_arg12 (by decide) (by decide))).trans (Cert.KernelIdeal.Gen.V_main_arg12 m c),
      ((hr.1 c).2 Cert.KernelIdeal.main_arg13 (Pipeline.mem_restRefs_of Cert.KernelIdeal.main_arg13 (by decide) (by decide))).trans (Cert.KernelIdeal.Gen.V_main_arg13 m c),
      ((hr.1 c).2 Cert.KernelIdeal.main_arg14 (Pipeline.mem_restRefs_of Cert.KernelIdeal.main_arg14 (by decide) (by decide))).trans (Cert.KernelIdeal.Gen.V_main_arg14 m c),
      ((hr.1 c).2 Cert.KernelIdeal.main_arg15 (Pipeline.mem_restRefs_of Cert.KernelIdeal.main_arg15 (by decide) (by decide))).trans (Cert.KernelIdeal.Gen.V_main_arg15 m c),
      ((hr.1 c).2 Cert.KernelIdeal.main_arg16 (Pipeline.mem_restRefs_of Cert.KernelIdeal.main_arg16 (by decide) (by decide))).trans (Cert.KernelIdeal.Gen.V_main_arg16 m c)⟩)
    (Cert.KernelIdeal.Hand.run_main (F := Ideal) m g)
end Kernel

section Reference
variable (m : (ℓ : Loc Cert.ReferenceIdeal.nD Cert.ReferenceIdeal.τ Cert.ReferenceIdeal.sig) → Buf (Elt Ideal) ℓ)

/-- The plain program's result, read stage by stage. -/
theorem ref_val {X : Valuation Cert.ReferenceIdeal.τ Cert.ReferenceIdeal.sig (Elt Ideal)} {a : Arg}
    (h : RefIs a (X (Proc.devRef .tc Cert.ReferenceIdeal.main_arg0)) (X (Proc.devRef .tc Cert.ReferenceIdeal.main_arg1)) (X (Proc.devRef .tc Cert.ReferenceIdeal.main_arg2)) (X (Proc.devRef .tc Cert.ReferenceIdeal.main_arg3)) (X (Proc.devRef .tc Cert.ReferenceIdeal.main_arg4)) (X (Proc.devRef .tc Cert.ReferenceIdeal.main_arg5)) (X (Proc.devRef .tc Cert.ReferenceIdeal.main_arg6)) (X (Proc.devRef .tc Cert.ReferenceIdeal.main_arg7)) (X (Proc.devRef .tc Cert.ReferenceIdeal.main_arg8)) (X (Proc.devRef .tc Cert.ReferenceIdeal.main_arg9)) (X (Proc.devRef .tc Cert.ReferenceIdeal.main_arg10)) (X (Proc.devRef .tc Cert.ReferenceIdeal.main_arg11)) (X (Proc.devRef .tc Cert.ReferenceIdeal.main_arg12)) (X (Proc.devRef .tc Cert.ReferenceIdeal.main_arg13)) (X (Proc.devRef .tc Cert.ReferenceIdeal.main_arg14)) (X (Proc.devRef .tc Cert.ReferenceIdeal.main_arg15)) (X (Proc.devRef .tc Cert.ReferenceIdeal.main_arg16)))
    (hb : ∀ b n d, |a.x b n d| ≤ 3500) :
    Cert.ReferenceIdeal.Read.val_main_v255 (F := Ideal) (X (Proc.devRef .tc Cert.ReferenceIdeal.main_arg0)) (X (Proc.devRef .tc Cert.ReferenceIdeal.main_arg1)) (X (Proc.devRef .tc Cert.ReferenceIdeal.main_arg2)) (X (Proc.devRef .tc Cert.ReferenceIdeal.main_arg3)) (X (Proc.devRef .tc Cert.ReferenceIdeal.main_arg4)) (X (Proc.devRef .tc Cert.ReferenceIdeal.main_arg5)) (X (Proc.devRef .tc Cert.ReferenceIdeal.main_arg6)) (X (Proc.devRef .tc Cert.ReferenceIdeal.main_arg7)) (X (Proc.devRef .tc Cert.ReferenceIdeal.main_arg8)) (X (Proc.devRef .tc Cert.ReferenceIdeal.main_arg9)) (X (Proc.devRef .tc Cert.ReferenceIdeal.main_arg10)) (X (Proc.devRef .tc Cert.ReferenceIdeal.main_arg11)) (X (Proc.devRef .tc Cert.ReferenceIdeal.main_arg12)) (X (Proc.devRef .tc Cert.ReferenceIdeal.main_arg13)) (X (Proc.devRef .tc Cert.ReferenceIdeal.main_arg14)) (X (Proc.devRef .tc Cert.ReferenceIdeal.main_arg15)) (X (Proc.devRef .tc Cert.ReferenceIdeal.main_arg16)) = outArr a :=
  outArr_ext (ref_is h hb)

/-- The plain program's run: its result is the model's, and its arguments are unchanged. -/
theorem reference_run (g : Dev Cert.ReferenceIdeal.nD → PrngReg) (a : Dev Cert.ReferenceIdeal.nD → Arg)
    (h : ∀ c : Dev Cert.ReferenceIdeal.nD, RefIs (a c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)))
    (hb : ∀ c b n d, |(a c).x b n d| ≤ 3500) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v255) = outArr (a c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run Cert.ReferenceIdeal.defs _ _).mono
    (fun r hr c => ⟨(hr c).1.trans ((Cert.ReferenceIdeal.Read.val_main_v255_eq (F := Ideal) (launchContents m c)).trans (ref_val (X := launchContents m c) (h c) (hb c))), (hr c).2⟩)
    (Cert.ReferenceIdeal.Value.run (F := Ideal) m g)
end Reference

end Cert.Val
-- ==== Proof.lean ====
module

public import proofs.«01_k».proof.Defs
public import proofs.«01_k».proof.Proof.K.Main
public import proofs.«01_k».proof.Proof.KI.Main
public import proofs.«01_k».proof.Proof.V.Alg
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- The kernel in words runs to the end, leaves its arguments alone and leaves every counter at zero. -/
theorem frame_p : Cert.quiescent_Kernel := fun m ρ _ =>
  (θ_run Cert.Kernel.defs _ _).mono
    (fun r h => ⟨fun c => ⟨((h.1 c).2 Cert.Kernel.main_arg0 (Pipeline.mem_restRefs_of Cert.Kernel.main_arg0 (by decide) (by decide))).trans (Cert.Kernel.Gen.V_main_arg0 m c),
      ((h.1 c).2 Cert.Kernel.main_arg1 (Pipeline.mem_restRefs_of Cert.Kernel.main_arg1 (by decide) (by decide))).trans (Cert.Kernel.Gen.V_main_arg1 m c),
      ((h.1 c).2 Cert.Kernel.main_arg2 (Pipeline.mem_restRefs_of Cert.Kernel.main_arg2 (by decide) (by decide))).trans (Cert.Kernel.Gen.V_main_arg2 m c),
      ((h.1 c).2 Cert.Kernel.main_arg3 (Pipeline.mem_restRefs_of Cert.Kernel.main_arg3 (by decide) (by decide))).trans (Cert.Kernel.Gen.V_main_arg3 m c),
      ((h.1 c).2 Cert.Kernel.main_arg4 (Pipeline.mem_restRefs_of Cert.Kernel.main_arg4 (by decide) (by decide))).trans (Cert.Kernel.Gen.V_main_arg4 m c),
      ((h.1 c).2 Cert.Kernel.main_arg5 (Pipeline.mem_restRefs_of Cert.Kernel.main_arg5 (by decide) (by decide))).trans (Cert.Kernel.Gen.V_main_arg5 m c),
      ((h.1 c).2 Cert.Kernel.main_arg6 (Pipeline.mem_restRefs_of Cert.Kernel.main_arg6 (by decide) (by decide))).trans (Cert.Kernel.Gen.V_main_arg6 m c),
      ((h.1 c).2 Cert.Kernel.main_arg7 (Pipeline.mem_restRefs_of Cert.Kernel.main_arg7 (by decide) (by decide))).trans (Cert.Kernel.Gen.V_main_arg7 m c),
      ((h.1 c).2 Cert.Kernel.main_arg8 (Pipeline.mem_restRefs_of Cert.Kernel.main_arg8 (by decide) (by decide))).trans (Cert.Kernel.Gen.V_main_arg8 m c),
      ((h.1 c).2 Cert.Kernel.main_arg9 (Pipeline.mem_restRefs_of Cert.Kernel.main_arg9 (by decide) (by decide))).trans (Cert.Kernel.Gen.V_main_arg9 m c),
      ((h.1 c).2 Cert.Kernel.main_arg10 (Pipeline.mem_restRefs_of Cert.Kernel.main_arg10 (by decide) (by decide))).trans (Cert.Kernel.Gen.V_main_arg10 m c),
      ((h.1 c).2 Cert.Kernel.main_arg11 (Pipeline.mem_restRefs_of Cert.Kernel.main_arg11 (by decide) (by decide))).trans (Cert.Kernel.Gen.V_main_arg11 m c),
      ((h.1 c).2 Cert.Kernel.main_arg12 (Pipeline.mem_restRefs_of Cert.Kernel.main_arg12 (by decide) (by decide))).trans (Cert.Kernel.Gen.V_main_arg12 m c),
      ((h.1 c).2 Cert.Kernel.main_arg13 (Pipeline.mem_restRefs_of Cert.Kernel.main_arg13 (by decide) (by decide))).trans (Cert.Kernel.Gen.V_main_arg13 m c),
      ((h.1 c).2 Cert.Kernel.main_arg14 (Pipeline.mem_restRefs_of Cert.Kernel.main_arg14 (by decide) (by decide))).trans (Cert.Kernel.Gen.V_main_arg14 m c),
      ((h.1 c).2 Cert.Kernel.main_arg15 (Pipeline.mem_restRefs_of Cert.Kernel.main_arg15 (by decide) (by decide))).trans (Cert.Kernel.Gen.V_main_arg15 m c),
      ((h.1 c).2 Cert.Kernel.main_arg16 (Pipeline.mem_restRefs_of Cert.Kernel.main_arg16 (by decide) (by decide))).trans (Cert.Kernel.Gen.V_main_arg16 m c)⟩, h.2⟩)
    (Cert.Kernel.Hand.run_main (F := Bits) m ρ)

/-- The kernel over the reals does too. -/
theorem frame_pi : Cert.quiescent_KernelIdeal := fun m ρ _ =>
  (θ_run Cert.KernelIdeal.defs _ _).mono
    (fun r h => ⟨fun c => ⟨((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c),
      ((h.1 c).2 Cert.KernelIdeal.main_arg5 (Pipeline.mem_restRefs_of Cert.KernelIdeal.main_arg5 (by decide) (by decide))).trans (Cert.KernelIdeal.Gen.V_main_arg5 m c),
      ((h.1 c).2 Cert.KernelIdeal.main_arg6 (Pipeline.mem_restRefs_of Cert.KernelIdeal.main_arg6 (by decide) (by decide))).trans (Cert.KernelIdeal.Gen.V_main_arg6 m c),
      ((h.1 c).2 Cert.KernelIdeal.main_arg7 (Pipeline.mem_restRefs_of Cert.KernelIdeal.main_arg7 (by decide) (by decide))).trans (Cert.KernelIdeal.Gen.V_main_arg7 m c),
      ((h.1 c).2 Cert.KernelIdeal.main_arg8 (Pipeline.mem_restRefs_of Cert.KernelIdeal.main_arg8 (by decide) (by decide))).trans (Cert.KernelIdeal.Gen.V_main_arg8 m c),
      ((h.1 c).2 Cert.KernelIdeal.main_arg9 (Pipeline.mem_restRefs_of Cert.KernelIdeal.main_arg9 (by decide) (by decide))).trans (Cert.KernelIdeal.Gen.V_main_arg9 m c),
      ((h.1 c).2 Cert.KernelIdeal.main_arg10 (Pipeline.mem_restRefs_of Cert.KernelIdeal.main_arg10 (by decide) (by decide))).trans (Cert.KernelIdeal.Gen.V_main_arg10 m c),
      ((h.1 c).2 Cert.KernelIdeal.main_arg11 (Pipeline.mem_restRefs_of Cert.KernelIdeal.main_arg11 (by decide) (by decide))).trans (Cert.KernelIdeal.Gen.V_main_arg11 m c),
      ((h.1 c).2 Cert.KernelIdeal.main_arg12 (Pipeline.mem_restRefs_of Cert.KernelIdeal.main_arg12 (by decide) (by decide))).trans (Cert.KernelIdeal.Gen.V_main_arg12 m c),
      ((h.1 c).2 Cert.KernelIdeal.main_arg13 (Pipeline.mem_restRefs_of Cert.KernelIdeal.main_arg13 (by decide) (by decide))).trans (Cert.KernelIdeal.Gen.V_main_arg13 m c),
      ((h.1 c).2 Cert.KernelIdeal.main_arg14 (Pipeline.mem_restRefs_of Cert.KernelIdeal.main_arg14 (by decide) (by decide))).trans (Cert.KernelIdeal.Gen.V_main_arg14 m c),
      ((h.1 c).2 Cert.KernelIdeal.main_arg15 (Pipeline.mem_restRefs_of Cert.KernelIdeal.main_arg15 (by decide) (by decide))).trans (Cert.KernelIdeal.Gen.V_main_arg15 m c),
      ((h.1 c).2 Cert.KernelIdeal.main_arg16 (Pipeline.mem_restRefs_of Cert.KernelIdeal.main_arg16 (by decide) (by decide))).trans (Cert.KernelIdeal.Gen.V_main_arg16 m c)⟩, h.2⟩)
    (Cert.KernelIdeal.Hand.run_main (F := Ideal) m ρ)

/-- So does the reference, which has no counters. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the arguments are tame, the kernel over the reals and the reference end with the same array. -/
theorem results : Cert.algebraic_KernelIdeal_ReferenceIdeal_pre_tame (hPre_tame := Cert.Val.tameFacts) := by
  intro m g m' g' hp ha
  have ht := fun c => Cert.Val.tame_of (hp c)
  refine ⟨fun c => Cert.Val.outArr (Cert.Val.argOf m c), Cert.Val.kernel_run m g ht,
    Cert.Val.reference_run m' g' (fun c => Cert.Val.argOf m c) (fun c => ?_) fun c => Cert.Val.bound_of m c (ht c)⟩
  obtain ⟨e0, e1, e2, e3, e4, e5, e6, e7, e8, e9, e10, e11, e12, e13, e14, e15, e16⟩ := ha c
  rw [e0, e1, e2, e3, e4, e5, e6, e7, e8, e9, e10, e11, e12, e13, e14, e15, e16]
  exact Cert.Val.args_of m c (ht c)

/-- The certificate's claim. -/
theorem claim : Cert.Claim :=
  ⟨Cert.Kernel.Gen.facts, Cert.KernelIdeal.Gen.facts, Cert.ReferenceIdeal.Gen.facts, Cert.Val.tameFacts, frame_p, frame_pi,
    fun m ρ _ => frame_pi m ρ trivial, frame_ri, fun m ρ _ => frame_ri m ρ trivial, trivial, results⟩

end Cert.Proof

end
